-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_entries_finite [hPre_entries_finite : Cert.Pre_entries_finite.Facts] (m : (ℓ : Loc Cert.AttnIdeal.nD Cert.AttnIdeal.τ Cert.AttnIdeal.sig) → Buf (Elt Ideal) ℓ) : Prop :=
  ∀ c : Dev Cert.AttnIdeal.nD,
    (Cert.Pre_entries_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_entries_finite [hPre_entries_finite : Cert.Pre_entries_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_entries_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_weights_nonneg [hPre_weights_nonneg : Cert.Pre_weights_nonneg.Facts] (m : (ℓ : Loc Cert.MoeIdeal.nD Cert.MoeIdeal.τ Cert.MoeIdeal.sig) → Buf (Elt Ideal) ℓ) : Prop :=
  ∀ c : Dev Cert.MoeIdeal.nD,
    (Cert.Pre_weights_nonneg.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_weights_nonneg [hPre_weights_nonneg : Cert.Pre_weights_nonneg.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_weights_nonneg.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_HgrnB (m : (ℓ : Loc Cert.HgrnB.nD Cert.HgrnB.τ Cert.HgrnB.sig) → Buf (Elt Bits) ℓ) : Prop :=
  True

def Pre_HgrnBIdeal (m : (ℓ : Loc Cert.HgrnBIdeal.nD Cert.HgrnBIdeal.τ Cert.HgrnBIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_entries_finite [hAttnIdeal : Cert.AttnIdeal.Facts] [hPre_entries_finite : Cert.Pre_entries_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_entries_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_entries_finite [hAttnRefIdeal : Cert.AttnRefIdeal.Facts] [hPre_entries_finite : Cert.Pre_entries_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_entries_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_weights_nonneg [hMoeIdeal : Cert.MoeIdeal.Facts] [hPre_weights_nonneg : Cert.Pre_weights_nonneg.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_weights_nonneg m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_weights_nonneg [hMoeRefIdeal : Cert.MoeRefIdeal.Facts] [hPre_weights_nonneg : Cert.Pre_weights_nonneg.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_weights_nonneg m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1)
      ∧ r.2.mem ((c.tc : Thread Cert.HgrnF.nD Cert.HgrnF.τ).loc Cert.HgrnF.main_arg2) = m ((c.tc : Thread Cert.HgrnF.nD Cert.HgrnF.τ).loc Cert.HgrnF.main_arg2)
      ∧ r.2.mem ((c.tc : Thread Cert.HgrnF.nD Cert.HgrnF.τ).loc Cert.HgrnF.main_arg3) = m ((c.tc : Thread Cert.HgrnF.nD Cert.HgrnF.τ).loc Cert.HgrnF.main_arg3))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2)
      ∧ r.2.mem ((c.tc : Thread Cert.HgrnFIdeal.nD Cert.HgrnFIdeal.τ).loc Cert.HgrnFIdeal.main_arg3) = m ((c.tc : Thread Cert.HgrnFIdeal.nD Cert.HgrnFIdeal.τ).loc Cert.HgrnFIdeal.main_arg3))
      ∧ r.2.sem = fun _ => 0)

def quiescent_HgrnB [hHgrnB : Cert.HgrnB.Facts] : Prop :=
  ∀ (m : (ℓ : Loc Cert.HgrnB.nD Cert.HgrnB.τ Cert.HgrnB.sig) → Buf (Elt Bits) ℓ) (g : Dev Cert.HgrnB.nD → PrngReg), Pre_HgrnB m →
    θ_run (Cert.HgrnB.defs (F := Bits)) (onTc (τ := Cert.HgrnB.τ) (Cert.HgrnB.main (F := Bits))) ⟨m, fun _ => 0, g⟩ (fun r => (∀ c : Dev Cert.HgrnB.nD,
      r.2.mem ((c.tc : Thread Cert.HgrnB.nD Cert.HgrnB.τ).loc Cert.HgrnB.main_arg0) = m ((c.tc : Thread Cert.HgrnB.nD Cert.HgrnB.τ).loc Cert.HgrnB.main_arg0)
      ∧ r.2.mem ((c.tc : Thread Cert.HgrnB.nD Cert.HgrnB.τ).loc Cert.HgrnB.main_arg1) = m ((c.tc : Thread Cert.HgrnB.nD Cert.HgrnB.τ).loc Cert.HgrnB.main_arg1)
      ∧ r.2.mem ((c.tc : Thread Cert.HgrnB.nD Cert.HgrnB.τ).loc Cert.HgrnB.main_arg2) = m ((c.tc : Thread Cert.HgrnB.nD Cert.HgrnB.τ).loc Cert.HgrnB.main_arg2)
      ∧ r.2.mem ((c.tc : Thread Cert.HgrnB.nD Cert.HgrnB.τ).loc Cert.HgrnB.main_arg3) = m ((c.tc : Thread Cert.HgrnB.nD Cert.HgrnB.τ).loc Cert.HgrnB.main_arg3))
      ∧ r.2.sem = fun _ => 0)

def quiescent_HgrnBIdeal [hHgrnBIdeal : Cert.HgrnBIdeal.Facts] : Prop :=
  ∀ (m : (ℓ : Loc Cert.HgrnBIdeal.nD Cert.HgrnBIdeal.τ Cert.HgrnBIdeal.sig) → Buf (Elt Ideal) ℓ) (g : Dev Cert.HgrnBIdeal.nD → PrngReg), Pre_HgrnBIdeal m →
    θ_run (Cert.HgrnBIdeal.defs (F := Ideal)) (onTc (τ := Cert.HgrnBIdeal.τ) (Cert.HgrnBIdeal.main (F := Ideal))) ⟨m, fun _ => 0, g⟩ (fun r => (∀ c : Dev Cert.HgrnBIdeal.nD,
      r.2.mem ((c.tc : Thread Cert.HgrnBIdeal.nD Cert.HgrnBIdeal.τ).loc Cert.HgrnBIdeal.main_arg0) = m ((c.tc : Thread Cert.HgrnBIdeal.nD Cert.HgrnBIdeal.τ).loc Cert.HgrnBIdeal.main_arg0)
      ∧ r.2.mem ((c.tc : Thread Cert.HgrnBIdeal.nD Cert.HgrnBIdeal.τ).loc Cert.HgrnBIdeal.main_arg1) = m ((c.tc : Thread Cert.HgrnBIdeal.nD Cert.HgrnBIdeal.τ).loc Cert.HgrnBIdeal.main_arg1)
      ∧ r.2.mem ((c.tc : Thread Cert.HgrnBIdeal.nD Cert.HgrnBIdeal.τ).loc Cert.HgrnBIdeal.main_arg2) = m ((c.tc : Thread Cert.HgrnBIdeal.nD Cert.HgrnBIdeal.τ).loc Cert.HgrnBIdeal.main_arg2)
      ∧ r.2.mem ((c.tc : Thread Cert.HgrnBIdeal.nD Cert.HgrnBIdeal.τ).loc Cert.HgrnBIdeal.main_arg3) = m ((c.tc : Thread Cert.HgrnBIdeal.nD Cert.HgrnBIdeal.τ).loc Cert.HgrnBIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def preserves_Attn_AttnIdeal : Prop :=
  True

def algebraic_AttnIdeal_AttnRefIdeal_pre_entries_finite [hAttnIdeal : Cert.AttnIdeal.Facts] [hAttnRefIdeal : Cert.AttnRefIdeal.Facts] [hPre_entries_finite : Cert.Pre_entries_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_entries_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v44_0)) (v1 : (c : Dev Cert.PrepIdeal.nD) → Buf (Elt Ideal) ((c.tc : Thread Cert.PrepIdeal.nD Cert.PrepIdeal.τ).loc Cert.PrepIdeal.main_v44_1)) (v2 : (c : Dev Cert.PrepIdeal.nD) → Buf (Elt Ideal) ((c.tc : Thread Cert.PrepIdeal.nD Cert.PrepIdeal.τ).loc Cert.PrepIdeal.main_v44_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v44_0) = v0 c
          ∧ r.2.mem ((c.tc : Thread Cert.PrepIdeal.nD Cert.PrepIdeal.τ).loc Cert.PrepIdeal.main_v44_1) = v1 c
          ∧ r.2.mem ((c.tc : Thread Cert.PrepIdeal.nD Cert.PrepIdeal.τ).loc Cert.PrepIdeal.main_v44_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v67) = v0 c
          ∧ r.2.mem ((c.tc : Thread Cert.PrepRefIdeal.nD Cert.PrepRefIdeal.τ).loc Cert.PrepRefIdeal.main_v68) = v1 c
          ∧ r.2.mem ((c.tc : Thread Cert.PrepRefIdeal.nD Cert.PrepRefIdeal.τ).loc Cert.PrepRefIdeal.main_v69) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v71) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v20_0)) (v1 : (c : Dev Cert.MergeIdeal.nD) → Buf (Elt Ideal) ((c.tc : Thread Cert.MergeIdeal.nD Cert.MergeIdeal.τ).loc Cert.MergeIdeal.main_v20_1)) (v2 : (c : Dev Cert.MergeIdeal.nD) → Buf (Elt Ideal) ((c.tc : Thread Cert.MergeIdeal.nD Cert.MergeIdeal.τ).loc Cert.MergeIdeal.main_v20_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20_0) = v0 c
          ∧ r.2.mem ((c.tc : Thread Cert.MergeIdeal.nD Cert.MergeIdeal.τ).loc Cert.MergeIdeal.main_v20_1) = v1 c
          ∧ r.2.mem ((c.tc : Thread Cert.MergeIdeal.nD Cert.MergeIdeal.τ).loc Cert.MergeIdeal.main_v20_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v192) = v0 c
          ∧ r.2.mem ((c.tc : Thread Cert.MergeRefIdeal.nD Cert.MergeRefIdeal.τ).loc Cert.MergeRefIdeal.main_v193) = v1 c
          ∧ r.2.mem ((c.tc : Thread Cert.MergeRefIdeal.nD Cert.MergeRefIdeal.τ).loc Cert.MergeRefIdeal.main_v191) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Moe_MoeIdeal : Prop :=
  True

def algebraic_MoeIdeal_MoeRefIdeal_pre_weights_nonneg [hMoeIdeal : Cert.MoeIdeal.Facts] [hMoeRefIdeal : Cert.MoeRefIdeal.Facts] [hPre_weights_nonneg : Cert.Pre_weights_nonneg.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_weights_nonneg m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v22)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v22) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v20) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v10)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v10) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v79) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v10) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)) →
    ∃ (v0 : (c : Dev Cert.FourierIdeal.nD) → Buf (Elt Ideal) ((c.tc : Thread Cert.FourierIdeal.nD Cert.FourierIdeal.τ).loc Cert.FourierIdeal.main_v62)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v62) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v87) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0))

def preserves_HgrnF_HgrnFIdeal : Prop :=
  True

def preserves_HgrnB_HgrnBIdeal : Prop :=
  True

def preserves_Router_RouterIdeal : Prop :=
  True

def Claim : Prop :=
  ∃ (hAttn : Cert.Attn.Facts) (hAttnIdeal : Cert.AttnIdeal.Facts) (hAttnRefIdeal : Cert.AttnRefIdeal.Facts) (hPrep : Cert.Prep.Facts) (hPrepIdeal : Cert.PrepIdeal.Facts) (hPrepRefIdeal : Cert.PrepRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hFinal : Cert.Final.Facts) (hFinalIdeal : Cert.FinalIdeal.Facts) (hFinalRefIdeal : Cert.FinalRefIdeal.Facts) (hAda : Cert.Ada.Facts) (hAdaIdeal : Cert.AdaIdeal.Facts) (hAdaRefIdeal : Cert.AdaRefIdeal.Facts) (hFourier : Cert.Fourier.Facts) (hFourierIdeal : Cert.FourierIdeal.Facts) (hFourierRefIdeal : Cert.FourierRefIdeal.Facts) (hHgrnF : Cert.HgrnF.Facts) (hHgrnFIdeal : Cert.HgrnFIdeal.Facts) (hHgrnB : Cert.HgrnB.Facts) (hHgrnBIdeal : Cert.HgrnBIdeal.Facts) (hRouter : Cert.Router.Facts) (hRouterIdeal : Cert.RouterIdeal.Facts) (hPre_entries_finite : Cert.Pre_entries_finite.Facts) (hPre_weights_nonneg : Cert.Pre_weights_nonneg.Facts),
    quiescent_Attn (hAttn := hAttn)
    ∧ quiescent_AttnIdeal (hAttnIdeal := hAttnIdeal)
    ∧ quiescent_AttnIdeal_pre_entries_finite (hAttnIdeal := hAttnIdeal) (hPre_entries_finite := hPre_entries_finite)
    ∧ quiescent_AttnRefIdeal (hAttnRefIdeal := hAttnRefIdeal)
    ∧ quiescent_AttnRefIdeal_pre_entries_finite (hAttnRefIdeal := hAttnRefIdeal) (hPre_entries_finite := hPre_entries_finite)
    ∧ quiescent_Prep (hPrep := hPrep)
    ∧ quiescent_PrepIdeal (hPrepIdeal := hPrepIdeal)
    ∧ quiescent_PrepRefIdeal (hPrepRefIdeal := hPrepRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Moe (hMoe := hMoe)
    ∧ quiescent_MoeIdeal (hMoeIdeal := hMoeIdeal)
    ∧ quiescent_MoeIdeal_pre_weights_nonneg (hMoeIdeal := hMoeIdeal) (hPre_weights_nonneg := hPre_weights_nonneg)
    ∧ quiescent_MoeRefIdeal (hMoeRefIdeal := hMoeRefIdeal)
    ∧ quiescent_MoeRefIdeal_pre_weights_nonneg (hMoeRefIdeal := hMoeRefIdeal) (hPre_weights_nonneg := hPre_weights_nonneg)
    ∧ quiescent_Final (hFinal := hFinal)
    ∧ quiescent_FinalIdeal (hFinalIdeal := hFinalIdeal)
    ∧ quiescent_FinalRefIdeal (hFinalRefIdeal := hFinalRefIdeal)
    ∧ quiescent_Ada (hAda := hAda)
    ∧ quiescent_AdaIdeal (hAdaIdeal := hAdaIdeal)
    ∧ quiescent_AdaRefIdeal (hAdaRefIdeal := hAdaRefIdeal)
    ∧ quiescent_Fourier (hFourier := hFourier)
    ∧ quiescent_FourierIdeal (hFourierIdeal := hFourierIdeal)
    ∧ quiescent_FourierRefIdeal (hFourierRefIdeal := hFourierRefIdeal)
    ∧ quiescent_HgrnF (hHgrnF := hHgrnF)
    ∧ quiescent_HgrnFIdeal (hHgrnFIdeal := hHgrnFIdeal)
    ∧ quiescent_HgrnB (hHgrnB := hHgrnB)
    ∧ quiescent_HgrnBIdeal (hHgrnBIdeal := hHgrnBIdeal)
    ∧ quiescent_Router (hRouter := hRouter)
    ∧ quiescent_RouterIdeal (hRouterIdeal := hRouterIdeal)
    ∧ preserves_Attn_AttnIdeal
    ∧ algebraic_AttnIdeal_AttnRefIdeal_pre_entries_finite (hAttnIdeal := hAttnIdeal) (hAttnRefIdeal := hAttnRefIdeal) (hPre_entries_finite := hPre_entries_finite)
    ∧ preserves_Prep_PrepIdeal
    ∧ algebraic_PrepIdeal_PrepRefIdeal (hPrepIdeal := hPrepIdeal) (hPrepRefIdeal := hPrepRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Moe_MoeIdeal
    ∧ algebraic_MoeIdeal_MoeRefIdeal_pre_weights_nonneg (hMoeIdeal := hMoeIdeal) (hMoeRefIdeal := hMoeRefIdeal) (hPre_weights_nonneg := hPre_weights_nonneg)
    ∧ preserves_Final_FinalIdeal
    ∧ algebraic_FinalIdeal_FinalRefIdeal (hFinalIdeal := hFinalIdeal) (hFinalRefIdeal := hFinalRefIdeal)
    ∧ preserves_Ada_AdaIdeal
    ∧ algebraic_AdaIdeal_AdaRefIdeal (hAdaIdeal := hAdaIdeal) (hAdaRefIdeal := hAdaRefIdeal)
    ∧ preserves_Fourier_FourierIdeal
    ∧ algebraic_FourierIdeal_FourierRefIdeal (hFourierIdeal := hFourierIdeal) (hFourierRefIdeal := hFourierRefIdeal)
    ∧ preserves_HgrnF_HgrnFIdeal
    ∧ preserves_HgrnB_HgrnBIdeal
    ∧ preserves_Router_RouterIdeal
-- ==== Pre_entries_finite.lean ====
abbrev S16x2304x512 : Shape := ⟨3, ![16, 2304, 512]⟩
abbrev S4x64 : Shape := ⟨2, ![4, 64]⟩
abbrev S1 : Shape := ⟨1, ![1]⟩
abbrev S_ : Shape := ⟨0, ![]⟩

class Facts : Prop where
  bitsLt_bf16_f32 : FTy.bits .bf16 < FTy.bits .f32
  bcast_S_S16x2304x512 : S_.BroadcastsInDim S16x2304x512 (![] : Fin 0 → Fin S16x2304x512.rank)
  reducesTo_S16x2304x512_S_d0_1_2 : S16x2304x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  let main_v22 : FVec F S1 .f32 := Host.absf main_arg4
  let main_cst_6 : FVec F S_ .f32 := constant S_ .f32 0x7F800000#32
  let main_v23 : FVec F S1 .f32 := broadcastInDim S1 ![] bcast_S_S1 main_cst_6
  let main_v24 : IVec S1 1 := cmpf .olt main_v22 main_v23
  let main_c_7 : IVec S_ 1 := constantI S_ 1 1#1
  let main_v25 : IVec S_ 1 := (fun x v => Host.reduce IntOp.andi x v reducesTo_S1_S_d0 h_S_) main_v24 main_c_7
  let main_v26 : IVec S_ 1 := andi main_v21 main_v25
  main_v26

def fn {F : FTy → Type} [FloatOps F] (main_arg0 : FVec F S16x2304x512 .bf16) (main_arg1 : FVec F S16x2304x512 .bf16) (main_arg2 : FVec F S16x2304x512 .bf16) (main_arg3 : FVec F S4x64 .f32) (main_arg4 : FVec F S1 .f32) : IVec S_ 1 :=
  let main_v0 : FVec F S16x2304x512 .f32 := (extf .f32 · bitsLt_bf16_f32) main_arg0
  let main_v1 : FVec F S16x2304x512 .f32 := Host.absf main_v0
  let main_cst : FVec F S_ .f32 := constant S_ .f32 0x7F800000#32
  let main_v2 : FVec F S16x2304x512 .f32 := broadcastInDim S16x2304x512 ![] bcast_S_S16x2304x512 main_cst
  let main_v3 : IVec S16x2304x512 1 := cmpf .olt main_v1 main_v2
  let main_c : IVec S_ 1 := constantI S_ 1 1#1
  let main_v4 : IVec S_ 1 := (fun x v => Host.reduce IntOp.andi x v reducesTo_S16x2304x512_S_d0_1_2 h_S_) main_v3 main_c
  let main_v5 : FVec F S16x2304x512 .f32 := (extf .f32 · bitsLt_bf16_f32) main_arg1
  let main_v6 : FVec F S16x2304x512 .f32 := Host.absf main_v5
  let main_cst_0 : FVec F S_ .f32 := constant S_ .f32 0x7F800000#32
  let main_v7 : FVec F S16x2304x512 .f32 := broadcastInDim S16x2304x512 ![] bcast_S_S16x2304x512 main_cst_0
  let main_v8 : IVec S16x2304x512 1 := cmpf .olt main_v6 main_v7
  let main_c_1 : IVec S_ 1 := constantI S_ 1 1#1
  let main_v9 : IVec S_ 1 := (fun x v => Host.reduce IntOp.andi x v reducesTo_S16x2304x512_S_d0_1_2 h_S_) main_v8 main_c_1
  let main_v10 : IVec S_ 1 := andi main_v4 main_v9
  let main_v11 : FVec F S16x2304x512 .f32 := (extf .f32 · bitsLt_bf16_f32) main_arg2
  let main_v12 : FVec F S16x2304x512 .f32 := Host.absf main_v11
  let main_cst_2 : FVec F S_ .f32 := constant S_ .f32 0x7F800000#32
  let main_v13 : FVec F S16x2304x512 .f32 := broadcastInDim S16x2304x512 ![] bcast_S_S16x2304x512 main_cst_2
  let main_v14 : IVec S16x2304x512 1 := cmpf .olt main_v12 main_v13
  let main_c_3 : IVec S_ 1 := constantI S_ 1 1#1
  let main_v15 : IVec S_ 1 := (fun x v => Host.reduce IntOp.andi x v reducesTo_S16x2304x512_S_d0_1_2 h_S_) main_v14 main_c_3
  let main_v16 : IVec S_ 1 := andi main_v10 main_v15
  let main_v17 : FVec F S4x64 .f32 := Host.absf main_arg3
  fn_part1 (F := F) main_arg4 main_v16 main_v17
-- ==== Pre_weights_nonneg.lean ====
abbrev S36864x1024 : Shape := ⟨2, ![36864, 1024]⟩
abbrev S64x36864 : Shape := ⟨2, ![64, 36864]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S_ : Shape := ⟨0, ![]⟩

class Facts : Prop where
  bcast_S_S64x36864 : S_.BroadcastsInDim S64x36864 (![] : Fin 0 → Fin S64x36864.rank)
  reducesTo_S64x36864_S_d0_1 : S64x36864.ReducesTo [0, 1] S_
  h_S_ : 0 < S_.numel

variable [Facts]

def fn {F : FTy → Type} [FloatOps F] (main_arg0 : FVec F S36864x1024 .bf16) (main_arg1 : FVec F S64x36864 .f32) (main_arg2 : FVec F S64x1024x256 .f32) (main_arg3 : FVec F S64x1024x256 .f32) (main_arg4 : FVec F S64x256x1024 .f32) (main_arg5 : FVec F S1024x256 .f32) (main_arg6 : FVec F S1024x256 .f32) (main_arg7 : FVec F S256x1024 .f32) : IVec S_ 1 :=
  let main_cst : FVec F S_ .f32 := constant S_ .f32 0x00000000#32
  let main_v0 : FVec F S64x36864 .f32 := broadcastInDim S64x36864 ![] bcast_S_S64x36864 main_cst
  let main_v1 : IVec S64x36864 1 := cmpf .oge main_arg1 main_v0
  let main_cst_0 : FVec F S_ .f32 := constant S_ .f32 0x7F800000#32
  let main_v2 : FVec F S64x36864 .f32 := broadcastInDim S64x36864 ![] bcast_S_S64x36864 main_cst_0
  let main_v3 : IVec S64x36864 1 := cmpf .olt main_arg1 main_v2
  let main_v4 : IVec S64x36864 1 := andi main_v1 main_v3
  let main_c : IVec S_ 1 := constantI S_ 1 1#1
  let main_v5 : IVec S_ 1 := (fun x v => Host.reduce IntOp.andi x v reducesTo_S64x36864_S_d0_1 h_S_) main_v4 main_c
  main_v5
-- ==== Attn.lean ====
abbrev S16x2304x512 : Shape := ⟨3, ![16, 2304, 512]⟩
abbrev S4x64 : Shape := ⟨2, ![4, 64]⟩
abbrev S1 : Shape := ⟨1, ![1]⟩
abbrev S1x64 : Shape := ⟨2, ![1, 64]⟩
abbrev S64 : Shape := ⟨1, ![64]⟩
abbrev S_ : Shape := ⟨0, ![]⟩
abbrev S8x128 : Shape := ⟨2, ![8, 128]⟩
abbrev S1x256x128 : Shape := ⟨3, ![1, 256, 128]⟩
abbrev S1x2304x128 : Shape := ⟨3, ![1, 2304, 128]⟩
abbrev S1x1 : Shape := ⟨2, ![1, 1]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S2304x128 : Shape := ⟨2, ![2304, 128]⟩
abbrev S256x2304 : Shape := ⟨2, ![256, 2304]⟩

abbrev nBuf : Space → Nat
  | .hbm => 26
  | .vmem => 9
  | .smem => 0
  | _ => 0

abbrev bufTy : (tb : Table) → Fin (tcTables nBuf tb) → BufTy
  | .hbm, ⟨0, _⟩ => ⟨S16x2304x512, .bf16⟩
  | .hbm, ⟨1, _⟩ => ⟨S16x2304x512, .bf16⟩
  | .hbm, ⟨2, _⟩ => ⟨S16x2304x512, .bf16⟩
  | .hbm, ⟨3, _⟩ => ⟨S4x64, .f32⟩
  | .hbm, ⟨4, _⟩ => ⟨S1, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x128, .f32⟩
  | .hbm, ⟨25, _⟩ => ⟨S16x2304x512, .f32⟩
  | .local _ .vmem, ⟨0, _⟩ => ⟨S1x256x128, .bf16⟩
  | .local _ .vmem, ⟨1, _⟩ => ⟨S1x256x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S8x128, .f32⟩
  | .local _ .vmem, ⟨7, _⟩ => ⟨S1x256x128, .f32⟩
  | .local _ .vmem, ⟨8, _⟩ => ⟨S1x256x128, .f32⟩
  | _, _ => ⟨S16x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 9], ![false, false, false]⟩

def k0_cond1 (i : grid0.Coords) : BitVec 1 :=
  let arg2 : BitVec 32 := BitVec.ofNat 32 (i 2).val
  let c1_i32 : BitVec 32 := 1#32
  let v2 : BitVec 1 := Scalar.cmpi .slt arg2 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg2 : BitVec 32 := BitVec.ofNat 32 (i 2).val
  let c1_i32 : BitVec 32 := 1#32
  let v2 : BitVec 1 := Scalar.cmpi .slt arg2 c1_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S16x2304x512 : Shape := ⟨3, ![16, 2304, 512]⟩
abbrev S4x64 : Shape := ⟨2, ![4, 64]⟩
abbrev S1 : Shape := ⟨1, ![1]⟩
abbrev S1x64 : Shape := ⟨2, ![1, 64]⟩
abbrev S64 : Shape := ⟨1, ![64]⟩
abbrev S_ : Shape := ⟨0, ![]⟩
abbrev S16x2304x4x2x64 : Shape := ⟨5, ![16, 2304, 4, 2, 64]⟩
abbrev S16x2304x4x128 : Shape := ⟨4, ![16, 2304, 4, 128]⟩
abbrev S16x256x4x2x64 : Shape := ⟨5, ![16, 256, 4, 2, 64]⟩
abbrev S16x256x4x128 : Shape := ⟨4, ![16, 256, 4, 128]⟩
abbrev S16x4x2x256x256 : Shape := ⟨5, ![16, 4, 2, 256, 256]⟩
abbrev S16x4x2x256 : Shape := ⟨4, ![16, 4, 2, 256]⟩
abbrev S16x4x2x256x1 : Shape := ⟨5, ![16, 4, 2, 256, 1]⟩
abbrev S16x4x1x256x256 : Shape := ⟨5, ![16, 4, 1, 256, 256]⟩
abbrev S16x4x256x256 : Shape := ⟨4, ![16, 4, 256, 256]⟩
abbrev S16x4x128x256 : Shape := ⟨4, ![16, 4, 128, 256]⟩
abbrev S16x2048x4x2x64 : Shape := ⟨5, ![16, 2048, 4, 2, 64]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x128x2048 : Shape := ⟨4, ![16, 4, 128, 2048]⟩
abbrev S16x2048x4x128 : Shape := ⟨4, ![16, 2048, 4, 128]⟩

abbrev nBuf : Space → Nat
  | .hbm => 84
  | .vmem => 0
  | .smem => 0
  | _ => 0

abbrev bufTy : (tb : Table) → Fin (tcTables nBuf tb) → BufTy
  | .hbm, ⟨0, _⟩ => ⟨S16x2304x512, .bf16⟩
  | .hbm, ⟨1, _⟩ => ⟨S16x2304x512, .bf16⟩
  | .hbm, ⟨2, _⟩ => ⟨S16x2304x512, .bf16⟩
  | .hbm, ⟨3, _⟩ => ⟨S4x64, .f32⟩
  | .hbm, ⟨4, _⟩ => ⟨S1, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x2304x512, .f32⟩
  | .hbm, ⟨25, _⟩ => ⟨S16x2304x4x2x64, .f32⟩
  | .hbm, ⟨26, _⟩ => ⟨S16x2304x512, .f32⟩
  | .hbm, ⟨27, _⟩ => ⟨S16x2304x4x2x64, .f32⟩
  | .hbm, ⟨28, _⟩ => ⟨S16x2304x512, .f32⟩
  | .hbm, ⟨29, _⟩ => ⟨S16x2304x4x128, .f32⟩
  | .hbm, ⟨30, _⟩ => ⟨S16x256x4x2x64, .f32⟩
  | .hbm, ⟨31, _⟩ => ⟨S16x256x4x2x64, .f32⟩
  | .hbm, ⟨32, _⟩ => ⟨S16x256x4x128, .f32⟩
  | .hbm, ⟨33, _⟩ => ⟨S16x4x2x256x256, .f32⟩
  | .hbm, ⟨34, _⟩ => ⟨S_, .f32⟩
  | .hbm, ⟨35, _⟩ => ⟨S16x4x2x256, .f32⟩
  | .hbm, ⟨36, _⟩ => ⟨S_, .f32⟩
  | .hbm, ⟨37, _⟩ => ⟨S16x4x2x256, .f32⟩
  | .hbm, ⟨38, _⟩ => ⟨S16x4x2x256, .f32⟩
  | .hbm, ⟨39, _⟩ => ⟨S16x4x2x256x1, .f32⟩
  | .hbm, ⟨40, _⟩ => ⟨S16x4x2x256x256, .f32⟩
  | .hbm, ⟨41, _⟩ => ⟨S16x4x2x256x256, .f32⟩
  | .hbm, ⟨42, _⟩ => ⟨S16x4x2x256x256, .f32⟩
  | .hbm, ⟨43, _⟩ => ⟨S_, .f32⟩
  | .hbm, ⟨44, _⟩ => ⟨S16x4x2x256, .f32⟩
  | .hbm, ⟨45, _⟩ => ⟨S16x4x2x256x1, .f32⟩
  | .hbm, ⟨46, _⟩ => ⟨S16x4x2x256x256, .f32⟩
  | .hbm, ⟨47, _⟩ => ⟨S16x4x2x256x256, .f32⟩
  | .hbm, ⟨48, _⟩ => ⟨S16x4x1x256x256, .f32⟩
  | .hbm, ⟨49, _⟩ => ⟨S16x4x256x256, .f32⟩
  | .hbm, ⟨50, _⟩ => ⟨S16x4x1x256x256, .f32⟩
  | .hbm, ⟨51, _⟩ => ⟨S16x4x256x256, .f32⟩
  | .hbm, ⟨52, _⟩ => ⟨S16x4x256x256, .f32⟩
  | .hbm, ⟨53, _⟩ => ⟨S16x4x256x256, .f32⟩
  | .hbm, ⟨54, _⟩ => ⟨S16x4x256x256, .f32⟩
  | .hbm, ⟨55, _⟩ => ⟨S16x4x128x256, .f32⟩
  | .hbm, ⟨56, _⟩ => ⟨S16x256x4x128, .f32⟩
  | .hbm, ⟨57, _⟩ => ⟨S16x2048x4x2x64, .f32⟩
  | .hbm, ⟨58, _⟩ => ⟨S16x4x2x2048x2304, .f32⟩
  | .hbm, ⟨59, _⟩ => ⟨S_, .f32⟩
  | .hbm, ⟨60, _⟩ => ⟨S16x4x2x2048, .f32⟩
  | .hbm, ⟨61, _⟩ => ⟨S_, .f32⟩
  | .hbm, ⟨62, _⟩ => ⟨S16x4x2x2048, .f32⟩
  | .hbm, ⟨63, _⟩ => ⟨S16x4x2x2048, .f32⟩
  | .hbm, ⟨64, _⟩ => ⟨S16x4x2x2048x1, .f32⟩
  | .hbm, ⟨65, _⟩ => ⟨S16x4x2x2048x2304, .f32⟩
  | .hbm, ⟨66, _⟩ => ⟨S16x4x2x2048x2304, .f32⟩
  | .hbm, ⟨67, _⟩ => ⟨S16x4x2x2048x2304, .f32⟩
  | .hbm, ⟨68, _⟩ => ⟨S_, .f32⟩
  | .hbm, ⟨69, _⟩ => ⟨S16x4x2x2048, .f32⟩
  | .hbm, ⟨70, _⟩ => ⟨S16x4x2x2048x1, .f32⟩
  | .hbm, ⟨71, _⟩ => ⟨S16x4x2x2048x2304, .f32⟩
  | .hbm, ⟨72, _⟩ => ⟨S16x4x2x2048x2304, .f32⟩
  | .hbm, ⟨73, _⟩ => ⟨S16x4x1x2048x2304, .f32⟩
  | .hbm, ⟨74, _⟩ => ⟨S16x4x2048x2304, .f32⟩
  | .hbm, ⟨75, _⟩ => ⟨S16x4x1x2048x2304, .f32⟩
  | .hbm, ⟨76, _⟩ => ⟨S16x4x2048x2304, .f32⟩
  | .hbm, ⟨77, _⟩ => ⟨S16x4x2048x2304, .f32⟩
  | .hbm, ⟨78, _⟩ => ⟨S16x4x2048x2304, .f32⟩
  | .hbm, ⟨79, _⟩ => ⟨S16x4x2048x2304, .f32⟩
  | .hbm, ⟨80, _⟩ => ⟨S16x4x128x2048, .f32⟩
  | .hbm, ⟨81, _⟩ => ⟨S16x2048x4x128, .f32⟩
  | .hbm, ⟨82, _⟩ => ⟨S16x2304x4x128, .f32⟩
  | .hbm, ⟨83, _⟩ => ⟨S16x2304x512, .f32⟩
  | _, _ => ⟨S16x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Prep.lean ====
abbrev S16x2304x7680 : Shape := ⟨3, ![16, 2304, 7680]⟩
abbrev S32 : Shape := ⟨1, ![32]⟩
abbrev S32x64 : Shape := ⟨2, ![32, 64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S256x128 : Shape := ⟨2, ![256, 128]⟩
abbrev S2304x128 : Shape := ⟨2, ![2304, 128]⟩
abbrev S16x2304x512 : Shape := ⟨3, ![16, 2304, 512]⟩
abbrev S1x256x512 : Shape := ⟨3, ![1, 256, 512]⟩
abbrev S1x256x128 : Shape := ⟨3, ![1, 256, 128]⟩
abbrev S256x512 : Shape := ⟨2, ![256, 512]⟩

abbrev nBuf : Space → Nat
  | .hbm => 78
  | .vmem => 16
  | .smem => 0
  | _ => 0

abbrev bufTy : (tb : Table) → Fin (tcTables nBuf tb) → BufTy
  | .hbm, ⟨0, _⟩ => ⟨S16x2304x7680, .f32⟩
  | .hbm, ⟨1, _⟩ => ⟨S32, .f32⟩
  | .hbm, ⟨2, _⟩ => ⟨S32x64, .f32⟩
  | .hbm, ⟨3, _⟩ => ⟨S2048, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S_, .i1⟩
  | .hbm, ⟨21, _⟩ => ⟨S2048, .i1⟩
  | .hbm, ⟨22, _⟩ => ⟨S2048, .i1⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x32, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S64, .i32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S1x2048x1x64, .f32⟩
  | .hbm, ⟨61, _⟩ => ⟨S1x2048x2x64, .f32⟩
  | .hbm, ⟨62, _⟩ => ⟨S2048x128, .f32⟩
  | .hbm, ⟨63, _⟩ => ⟨S1x64, .f32⟩
  | .hbm, ⟨64, _⟩ => ⟨S2048x64, .f32⟩
  | .hbm, ⟨65, _⟩ => ⟨S2048x64, .f32⟩
  | .hbm, ⟨66, _⟩ => ⟨S1x2048x1x64, .f32⟩
  | .hbm, ⟨67, _⟩ => ⟨S1x2048x2x64, .f32⟩
  | .hbm, ⟨68, _⟩ => ⟨S2048x128, .f32⟩
  | .hbm, ⟨69, _⟩ => ⟨S_, .f32⟩
  | .hbm, ⟨70, _⟩ => ⟨S256x128, .f32⟩
  | .hbm, ⟨71, _⟩ => ⟨S2304x128, .f32⟩
  | .hbm, ⟨72, _⟩ => ⟨S_, .f32⟩
  | .hbm, ⟨73, _⟩ => ⟨S256x128, .f32⟩
  | .hbm, ⟨74, _⟩ => ⟨S2304x128, .f32⟩
  | .hbm, ⟨75, _⟩ => ⟨S16x2304x512, .bf16⟩
  | .hbm, ⟨76, _⟩ => ⟨S16x2304x512, .bf16⟩
  | .hbm, ⟨77, _⟩ => ⟨S16x2304x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | _, _ => ⟨S16x2304x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_1 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44_0 : Ref sig .tc := ⟨.hbm, 75, rfl⟩
abbrev main_v44_1 : Ref sig .tc := ⟨.hbm, 76, rfl⟩
abbrev main_v44_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PrepRefIdeal.lean ====
abbrev S16x2304x7680 : Shape := ⟨3, ![16, 2304, 7680]⟩
abbrev S32 : Shape := ⟨1, ![32]⟩
abbrev S32x64 : Shape := ⟨2, ![32, 64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S16x2304x512 : Shape := ⟨3, ![16, 2304, 512]⟩
abbrev S16x2304x4x2x64 : Shape := ⟨5, ![16, 2304, 4, 2, 64]⟩
abbrev S16x256x4x2x64 : Shape := ⟨5, ![16, 256, 4, 2, 64]⟩
abbrev S16x2048x4x2x64 : Shape := ⟨5, ![16, 2048, 4, 2, 64]⟩
abbrev S16x2048x4x2x32 : Shape := ⟨5, ![16, 2048, 4, 2, 32]⟩
abbrev S2048x1x1x64 : Shape := ⟨4, ![2048, 1, 1, 64]⟩
abbrev S1x2048x1x1x64 : Shape := ⟨5, ![1, 2048, 1, 1, 64]⟩

abbrev nBuf : Space → Nat
  | .hbm => 95
  | .vmem => 0
  | .smem => 0
  | _ => 0

abbrev bufTy : (tb : Table) → Fin (tcTables nBuf tb) → BufTy
  | .hbm, ⟨0, _⟩ => ⟨S16x2304x7680, .f32⟩
  | .hbm, ⟨1, _⟩ => ⟨S32, .f32⟩
  | .hbm, ⟨2, _⟩ => ⟨S32x64, .f32⟩
  | .hbm, ⟨3, _⟩ => ⟨S2048, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S_, .i1⟩
  | .hbm, ⟨21, _⟩ => ⟨S2048, .i1⟩
  | .hbm, ⟨22, _⟩ => ⟨S2048, .i1⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x32, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S16x2304x512, .f32⟩
  | .hbm, ⟨51, _⟩ => ⟨S16x2304x512, .f32⟩
  | .hbm, ⟨52, _⟩ => ⟨S16x2304x512, .f32⟩
  | .hbm, ⟨53, _⟩ => ⟨S16x2304x4x2x64, .f32⟩
  | .hbm, ⟨54, _⟩ => ⟨S16x256x4x2x64, .f32⟩
  | .hbm, ⟨55, _⟩ => ⟨S16x2048x4x2x64, .f32⟩
  | .hbm, ⟨56, _⟩ => ⟨S16x2048x4x2x32, .f32⟩
  | .hbm, ⟨57, _⟩ => ⟨S16x2048x4x2x32, .f32⟩
  | .hbm, ⟨58, _⟩ => ⟨S16x2048x4x2x32, .f32⟩
  | .hbm, ⟨59, _⟩ => ⟨S16x2048x4x2x64, .f32⟩
  | .hbm, ⟨60, _⟩ => ⟨S2048x1x1x64, .f32⟩
  | .hbm, ⟨61, _⟩ => ⟨S1x2048x1x1x64, .f32⟩
  | .hbm, ⟨62, _⟩ => ⟨S16x2048x4x2x64, .f32⟩
  | .hbm, ⟨63, _⟩ => ⟨S16x2048x4x2x64, .f32⟩
  | .hbm, ⟨64, _⟩ => ⟨S2048x1x1x64, .f32⟩
  | .hbm, ⟨65, _⟩ => ⟨S1x2048x1x1x64, .f32⟩
  | .hbm, ⟨66, _⟩ => ⟨S16x2048x4x2x64, .f32⟩
  | .hbm, ⟨67, _⟩ => ⟨S16x2048x4x2x64, .f32⟩
  | .hbm, ⟨68, _⟩ => ⟨S16x2048x4x2x64, .f32⟩
  | .hbm, ⟨69, _⟩ => ⟨S16x2304x4x2x64, .f32⟩
  | .hbm, ⟨70, _⟩ => ⟨S_, .f32⟩
  | .hbm, ⟨71, _⟩ => ⟨S16x2304x4x2x64, .f32⟩
  | .hbm, ⟨72, _⟩ => ⟨S16x2304x4x2x64, .f32⟩
  | .hbm, ⟨73, _⟩ => ⟨S16x2304x512, .f32⟩
  | .hbm, ⟨74, _⟩ => ⟨S16x2304x4x2x64, .f32⟩
  | .hbm, ⟨75, _⟩ => ⟨S16x256x4x2x64, .f32⟩
  | .hbm, ⟨76, _⟩ => ⟨S16x2048x4x2x64, .f32⟩
  | .hbm, ⟨77, _⟩ => ⟨S16x2048x4x2x32, .f32⟩
  | .hbm, ⟨78, _⟩ => ⟨S16x2048x4x2x32, .f32⟩
  | .hbm, ⟨79, _⟩ => ⟨S16x2048x4x2x32, .f32⟩
  | .hbm, ⟨80, _⟩ => ⟨S16x2048x4x2x64, .f32⟩
  | .hbm, ⟨81, _⟩ => ⟨S2048x1x1x64, .f32⟩
  | .hbm, ⟨82, _⟩ => ⟨S1x2048x1x1x64, .f32⟩
  | .hbm, ⟨83, _⟩ => ⟨S16x2048x4x2x64, .f32⟩
  | .hbm, ⟨84, _⟩ => ⟨S16x2048x4x2x64, .f32⟩
  | .hbm, ⟨85, _⟩ => ⟨S2048x1x1x64, .f32⟩
  | .hbm, ⟨86, _⟩ => ⟨S1x2048x1x1x64, .f32⟩
  | .hbm, ⟨87, _⟩ => ⟨S16x2048x4x2x64, .f32⟩
  | .hbm, ⟨88, _⟩ => ⟨S16x2048x4x2x64, .f32⟩
  | .hbm, ⟨89, _⟩ => ⟨S16x2048x4x2x64, .f32⟩
  | .hbm, ⟨90, _⟩ => ⟨S16x2304x4x2x64, .f32⟩
  | .hbm, ⟨91, _⟩ => ⟨S16x2304x512, .f32⟩
  | .hbm, ⟨92, _⟩ => ⟨S16x2304x512, .bf16⟩
  | .hbm, ⟨93, _⟩ => ⟨S16x2304x512, .bf16⟩
  | .hbm, ⟨94, _⟩ => ⟨S16x2304x512, .bf16⟩
  | _, _ => ⟨S16x2304x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Inproj.lean ====
abbrev S16x2048x1024 : Shape := ⟨3, ![16, 2048, 1024]⟩
abbrev S16x256x1024 : Shape := ⟨3, ![16, 256, 1024]⟩
abbrev S24x6144 : Shape := ⟨2, ![24, 6144]⟩
abbrev S1024x7680 : Shape := ⟨2, ![1024, 7680]⟩
abbrev S16x2304x1024 : Shape := ⟨3, ![16, 2304, 1024]⟩
abbrev S1024x3072 : Shape := ⟨2, ![1024, 3072]⟩
abbrev S1024x4608 : Shape := ⟨2, ![1024, 4608]⟩
abbrev S16x6144 : Shape := ⟨2, ![16, 6144]⟩
abbrev S16x1x6x1024 : Shape := ⟨4, ![16, 1, 6, 1024]⟩
abbrev S1x6144 : Shape := ⟨2, ![1, 6144]⟩
abbrev S6144 : Shape := ⟨1, ![6144]⟩
abbrev S1x1x6x1024 : Shape := ⟨4, ![1, 1, 6, 1024]⟩
abbrev S16x2x6x1024 : Shape := ⟨4, ![16, 2, 6, 1024]⟩
abbrev S16x2304x7680 : Shape := ⟨3, ![16, 2304, 7680]⟩
abbrev S1x256x1024 : Shape := ⟨3, ![1, 256, 1024]⟩
abbrev S1024x2560 : Shape := ⟨2, ![1024, 2560]⟩
abbrev S1x256x2560 : Shape := ⟨3, ![1, 256, 2560]⟩
abbrev S1x1x1x1024 : Shape := ⟨4, ![1, 1, 1, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩

abbrev nBuf : Space → Nat
  | .hbm => 17
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x6144, .f32⟩
  | .hbm, ⟨3, _⟩ => ⟨S1024x7680, .f32⟩
  | .hbm, ⟨4, _⟩ => ⟨S16x2304x1024, .f32⟩
  | .hbm, ⟨5, _⟩ => ⟨S1024x3072, .f32⟩
  | .hbm, ⟨6, _⟩ => ⟨S1024x4608, .f32⟩
  | .hbm, ⟨7, _⟩ => ⟨S1024x7680, .f32⟩
  | .hbm, ⟨8, _⟩ => ⟨S16x6144, .f32⟩
  | .hbm, ⟨9, _⟩ => ⟨S16x1x6x1024, .f32⟩
  | .hbm, ⟨10, _⟩ => ⟨S1x6144, .f32⟩
  | .hbm, ⟨11, _⟩ => ⟨S6144, .f32⟩
  | .hbm, ⟨12, _⟩ => ⟨S1x1x6x1024, .f32⟩
  | .hbm, ⟨13, _⟩ => ⟨S16x1x6x1024, .f32⟩
  | .hbm, ⟨14, _⟩ => ⟨S16x2x6x1024, .f32⟩
  | .hbm, ⟨15, _⟩ => ⟨S1024x7680, .bf16⟩
  | .hbm, ⟨16, _⟩ => ⟨S16x2304x7680, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x2560, .bf16⟩
  | .local _ .vmem, ⟨5, _⟩ => ⟨S1024x2560, .bf16⟩
  | .local _ .vmem, ⟨6, _⟩ => ⟨S1x256x2560, .f32⟩
  | .local _ .vmem, ⟨7, _⟩ => ⟨S1x256x2560, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 16, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let c0_i32_0 : BitVec 32 := 0#32
  let c0_i32_1 : BitVec 32 := 0#32
  ![arg1.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== InprojRefIdeal.lean ====
abbrev S16x2048x1024 : Shape := ⟨3, ![16, 2048, 1024]⟩
abbrev S16x256x1024 : Shape := ⟨3, ![16, 256, 1024]⟩
abbrev S24x6144 : Shape := ⟨2, ![24, 6144]⟩
abbrev S1024x7680 : Shape := ⟨2, ![1024, 7680]⟩
abbrev S16x6144 : Shape := ⟨2, ![16, 6144]⟩
abbrev S16x1x6144 : Shape := ⟨3, ![16, 1, 6144]⟩
abbrev S16x1x1024 : Shape := ⟨3, ![16, 1, 1024]⟩
abbrev S1x6144 : Shape := ⟨2, ![1, 6144]⟩
abbrev S6144 : Shape := ⟨1, ![6144]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S1x1x1024 : Shape := ⟨3, ![1, 1, 1024]⟩
abbrev S16x256x7680 : Shape := ⟨3, ![16, 256, 7680]⟩
abbrev S16x2048x7680 : Shape := ⟨3, ![16, 2048, 7680]⟩
abbrev S16x2304x7680 : Shape := ⟨3, ![16, 2304, 7680]⟩
abbrev S16x2304x3072 : Shape := ⟨3, ![16, 2304, 3072]⟩
abbrev S16x2304x4608 : Shape := ⟨3, ![16, 2304, 4608]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x6144, .f32⟩
  | .hbm, ⟨3, _⟩ => ⟨S1024x7680, .f32⟩
  | .hbm, ⟨4, _⟩ => ⟨S16x6144, .f32⟩
  | .hbm, ⟨5, _⟩ => ⟨S16x1x6144, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S1x6144, .f32⟩
  | .hbm, ⟨13, _⟩ => ⟨S6144, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x1x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x256, .f32⟩
  | .hbm, ⟨52, _⟩ => ⟨S16x256x1, .f32⟩
  | .hbm, ⟨53, _⟩ => ⟨S_, .f32⟩
  | .hbm, ⟨54, _⟩ => ⟨S16x256x1, .f32⟩
  | .hbm, ⟨55, _⟩ => ⟨S16x256x1, .f32⟩
  | .hbm, ⟨56, _⟩ => ⟨S16x256x1024, .f32⟩
  | .hbm, ⟨57, _⟩ => ⟨S16x256x1024, .f32⟩
  | .hbm, ⟨58, _⟩ => ⟨S16x256x1024, .f32⟩
  | .hbm, ⟨59, _⟩ => ⟨S_, .f32⟩
  | .hbm, ⟨60, _⟩ => ⟨S16x256, .f32⟩
  | .hbm, ⟨61, _⟩ => ⟨S16x256x1, .f32⟩
  | .hbm, ⟨62, _⟩ => ⟨S_, .f32⟩
  | .hbm, ⟨63, _⟩ => ⟨S16x256x1, .f32⟩
  | .hbm, ⟨64, _⟩ => ⟨S16x256x1, .f32⟩
  | .hbm, ⟨65, _⟩ => ⟨S16x256x1024, .f32⟩
  | .hbm, ⟨66, _⟩ => ⟨S16x256x1024, .f32⟩
  | .hbm, ⟨67, _⟩ => ⟨S_, .f32⟩
  | .hbm, ⟨68, _⟩ => ⟨S16x256x1, .f32⟩
  | .hbm, ⟨69, _⟩ => ⟨S16x256x1, .f32⟩
  | .hbm, ⟨70, _⟩ => ⟨S16x256x1, .f32⟩
  | .hbm, ⟨71, _⟩ => ⟨S16x256x1024, .f32⟩
  | .hbm, ⟨72, _⟩ => ⟨S16x256x1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1x1x1024, .f32⟩
  | .hbm, ⟨77, _⟩ => ⟨S16x256x1024, .f32⟩
  | .hbm, ⟨78, _⟩ => ⟨S16x256x1024, .f32⟩
  | .hbm, ⟨79, _⟩ => ⟨S1x1x1024, .f32⟩
  | .hbm, ⟨80, _⟩ => ⟨S16x256x1024, .f32⟩
  | .hbm, ⟨81, _⟩ => ⟨S16x256x1024, .f32⟩
  | .hbm, ⟨82, _⟩ => ⟨S16x256x7680, .f32⟩
  | .hbm, ⟨83, _⟩ => ⟨S16x2048x7680, .f32⟩
  | .hbm, ⟨84, _⟩ => ⟨S16x2304x7680, .f32⟩
  | .hbm, ⟨85, _⟩ => ⟨S16x2304x3072, .f32⟩
  | .hbm, ⟨86, _⟩ => ⟨S16x2304x4608, .f32⟩
  | .hbm, ⟨87, _⟩ => ⟨S16x2304x7680, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Merge.lean ====
abbrev S16x2304x1024 : Shape := ⟨3, ![16, 2304, 1024]⟩
abbrev S24x6144 : Shape := ⟨2, ![24, 6144]⟩
abbrev S16x2304x7680 : Shape := ⟨3, ![16, 2304, 7680]⟩
abbrev S16x2304x512 : Shape := ⟨3, ![16, 2304, 512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x64 : Shape := ⟨2, ![1024, 64]⟩
abbrev S1x1024 : Shape := ⟨2, ![1, 1024]⟩
abbrev S2x1024 : Shape := ⟨2, ![2, 1024]⟩
abbrev S1x128 : Shape := ⟨2, ![1, 128]⟩
abbrev S16x6144 : Shape := ⟨2, ![16, 6144]⟩
abbrev S16x1x6x1024 : Shape := ⟨4, ![16, 1, 6, 1024]⟩
abbrev S1x6144 : Shape := ⟨2, ![1, 6144]⟩
abbrev S6144 : Shape := ⟨1, ![6144]⟩
abbrev S1x1x6x1024 : Shape := ⟨4, ![1, 1, 6, 1024]⟩
abbrev S16x2x6x1024 : Shape := ⟨4, ![16, 2, 6, 1024]⟩
abbrev S64x1024 : Shape := ⟨2, ![64, 1024]⟩
abbrev S8x8x1024 : Shape := ⟨3, ![8, 8, 1024]⟩
abbrev S64x36864 : Shape := ⟨2, ![64, 36864]⟩
abbrev S1x256x1024 : Shape := ⟨3, ![1, 256, 1024]⟩
abbrev S1x256x3072 : Shape := ⟨3, ![1, 256, 3072]⟩
abbrev S1x256x512 : Shape := ⟨3, ![1, 256, 512]⟩
abbrev S64x256 : Shape := ⟨2, ![64, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩
abbrev S256x1024 : Shape := ⟨2, ![256, 1024]⟩
abbrev S1x1x1x1024 : Shape := ⟨4, ![1, 1, 1, 1024]⟩

abbrev nBuf : Space → Nat
  | .hbm => 39
  | .vmem => 30
  | .smem => 0
  | _ => 0

abbrev bufTy : (tb : Table) → Fin (tcTables nBuf tb) → BufTy
  | .hbm, ⟨0, _⟩ => ⟨S16x2304x1024, .f32⟩
  | .hbm, ⟨1, _⟩ => ⟨S24x6144, .f32⟩
  | .hbm, ⟨2, _⟩ => ⟨S16x2304x7680, .f32⟩
  | .hbm, ⟨3, _⟩ => ⟨S16x2304x512, .f32⟩
  | .hbm, ⟨4, _⟩ => ⟨S16x2304x512, .f32⟩
  | .hbm, ⟨5, _⟩ => ⟨S16x2304x512, .f32⟩
  | .hbm, ⟨6, _⟩ => ⟨S16x2304x512, .f32⟩
  | .hbm, ⟨7, _⟩ => ⟨S128, .f32⟩
  | .hbm, ⟨8, _⟩ => ⟨S128, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x64, .f32⟩
  | .hbm, ⟨16, _⟩ => ⟨S1x1024, .f32⟩
  | .hbm, ⟨17, _⟩ => ⟨S1x1024, .f32⟩
  | .hbm, ⟨18, _⟩ => ⟨S2x1024, .f32⟩
  | .hbm, ⟨19, _⟩ => ⟨S1x128, .f32⟩
  | .hbm, ⟨20, _⟩ => ⟨S1x128, .f32⟩
  | .hbm, ⟨21, _⟩ => ⟨S16x6144, .f32⟩
  | .hbm, ⟨22, _⟩ => ⟨S16x1x6x1024, .f32⟩
  | .hbm, ⟨23, _⟩ => ⟨S1x6144, .f32⟩
  | .hbm, ⟨24, _⟩ => ⟨S6144, .f32⟩
  | .hbm, ⟨25, _⟩ => ⟨S1x1x6x1024, .f32⟩
  | .hbm, ⟨26, _⟩ => ⟨S16x1x6x1024, .f32⟩
  | .hbm, ⟨27, _⟩ => ⟨S16x2x6x1024, .f32⟩
  | .hbm, ⟨28, _⟩ => ⟨S512x1024, .bf16⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S64x1024, .f32⟩
  | .hbm, ⟨33, _⟩ => ⟨S8x8x1024, .f32⟩
  | .hbm, ⟨34, _⟩ => ⟨S8x8x1024, .f32⟩
  | .hbm, ⟨35, _⟩ => ⟨S64x1024, .f32⟩
  | .hbm, ⟨36, _⟩ => ⟨S16x2304x1024, .f32⟩
  | .hbm, ⟨37, _⟩ => ⟨S16x2304x1024, .bf16⟩
  | .hbm, ⟨38, _⟩ => ⟨S64x36864, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x256x3072, .f32⟩
  | .local _ .vmem, ⟨5, _⟩ => ⟨S1x256x3072, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x128, .f32⟩
  | .local _ .vmem, ⟨17, _⟩ => ⟨S1x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S2x1024, .f32⟩
  | .local _ .vmem, ⟨23, _⟩ => ⟨S64x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .bf16⟩
  | .local _ .vmem, ⟨27, _⟩ => ⟨S1x256x1024, .bf16⟩
  | .local _ .vmem, ⟨28, _⟩ => ⟨S64x256, .f32⟩
  | .local _ .vmem, ⟨29, _⟩ => ⟨S64x256, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeRefIdeal.lean ====
abbrev S16x2304x1024 : Shape := ⟨3, ![16, 2304, 1024]⟩
abbrev S24x6144 : Shape := ⟨2, ![24, 6144]⟩
abbrev S16x2304x7680 : Shape := ⟨3, ![16, 2304, 7680]⟩
abbrev S16x2304x512 : Shape := ⟨3, ![16, 2304, 512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x64 : Shape := ⟨2, ![1024, 64]⟩
abbrev S16x2304x3072 : Shape := ⟨3, ![16, 2304, 3072]⟩
abbrev S16x2304x4x128 : Shape := ⟨4, ![16, 2304, 4, 128]⟩
abbrev S_ : Shape := ⟨0, ![]⟩
abbrev S16x2304x4 : Shape := ⟨3, ![16, 2304, 4]⟩
abbrev S16x2304x4x1 : Shape := ⟨4, ![16, 2304, 4, 1]⟩
abbrev S1x1x1x128 : Shape := ⟨4, ![1, 1, 1, 128]⟩
abbrev S16x6144 : Shape := ⟨2, ![16, 6144]⟩
abbrev S16x1x6144 : Shape := ⟨3, ![16, 1, 6144]⟩
abbrev S16x1x1024 : Shape := ⟨3, ![16, 1, 1024]⟩
abbrev S1x6144 : Shape := ⟨2, ![1, 6144]⟩
abbrev S6144 : Shape := ⟨1, ![6144]⟩
abbrev S16x256x1024 : Shape := ⟨3, ![16, 256, 1024]⟩
abbrev S1x1x1024 : Shape := ⟨3, ![1, 1, 1024]⟩
abbrev S16x256 : Shape := ⟨2, ![16, 256]⟩
abbrev S16x256x1 : Shape := ⟨3, ![16, 256, 1]⟩
abbrev S16x2048x1024 : Shape := ⟨3, ![16, 2048, 1024]⟩
abbrev S16x2048 : Shape := ⟨2, ![16, 2048]⟩
abbrev S16x2048x1 : Shape := ⟨3, ![16, 2048, 1]⟩
abbrev S36864x1024 : Shape := ⟨2, ![36864, 1024]⟩
abbrev S36864x64 : Shape := ⟨2, ![36864, 64]⟩
abbrev S64x36864 : Shape := ⟨2, ![64, 36864]⟩
abbrev S8x8x36864 : Shape := ⟨3, ![8, 8, 36864]⟩

abbrev nBuf : Space → Nat
  | .hbm => 251
  | .vmem => 0
  | .smem => 0
  | _ => 0

abbrev hbmTy0_0 (i : Nat) : BufTy := match i % 128 with
  | 0 => ⟨S16x2304x1024, .f32⟩
  | 1 => ⟨S24x6144, .f32⟩
  | 2 => ⟨S16x2304x7680, .f32⟩
  | 3 => ⟨S16x2304x512, .f32⟩
  | 4 => ⟨S16x2304x512, .f32⟩
  | 5 => ⟨S16x2304x512, .f32⟩
  | 6 => ⟨S16x2304x512, .f32⟩
  | 7 => ⟨S128, .f32⟩
  | 8 => ⟨S128, .f32⟩
  | 9 => ⟨S512x1024, .f32⟩
  | 10 => ⟨S512x1024, .f32⟩
  | 11 => ⟨S512x1024, .f32⟩
  | 12 => ⟨S1024x1024, .f32⟩
  | 13 => ⟨S1024, .f32⟩
  | 14 => ⟨S1024, .f32⟩
  | 15 => ⟨S1024x64, .f32⟩
  | 16 => ⟨S16x2304x3072, .f32⟩
  | 17 => ⟨S16x2304x512, .f32⟩
  | 18 => ⟨S16x2304x512, .f32⟩
  | 19 => ⟨S16x2304x4x128, .f32⟩
  | 20 => ⟨S16x2304x4x128, .f32⟩
  | 21 => ⟨S_, .f32⟩
  | 22 => ⟨S16x2304x4, .f32⟩
  | 23 => ⟨S16x2304x4x1, .f32⟩
  | 24 => ⟨S_, .f32⟩
  | 25 => ⟨S16x2304x4x1, .f32⟩
  | 26 => ⟨S16x2304x4x1, .f32⟩
  | 27 => ⟨S_, .f32⟩
  | 28 => ⟨S16x2304x4x1, .f32⟩
  | 29 => ⟨S16x2304x4x1, .f32⟩
  | 30 => ⟨S16x2304x4x1, .f32⟩
  | 31 => ⟨S16x2304x4x128, .f32⟩
  | 32 => ⟨S16x2304x4x128, .f32⟩
  | 33 => ⟨S1x1x1x128, .f32⟩
  | 34 => ⟨S16x2304x4x128, .f32⟩
  | 35 => ⟨S16x2304x4x128, .f32⟩
  | 36 => ⟨S16x2304x512, .f32⟩
  | 37 => ⟨S16x2304x512, .f32⟩
  | 38 => ⟨S_, .f32⟩
  | 39 => ⟨S16x2304x512, .f32⟩
  | 40 => ⟨S16x2304x512, .f32⟩
  | 41 => ⟨S_, .f32⟩
  | 42 => ⟨S16x2304x512, .f32⟩
  | 43 => ⟨S16x2304x512, .f32⟩
  | 44 => ⟨S16x2304x512, .f32⟩
  | 45 => ⟨S16x2304x4x128, .f32⟩
  | 46 => ⟨S16x2304x4x128, .f32⟩
  | 47 => ⟨S16x2304x512, .f32⟩
  | 48 => ⟨S16x2304x4x128, .f32⟩
  | 49 => ⟨S16x2304x4x128, .f32⟩
  | 50 => ⟨S_, .f32⟩
  | 51 => ⟨S16x2304x4, .f32⟩
  | 52 => ⟨S16x2304x4x1, .f32⟩
  | 53 => ⟨S_, .f32⟩
  | 54 => ⟨S16x2304x4x1, .f32⟩
  | 55 => ⟨S16x2304x4x1, .f32⟩
  | 56 => ⟨S_, .f32⟩
  | 57 => ⟨S16x2304x4x1, .f32⟩
  | 58 => ⟨S16x2304x4x1, .f32⟩
  | 59 => ⟨S16x2304x4x1, .f32⟩
  | 60 => ⟨S16x2304x4x128, .f32⟩
  | 61 => ⟨S16x2304x4x128, .f32⟩
  | 62 => ⟨S1x1x1x128, .f32⟩
  | 63 => ⟨S16x2304x4x128, .f32⟩
  | 64 => ⟨S16x2304x4x128, .f32⟩
  | 65 => ⟨S_, .f32⟩
  | 66 => ⟨S16x2304x4x128, .f32⟩
  | 67 => ⟨S16x2304x4x128, .f32⟩
  | 68 => ⟨S16x2304x512, .f32⟩
  | 69 => ⟨S16x2304x3072, .f32⟩
  | 70 => ⟨S16x2304x3072, .f32⟩
  | 71 => ⟨S_, .f32⟩
  | 72 => ⟨S16x2304x3072, .f32⟩
  | 73 => ⟨S16x2304x3072, .f32⟩
  | 74 => ⟨S_, .f32⟩
  | 75 => ⟨S16x2304x3072, .f32⟩
  | 76 => ⟨S16x2304x3072, .f32⟩
  | 77 => ⟨S16x2304x1024, .f32⟩
  | 78 => ⟨S16x2304x1024, .f32⟩
  | 79 => ⟨S16x2304x1024, .f32⟩
  | 80 => ⟨S16x2304x1024, .f32⟩
  | 81 => ⟨S16x2304x1024, .f32⟩
  | 82 => ⟨S16x2304x1024, .f32⟩
  | 83 => ⟨S16x2304x1024, .f32⟩
  | 84 => ⟨S16x2304x1024, .f32⟩
  | 85 => ⟨S16x2304x1024, .f32⟩
  | 86 => ⟨S16x2304x1024, .f32⟩
  | 87 => ⟨S16x2304x1024, .f32⟩
  | 88 => ⟨S16x2304x1024, .f32⟩
  | 89 => ⟨S16x6144, .f32⟩
  | 90 => ⟨S16x1x6144, .f32⟩
  | 91 => ⟨S16x1x1024, .f32⟩
  | 92 => ⟨S16x1x1024, .f32⟩
  | 93 => ⟨S16x1x1024, .f32⟩
  | 94 => ⟨S16x1x1024, .f32⟩
  | 95 => ⟨S16x1x1024, .f32⟩
  | 96 => ⟨S16x1x1024, .f32⟩
  | 97 => ⟨S1x6144, .f32⟩
  | 98 => ⟨S6144, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S16x256x1024, .f32⟩
  | 106 => ⟨S_, .f32⟩
  | 107 => ⟨S16x256x1024, .f32⟩
  | 108 => ⟨S16x256x1024, .f32⟩
  | 109 => ⟨S16x256x1024, .f32⟩
  | 110 => ⟨S1x1x1024, .f32⟩
  | 111 => ⟨S16x256x1024, .f32⟩
  | 112 => ⟨S16x256x1024, .f32⟩
  | 113 => ⟨S16x256x1024, .f32⟩
  | 114 => ⟨S_, .f32⟩
  | 115 => ⟨S16x256, .f32⟩
  | 116 => ⟨S16x256x1, .f32⟩
  | 117 => ⟨S_, .f32⟩
  | 118 => ⟨S16x256x1, .f32⟩
  | 119 => ⟨S16x256x1, .f32⟩
  | 120 => ⟨S16x256x1024, .f32⟩
  | 121 => ⟨S16x256x1024, .f32⟩
  | 122 => ⟨S16x256x1024, .f32⟩
  | 123 => ⟨S_, .f32⟩
  | 124 => ⟨S16x256, .f32⟩
  | 125 => ⟨S16x256x1, .f32⟩
  | 126 => ⟨S_, .f32⟩
  | 127 => ⟨S16x256x1, .f32⟩
  | _ => ⟨S16x2304x1024, .f32⟩

abbrev hbmTy0_1 (i : Nat) : BufTy := match i % 128 with
  | 0 => ⟨S16x256x1, .f32⟩
  | 1 => ⟨S16x256x1024, .f32⟩
  | 2 => ⟨S16x256x1024, .f32⟩
  | 3 => ⟨S_, .f32⟩
  | 4 => ⟨S16x256x1, .f32⟩
  | 5 => ⟨S16x256x1, .f32⟩
  | 6 => ⟨S16x256x1, .f32⟩
  | 7 => ⟨S16x256x1024, .f32⟩
  | 8 => ⟨S16x256x1024, .f32⟩
  | 9 => ⟨S1x1x1024, .f32⟩
  | 10 => ⟨S16x256x1024, .f32⟩
  | 11 => ⟨S16x256x1024, .f32⟩
  | 12 => ⟨S1x1x1024, .f32⟩
  | 13 => ⟨S16x256x1024, .f32⟩
  | 14 => ⟨S16x256x1024, .f32⟩
  | 15 => ⟨S16x2048x1024, .f32⟩
  | 16 => ⟨S_, .f32⟩
  | 17 => ⟨S16x2048x1024, .f32⟩
  | 18 => ⟨S16x2048x1024, .f32⟩
  | 19 => ⟨S16x2048x1024, .f32⟩
  | 20 => ⟨S16x2048x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x1024, .f32⟩
  | 30 => ⟨S16x2048x1024, .f32⟩
  | 31 => ⟨S16x2048x1024, .f32⟩
  | 32 => ⟨S_, .f32⟩
  | 33 => ⟨S16x2048, .f32⟩
  | 34 => ⟨S16x2048x1, .f32⟩
  | 35 => ⟨S_, .f32⟩
  | 36 => ⟨S16x2048x1, .f32⟩
  | 37 => ⟨S16x2048x1, .f32⟩
  | 38 => ⟨S16x2048x1024, .f32⟩
  | 39 => ⟨S16x2048x1024, .f32⟩
  | 40 => ⟨S_, .f32⟩
  | 41 => ⟨S16x2048x1, .f32⟩
  | 42 => ⟨S16x2048x1, .f32⟩
  | 43 => ⟨S16x2048x1, .f32⟩
  | 44 => ⟨S16x2048x1024, .f32⟩
  | 45 => ⟨S16x2048x1024, .f32⟩
  | 46 => ⟨S1x1x1024, .f32⟩
  | 47 => ⟨S16x2048x1024, .f32⟩
  | 48 => ⟨S16x2048x1024, .f32⟩
  | 49 => ⟨S1x1x1024, .f32⟩
  | 50 => ⟨S16x2048x1024, .f32⟩
  | 51 => ⟨S16x2048x1024, .f32⟩
  | 52 => ⟨S_, .f32⟩
  | 53 => ⟨S16x256, .f32⟩
  | 54 => ⟨S16x256x1, .f32⟩
  | 55 => ⟨S_, .f32⟩
  | 56 => ⟨S16x256x1, .f32⟩
  | 57 => ⟨S16x256x1, .f32⟩
  | 58 => ⟨S16x256x1024, .f32⟩
  | 59 => ⟨S16x256x1024, .f32⟩
  | 60 => ⟨S16x256x1024, .f32⟩
  | 61 => ⟨S_, .f32⟩
  | 62 => ⟨S16x256, .f32⟩
  | 63 => ⟨S16x256x1, .f32⟩
  | 64 => ⟨S_, .f32⟩
  | 65 => ⟨S16x256x1, .f32⟩
  | 66 => ⟨S16x256x1, .f32⟩
  | 67 => ⟨S16x256x1024, .f32⟩
  | 68 => ⟨S16x256x1024, .f32⟩
  | 69 => ⟨S_, .f32⟩
  | 70 => ⟨S16x256x1, .f32⟩
  | 71 => ⟨S16x256x1, .f32⟩
  | 72 => ⟨S16x256x1, .f32⟩
  | 73 => ⟨S16x256x1024, .f32⟩
  | 74 => ⟨S16x256x1024, .f32⟩
  | 75 => ⟨S_, .f32⟩
  | 76 => ⟨S1024, .f32⟩
  | 77 => ⟨S1024, .f32⟩
  | 78 => ⟨S1x1x1024, .f32⟩
  | 79 => ⟨S16x256x1024, .f32⟩
  | 80 => ⟨S16x256x1024, .f32⟩
  | 81 => ⟨S1x1x1024, .f32⟩
  | 82 => ⟨S16x256x1024, .f32⟩
  | 83 => ⟨S16x256x1024, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S16x2048x1024, .f32⟩
  | 91 => ⟨S16x2048x1024, .f32⟩
  | 92 => ⟨S16x2048x1024, .f32⟩
  | 93 => ⟨S_, .f32⟩
  | 94 => ⟨S16x2048, .f32⟩
  | 95 => ⟨S16x2048x1, .f32⟩
  | 96 => ⟨S_, .f32⟩
  | 97 => ⟨S16x2048x1, .f32⟩
  | 98 => ⟨S16x2048x1, .f32⟩
  | 99 => ⟨S16x2048x1024, .f32⟩
  | 100 => ⟨S16x2048x1024, .f32⟩
  | 101 => ⟨S_, .f32⟩
  | 102 => ⟨S16x2048x1, .f32⟩
  | 103 => ⟨S16x2048x1, .f32⟩
  | 104 => ⟨S16x2048x1, .f32⟩
  | 105 => ⟨S16x2048x1024, .f32⟩
  | 106 => ⟨S16x2048x1024, .f32⟩
  | 107 => ⟨S_, .f32⟩
  | 108 => ⟨S16x1x1024, .f32⟩
  | 109 => ⟨S16x1x1024, .f32⟩
  | 110 => ⟨S16x2048x1024, .f32⟩
  | 111 => ⟨S16x2048x1024, .f32⟩
  | 112 => ⟨S16x2048x1024, .f32⟩
  | 113 => ⟨S16x2048x1024, .f32⟩
  | 114 => ⟨S16x2304x1024, .f32⟩
  | 115 => ⟨S36864x1024, .f32⟩
  | 116 => ⟨S36864x64, .f32⟩
  | 117 => ⟨S64x36864, .f32⟩
  | 118 => ⟨S8x8x36864, .f32⟩
  | 119 => ⟨S8x8x36864, .f32⟩
  | 120 => ⟨S64x36864, .f32⟩
  | 121 => ⟨S16x2304x1024, .f32⟩
  | 122 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_8 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_cst_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_11 : Ref sig .tc := ⟨.hbm, 123, rfl⟩
abbrev main_v87 : Ref sig .tc := ⟨.hbm, 124, rfl⟩
abbrev main_v88 : Ref sig .tc := ⟨.hbm, 125, rfl⟩
abbrev main_cst_12 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_13 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_14 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_15 : Ref sig .tc := ⟨.hbm, 151, rfl⟩
abbrev main_v111 : Ref sig .tc := ⟨.hbm, 152, rfl⟩
abbrev main_v112 : Ref sig .tc := ⟨.hbm, 153, rfl⟩
abbrev main_cst_16 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_17 : Ref sig .tc := ⟨.hbm, 160, rfl⟩
abbrev main_v118 : Ref sig .tc := ⟨.hbm, 161, rfl⟩
abbrev main_v119 : Ref sig .tc := ⟨.hbm, 162, rfl⟩
abbrev main_cst_18 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_19 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_20 : Ref sig .tc := ⟨.hbm, 180, rfl⟩
abbrev main_v135 : Ref sig .tc := ⟨.hbm, 181, rfl⟩
abbrev main_v136 : Ref sig .tc := ⟨.hbm, 182, rfl⟩
abbrev main_cst_21 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_22 : Ref sig .tc := ⟨.hbm, 189, rfl⟩
abbrev main_v142 : Ref sig .tc := ⟨.hbm, 190, rfl⟩
abbrev main_v143 : Ref sig .tc := ⟨.hbm, 191, rfl⟩
abbrev main_cst_23 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_24 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_25 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_26 : Ref sig .tc := ⟨.hbm, 212, rfl⟩
abbrev main_v161 : Ref sig .tc := ⟨.hbm, 213, rfl⟩
abbrev main_v162 : Ref sig .tc := ⟨.hbm, 214, rfl⟩
abbrev main_cst_27 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_28 : Ref sig .tc := ⟨.hbm, 221, rfl⟩
abbrev main_v168 : Ref sig .tc := ⟨.hbm, 222, rfl⟩
abbrev main_v169 : Ref sig .tc := ⟨.hbm, 223, rfl⟩
abbrev main_cst_29 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_30 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_31 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩

abbrev nD : Nat := 1
abbrev τ : Topo := Topo.v7x

variable {F : FTy → Type} [FloatOps F]
-- ==== Moe.lean ====
abbrev S36864x1024 : Shape := ⟨2, ![36864, 1024]⟩
abbrev S64x36864 : Shape := ⟨2, ![64, 36864]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S36864x64 : Shape := ⟨2, ![36864, 64]⟩
abbrev S_ : Shape := ⟨0, ![]⟩
abbrev S36864x1 : Shape := ⟨2, ![36864, 1]⟩
abbrev S36864x63 : Shape := ⟨2, ![36864, 63]⟩
abbrev S36864x128 : Shape := ⟨2, ![36864, 128]⟩
abbrev S8x8x1024x256 : Shape := ⟨4, ![8, 8, 1024, 256]⟩
abbrev S1x1024x256 : Shape := ⟨3, ![1, 1024, 256]⟩
abbrev S65x1024x256 : Shape := ⟨3, ![65, 1024, 256]⟩
abbrev S8x8x256x1024 : Shape := ⟨4, ![8, 8, 256, 1024]⟩
abbrev S1x256x1024 : Shape := ⟨3, ![1, 256, 1024]⟩
abbrev S65x256x1024 : Shape := ⟨3, ![65, 256, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 33
  | .vmem => 12
  | .smem => 0
  | _ => 0

abbrev bufTy : (tb : Table) → Fin (tcTables nBuf tb) → BufTy
  | .hbm, ⟨0, _⟩ => ⟨S36864x1024, .bf16⟩
  | .hbm, ⟨1, _⟩ => ⟨S64x36864, .f32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S36864x64, .f32⟩
  | .hbm, ⟨9, _⟩ => ⟨S_, .f32⟩
  | .hbm, ⟨10, _⟩ => ⟨S36864x1, .f32⟩
  | .hbm, ⟨11, _⟩ => ⟨S_, .f32⟩
  | .hbm, ⟨12, _⟩ => ⟨S36864x63, .f32⟩
  | .hbm, ⟨13, _⟩ => ⟨S36864x128, .f32⟩
  | .hbm, ⟨14, _⟩ => ⟨S8x8x1024x256, .f32⟩
  | .hbm, ⟨15, _⟩ => ⟨S8x8x1024x256, .f32⟩
  | .hbm, ⟨16, _⟩ => ⟨S64x1024x256, .f32⟩
  | .hbm, ⟨17, _⟩ => ⟨S1x1024x256, .f32⟩
  | .hbm, ⟨18, _⟩ => ⟨S65x1024x256, .f32⟩
  | .hbm, ⟨19, _⟩ => ⟨S65x1024x256, .bf16⟩
  | .hbm, ⟨20, _⟩ => ⟨S8x8x1024x256, .f32⟩
  | .hbm, ⟨21, _⟩ => ⟨S8x8x1024x256, .f32⟩
  | .hbm, ⟨22, _⟩ => ⟨S64x1024x256, .f32⟩
  | .hbm, ⟨23, _⟩ => ⟨S1x1024x256, .f32⟩
  | .hbm, ⟨24, _⟩ => ⟨S65x1024x256, .f32⟩
  | .hbm, ⟨25, _⟩ => ⟨S65x1024x256, .bf16⟩
  | .hbm, ⟨26, _⟩ => ⟨S8x8x256x1024, .f32⟩
  | .hbm, ⟨27, _⟩ => ⟨S8x8x256x1024, .f32⟩
  | .hbm, ⟨28, _⟩ => ⟨S64x256x1024, .f32⟩
  | .hbm, ⟨29, _⟩ => ⟨S1x256x1024, .f32⟩
  | .hbm, ⟨30, _⟩ => ⟨S65x256x1024, .f32⟩
  | .hbm, ⟨31, _⟩ => ⟨S65x256x1024, .bf16⟩
  | .hbm, ⟨32, _⟩ => ⟨S36864x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .f32⟩
  | .local _ .vmem, ⟨11, _⟩ => ⟨S1024x1024, .f32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 65], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_16 : BitVec 32 := 0#32
  let v27 : BitVec 1 := Scalar.cmpi .ne v26 c0_i32_16
  v27

def k0_cond2 (i : grid0.Coords) : BitVec 1 :=
  let arg1 : BitVec 32 := BitVec.ofNat 32 (i 1).val
  let c0_i32_17 : BitVec 32 := 0#32
  let v28 : BitVec 1 := Scalar.cmpi .sgt arg1 c0_i32_17
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S36864x1024 : Shape := ⟨2, ![36864, 1024]⟩
abbrev S64x36864 : Shape := ⟨2, ![64, 36864]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S8x8x36864 : Shape := ⟨3, ![8, 8, 36864]⟩
abbrev S64x256x36864 : Shape := ⟨3, ![64, 256, 36864]⟩
abbrev S64x36864x256 : Shape := ⟨3, ![64, 36864, 256]⟩
abbrev S_ : Shape := ⟨0, ![]⟩
abbrev S64x36864x1024 : Shape := ⟨3, ![64, 36864, 1024]⟩
abbrev S64x36864x1 : Shape := ⟨3, ![64, 36864, 1]⟩
abbrev S36864x256 : Shape := ⟨2, ![36864, 256]⟩

abbrev nBuf : Space → Nat
  | .hbm => 46
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S64x36864, .f32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S8x8x36864, .f32⟩
  | .hbm, ⟨9, _⟩ => ⟨S8x8x36864, .f32⟩
  | .hbm, ⟨10, _⟩ => ⟨S64x36864, .f32⟩
  | .hbm, ⟨11, _⟩ => ⟨S36864x1024, .f32⟩
  | .hbm, ⟨12, _⟩ => ⟨S64x256x36864, .f32⟩
  | .hbm, ⟨13, _⟩ => ⟨S64x36864x256, .f32⟩
  | .hbm, ⟨14, _⟩ => ⟨S64x36864x256, .f32⟩
  | .hbm, ⟨15, _⟩ => ⟨S64x36864x256, .f32⟩
  | .hbm, ⟨16, _⟩ => ⟨S_, .f32⟩
  | .hbm, ⟨17, _⟩ => ⟨S64x36864x256, .f32⟩
  | .hbm, ⟨18, _⟩ => ⟨S64x36864x256, .f32⟩
  | .hbm, ⟨19, _⟩ => ⟨S_, .f32⟩
  | .hbm, ⟨20, _⟩ => ⟨S64x36864x256, .f32⟩
  | .hbm, ⟨21, _⟩ => ⟨S64x36864x256, .f32⟩
  | .hbm, ⟨22, _⟩ => ⟨S64x36864x256, .f32⟩
  | .hbm, ⟨23, _⟩ => ⟨S64x256x36864, .f32⟩
  | .hbm, ⟨24, _⟩ => ⟨S64x36864x256, .f32⟩
  | .hbm, ⟨25, _⟩ => ⟨S64x36864x256, .f32⟩
  | .hbm, ⟨26, _⟩ => ⟨S64x36864x1024, .f32⟩
  | .hbm, ⟨27, _⟩ => ⟨S64x36864x1, .f32⟩
  | .hbm, ⟨28, _⟩ => ⟨S64x36864x1024, .f32⟩
  | .hbm, ⟨29, _⟩ => ⟨S64x36864x1024, .f32⟩
  | .hbm, ⟨30, _⟩ => ⟨S_, .f32⟩
  | .hbm, ⟨31, _⟩ => ⟨S36864x1024, .f32⟩
  | .hbm, ⟨32, _⟩ => ⟨S36864x256, .f32⟩
  | .hbm, ⟨33, _⟩ => ⟨S36864x256, .f32⟩
  | .hbm, ⟨34, _⟩ => ⟨S36864x256, .f32⟩
  | .hbm, ⟨35, _⟩ => ⟨S_, .f32⟩
  | .hbm, ⟨36, _⟩ => ⟨S36864x256, .f32⟩
  | .hbm, ⟨37, _⟩ => ⟨S36864x256, .f32⟩
  | .hbm, ⟨38, _⟩ => ⟨S_, .f32⟩
  | .hbm, ⟨39, _⟩ => ⟨S36864x256, .f32⟩
  | .hbm, ⟨40, _⟩ => ⟨S36864x256, .f32⟩
  | .hbm, ⟨41, _⟩ => ⟨S36864x256, .f32⟩
  | .hbm, ⟨42, _⟩ => ⟨S36864x256, .f32⟩
  | .hbm, ⟨43, _⟩ => ⟨S36864x256, .f32⟩
  | .hbm, ⟨44, _⟩ => ⟨S36864x1024, .f32⟩
  | .hbm, ⟨45, _⟩ => ⟨S36864x1024, .f32⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩

abbrev nD : Nat := 1
abbrev τ : Topo := Topo.v7x

variable {F : FTy → Type} [FloatOps F]
-- ==== Final.lean ====
abbrev S16x2304x1024 : Shape := ⟨3, ![16, 2304, 1024]⟩
abbrev S24x6144 : Shape := ⟨2, ![24, 6144]⟩
abbrev S1024 : Shape := ⟨1, ![1024]⟩
abbrev S1x1024 : Shape := ⟨2, ![1, 1024]⟩
abbrev S2x1024 : Shape := ⟨2, ![2, 1024]⟩
abbrev S16x6144 : Shape := ⟨2, ![16, 6144]⟩
abbrev S16x1x6x1024 : Shape := ⟨4, ![16, 1, 6, 1024]⟩
abbrev S1x6144 : Shape := ⟨2, ![1, 6144]⟩
abbrev S6144 : Shape := ⟨1, ![6144]⟩
abbrev S1x1x6x1024 : Shape := ⟨4, ![1, 1, 6, 1024]⟩
abbrev S16x2x6x1024 : Shape := ⟨4, ![16, 2, 6, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 9
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .f32⟩
  | .hbm, ⟨2, _⟩ => ⟨S24x6144, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S16x6144, .f32⟩
  | .hbm, ⟨9, _⟩ => ⟨S16x1x6x1024, .f32⟩
  | .hbm, ⟨10, _⟩ => ⟨S1x6144, .f32⟩
  | .hbm, ⟨11, _⟩ => ⟨S6144, .f32⟩
  | .hbm, ⟨12, _⟩ => ⟨S1x1x6x1024, .f32⟩
  | .hbm, ⟨13, _⟩ => ⟨S16x1x6x1024, .f32⟩
  | .hbm, ⟨14, _⟩ => ⟨S16x2x6x1024, .f32⟩
  | .hbm, ⟨15, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S2x1024, .f32⟩
  | .local _ .vmem, ⟨7, _⟩ => ⟨S1x256x1024, .f32⟩
  | .local _ .vmem, ⟨8, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S16x2304x1024 : Shape := ⟨3, ![16, 2304, 1024]⟩
abbrev S24x6144 : Shape := ⟨2, ![24, 6144]⟩
abbrev S1024 : Shape := ⟨1, ![1024]⟩
abbrev S16x6144 : Shape := ⟨2, ![16, 6144]⟩
abbrev S16x1x6144 : Shape := ⟨3, ![16, 1, 6144]⟩
abbrev S16x1x1024 : Shape := ⟨3, ![16, 1, 1024]⟩
abbrev S1x6144 : Shape := ⟨2, ![1, 6144]⟩
abbrev S6144 : Shape := ⟨1, ![6144]⟩
abbrev S16x256x1024 : Shape := ⟨3, ![16, 256, 1024]⟩
abbrev S_ : Shape := ⟨0, ![]⟩
abbrev S1x1x1024 : Shape := ⟨3, ![1, 1, 1024]⟩
abbrev S16x256 : Shape := ⟨2, ![16, 256]⟩
abbrev S16x256x1 : Shape := ⟨3, ![16, 256, 1]⟩
abbrev S16x2048x1024 : Shape := ⟨3, ![16, 2048, 1024]⟩
abbrev S16x2048 : Shape := ⟨2, ![16, 2048]⟩
abbrev S16x2048x1 : Shape := ⟨3, ![16, 2048, 1]⟩

abbrev nBuf : Space → Nat
  | .hbm => 97
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .f32⟩
  | .hbm, ⟨2, _⟩ => ⟨S24x6144, .f32⟩
  | .hbm, ⟨3, _⟩ => ⟨S1024, .f32⟩
  | .hbm, ⟨4, _⟩ => ⟨S1024, .f32⟩
  | .hbm, ⟨5, _⟩ => ⟨S16x6144, .f32⟩
  | .hbm, ⟨6, _⟩ => ⟨S16x1x6144, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S1x6144, .f32⟩
  | .hbm, ⟨14, _⟩ => ⟨S6144, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S16x256x1024, .f32⟩
  | .hbm, ⟨22, _⟩ => ⟨S_, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S16x256, .f32⟩
  | .hbm, ⟨32, _⟩ => ⟨S16x256x1, .f32⟩
  | .hbm, ⟨33, _⟩ => ⟨S_, .f32⟩
  | .hbm, ⟨34, _⟩ => ⟨S16x256x1, .f32⟩
  | .hbm, ⟨35, _⟩ => ⟨S16x256x1, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S_, .f32⟩
  | .hbm, ⟨40, _⟩ => ⟨S16x256, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S16x256x1, .f32⟩
  | .hbm, ⟨49, _⟩ => ⟨S16x256x1, .f32⟩
  | .hbm, ⟨50, _⟩ => ⟨S16x256x1, .f32⟩
  | .hbm, ⟨51, _⟩ => ⟨S16x256x1024, .f32⟩
  | .hbm, ⟨52, _⟩ => ⟨S16x256x1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | .hbm, ⟨56, _⟩ => ⟨S1x1x1024, .f32⟩
  | .hbm, ⟨57, _⟩ => ⟨S16x256x1024, .f32⟩
  | .hbm, ⟨58, _⟩ => ⟨S16x256x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x2048, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1, .f32⟩
  | .hbm, ⟨88, _⟩ => ⟨S16x2048x1024, .f32⟩
  | .hbm, ⟨89, _⟩ => ⟨S16x2048x1024, .f32⟩
  | .hbm, ⟨90, _⟩ => ⟨S1x1x1024, .f32⟩
  | .hbm, ⟨91, _⟩ => ⟨S16x2048x1024, .f32⟩
  | .hbm, ⟨92, _⟩ => ⟨S16x2048x1024, .f32⟩
  | .hbm, ⟨93, _⟩ => ⟨S1x1x1024, .f32⟩
  | .hbm, ⟨94, _⟩ => ⟨S16x2048x1024, .f32⟩
  | .hbm, ⟨95, _⟩ => ⟨S16x2048x1024, .f32⟩
  | .hbm, ⟨96, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Ada.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S1x6144 : Shape := ⟨2, ![1, 6144]⟩
abbrev S24x6144 : Shape := ⟨2, ![24, 6144]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S1x6144, .f32⟩
  | .hbm, ⟨9, _⟩ => ⟨S24x6144, .f32⟩
  | .local _ .vmem, ⟨0, _⟩ => ⟨S24x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩
abbrev S7x6144 : Shape := ⟨2, ![7, 6144]⟩
abbrev S24x6144 : Shape := ⟨2, ![24, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x6144, .f32⟩
  | .hbm, ⟨14, _⟩ => ⟨S1x6144, .f32⟩
  | .hbm, ⟨15, _⟩ => ⟨S16x6144, .f32⟩
  | .hbm, ⟨16, _⟩ => ⟨S16x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S7x6144, .f32⟩
  | .hbm, ⟨29, _⟩ => ⟨S1x6144, .f32⟩
  | .hbm, ⟨30, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Fourier.lean ====
abbrev S16x2304x7680 : Shape := ⟨3, ![16, 2304, 7680]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x4 : Shape := ⟨2, ![4, 4]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x512 : Shape := ⟨2, ![256, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x4096 : Shape := ⟨2, ![2048, 4096]⟩
abbrev S16x2304x512 : Shape := ⟨3, ![16, 2304, 512]⟩
abbrev S1x2304x512 : Shape := ⟨3, ![1, 2304, 512]⟩
abbrev S256x4096 : Shape := ⟨2, ![256, 4096]⟩
abbrev S1x256x512 : Shape := ⟨3, ![1, 256, 512]⟩
abbrev S4096x512 : Shape := ⟨2, ![4096, 512]⟩
abbrev S2304x512 : Shape := ⟨2, ![2304, 512]⟩
abbrev S2048x512 : Shape := ⟨2, ![2048, 512]⟩

abbrev nBuf : Space → Nat
  | .hbm => 146
  | .vmem => 12
  | .smem => 0
  | _ => 0

abbrev hbmTy0_0 (i : Nat) : BufTy := match i % 128 with
  | 0 => ⟨S16x2304x7680, .f32⟩
  | 1 => ⟨S128, .i32⟩
  | 2 => ⟨S128x1, .i32⟩
  | 3 => ⟨S1x128, .i32⟩
  | 4 => ⟨S128x128, .i32⟩
  | 5 => ⟨S128x128, .i32⟩
  | 6 => ⟨S128x128, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S128x128, .i32⟩
  | 14 => ⟨S128x128, .i32⟩
  | 15 => ⟨S_, .i32⟩
  | 16 => ⟨S128x128, .i32⟩
  | 17 => ⟨S128x128, .i1⟩
  | 18 => ⟨S_, .i32⟩
  | 19 => ⟨S128x128, .i32⟩
  | 20 => ⟨S128x128, .i1⟩
  | 21 => ⟨S_, .i32⟩
  | 22 => ⟨S_, .i1⟩
  | 23 => ⟨S128x128, .i1⟩
  | 24 => ⟨S128x128, .i1⟩
  | 25 => ⟨S128x128, .i1⟩
  | 26 => ⟨S128x128, .i32⟩
  | 27 => ⟨S128x128, .i32⟩
  | 28 => ⟨S128x128, .i32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S4x4, .i32⟩
  | 37 => ⟨S4x4, .i32⟩
  | 38 => ⟨S_, .i32⟩
  | 39 => ⟨S4x4, .i32⟩
  | 40 => ⟨S4x4, .i32⟩
  | 41 => ⟨S4x4, .i1⟩
  | 42 => ⟨S4x4, .f32⟩
  | 43 => ⟨S128x128, .f32⟩
  | 44 => ⟨S4x1x4x1, .f32⟩
  | 45 => ⟨S1x128x1x128, .f32⟩
  | 46 => ⟨S4x128x4x128, .f32⟩
  | 47 => ⟨S4x128x4x128, .f32⟩
  | 48 => ⟨S4x128x4x128, .f32⟩
  | 49 => ⟨S512x512, .f32⟩
  | 50 => ⟨S128x128, .f32⟩
  | 51 => ⟨S4x1x4x1, .f32⟩
  | 52 => ⟨S1x128x1x128, .f32⟩
  | 53 => ⟨S4x128x4x128, .f32⟩
  | 54 => ⟨S4x128x4x128, .f32⟩
  | 55 => ⟨S4x128x4x128, .f32⟩
  | 56 => ⟨S512x512, .f32⟩
  | 57 => ⟨S256, .i32⟩
  | 58 => ⟨S256x1, .i32⟩
  | 59 => ⟨S1x256, .i32⟩
  | 60 => ⟨S256x256, .i32⟩
  | 61 => ⟨S256x256, .i32⟩
  | 62 => ⟨S256x256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S256x256, .i32⟩
  | 70 => ⟨S256x256, .i32⟩
  | 71 => ⟨S_, .i32⟩
  | 72 => ⟨S256x256, .i32⟩
  | 73 => ⟨S256x256, .i1⟩
  | 74 => ⟨S_, .i32⟩
  | 75 => ⟨S256x256, .i32⟩
  | 76 => ⟨S256x256, .i1⟩
  | 77 => ⟨S_, .i32⟩
  | 78 => ⟨S_, .i1⟩
  | 79 => ⟨S256x256, .i1⟩
  | 80 => ⟨S256x256, .i1⟩
  | 81 => ⟨S256x256, .i1⟩
  | 82 => ⟨S256x256, .i32⟩
  | 83 => ⟨S256x256, .i32⟩
  | 84 => ⟨S256x256, .i32⟩
  | 85 => ⟨S256x256, .f32⟩
  | 86 => ⟨S_, .f32⟩
  | 87 => ⟨S256x256, .f32⟩
  | 88 => ⟨S256x256, .f32⟩
  | 89 => ⟨S_, .f32⟩
  | 90 => ⟨S256x256, .f32⟩
  | 91 => ⟨S256x256, .f32⟩
  | 92 => ⟨S256x256, .f32⟩
  | 93 => ⟨S256x256, .f32⟩
  | 94 => ⟨S256x256, .f32⟩
  | 95 => ⟨S256x512, .f32⟩
  | 96 => ⟨S_, .f32⟩
  | 97 => ⟨S256x512, .f32⟩
  | 98 => ⟨S256x512, .f32⟩
  | 99 => ⟨S256x512, .bf16⟩
  | 100 => ⟨S2048, .i32⟩
  | 101 => ⟨S2048x1, .i32⟩
  | 102 => ⟨S1x2048, .i32⟩
  | 103 => ⟨S2048x2048, .i32⟩
  | 104 => ⟨S2048x2048, .i32⟩
  | 105 => ⟨S2048x2048, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S2048x2048, .i32⟩
  | 113 => ⟨S2048x2048, .i32⟩
  | 114 => ⟨S_, .i32⟩
  | 115 => ⟨S2048x2048, .i32⟩
  | 116 => ⟨S2048x2048, .i1⟩
  | 117 => ⟨S_, .i32⟩
  | 118 => ⟨S2048x2048, .i32⟩
  | 119 => ⟨S2048x2048, .i1⟩
  | 120 => ⟨S_, .i32⟩
  | 121 => ⟨S_, .i1⟩
  | 122 => ⟨S2048x2048, .i1⟩
  | 123 => ⟨S2048x2048, .i1⟩
  | 124 => ⟨S2048x2048, .i1⟩
  | 125 => ⟨S2048x2048, .i32⟩
  | 126 => ⟨S2048x2048, .i32⟩
  | 127 => ⟨S2048x2048, .i32⟩
  | _ => ⟨S16x2304x7680, .f32⟩

abbrev hbmTy0_1 (i : Nat) : BufTy := match i % 128 with
  | 0 => ⟨S2048x2048, .f32⟩
  | 1 => ⟨S_, .f32⟩
  | 2 => ⟨S2048x2048, .f32⟩
  | 3 => ⟨S2048x2048, .f32⟩
  | 4 => ⟨S_, .f32⟩
  | 5 => ⟨S2048x2048, .f32⟩
  | 6 => ⟨S2048x2048, .f32⟩
  | 7 => ⟨S2048x2048, .f32⟩
  | 8 => ⟨S2048x2048, .f32⟩
  | 9 => ⟨S2048x2048, .f32⟩
  | 10 => ⟨S2048x4096, .f32⟩
  | 11 => ⟨S_, .f32⟩
  | 12 => ⟨S2048x4096, .f32⟩
  | 13 => ⟨S2048x4096, .f32⟩
  | 14 => ⟨S2048x4096, .bf16⟩
  | 15 => ⟨S512x512, .bf16⟩
  | 16 => ⟨S512x512, .bf16⟩
  | 17 => ⟨S16x2304x512, .f32⟩
  | _ => ⟨S16x2304x7680, .f32⟩

abbrev hbmTy (i : Nat) : BufTy := match i / 128 with
  | 0 => hbmTy0_0 i
  | 1 => hbmTy0_1 i
  | _ => ⟨S16x2304x7680, .f32⟩

abbrev bufTy : (tb : Table) → Fin (tcTables nBuf tb) → BufTy
  | .hbm, ⟨i, _⟩ => hbmTy i
  | .local _ .vmem, ⟨0, _⟩ => ⟨S1x2304x512, .f32⟩
  | .local _ .vmem, ⟨1, _⟩ => ⟨S1x2304x512, .f32⟩
  | .local _ .vmem, ⟨2, _⟩ => ⟨S512x512, .bf16⟩
  | .local _ .vmem, ⟨3, _⟩ => ⟨S512x512, .bf16⟩
  | .local _ .vmem, ⟨4, _⟩ => ⟨S256x512, .bf16⟩
  | .local _ .vmem, ⟨5, _⟩ => ⟨S256x512, .bf16⟩
  | .local _ .vmem, ⟨6, _⟩ => ⟨S256x4096, .bf16⟩
  | .local _ .vmem, ⟨7, _⟩ => ⟨S256x4096, .bf16⟩
  | .local _ .vmem, ⟨8, _⟩ => ⟨S1x256x512, .f32⟩
  | .local _ .vmem, ⟨9, _⟩ => ⟨S1x256x512, .f32⟩
  | .local _ .vmem, ⟨10, _⟩ => ⟨S512x512, .bf16⟩
  | .local _ .vmem, ⟨11, _⟩ => ⟨S4096x512, .bf16⟩
  | _, _ => ⟨S16x2304x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v19 : Ref sig .tc := ⟨.hbm, 49, rfl⟩
abbrev main_v20 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v28 : Ref sig .tc := ⟨.hbm, 84, rfl⟩
abbrev main_v29 : Ref sig .tc := ⟨.hbm, 85, rfl⟩
abbrev main_cst_3 : Ref sig .tc := ⟨.hbm, 86, rfl⟩
abbrev main_v30 : Ref sig .tc := ⟨.hbm, 87, rfl⟩
abbrev main_v31 : Ref sig .tc := ⟨.hbm, 88, rfl⟩
abbrev main_cst_4 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_5 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_6 : Ref sig .tc := ⟨.hbm, 106, rfl⟩
abbrev main_call4_v0 : Ref sig .tc := ⟨.hbm, 107, rfl⟩
abbrev main_call4_c : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_c_1 : Ref sig .tc := ⟨.hbm, 114, rfl⟩
abbrev main_call4_v5 : Ref sig .tc := ⟨.hbm, 115, rfl⟩
abbrev main_call4_v6 : Ref sig .tc := ⟨.hbm, 116, rfl⟩
abbrev main_call4_c_2 : Ref sig .tc := ⟨.hbm, 117, rfl⟩
abbrev main_call4_v7 : Ref sig .tc := ⟨.hbm, 118, rfl⟩
abbrev main_call4_v8 : Ref sig .tc := ⟨.hbm, 119, rfl⟩
abbrev main_call4_c_3 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_v47 : Ref sig .tc := ⟨.hbm, 127, rfl⟩
abbrev main_v48 : Ref sig .tc := ⟨.hbm, 128, rfl⟩
abbrev main_cst_7 : Ref sig .tc := ⟨.hbm, 129, rfl⟩
abbrev main_v49 : Ref sig .tc := ⟨.hbm, 130, rfl⟩
abbrev main_v50 : Ref sig .tc := ⟨.hbm, 131, rfl⟩
abbrev main_cst_8 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_cst_9 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sge arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![arg0.toNat, c0_i32.toNat, c14_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FourierRefIdeal.lean ====
abbrev S16x2304x7680 : Shape := ⟨3, ![16, 2304, 7680]⟩
abbrev S16x2304x512 : Shape := ⟨3, ![16, 2304, 512]⟩
abbrev S16x256x512 : Shape := ⟨3, ![16, 256, 512]⟩
abbrev S16x256x4x128 : Shape := ⟨4, ![16, 256, 4, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x4x128x256 : Shape := ⟨4, ![16, 4, 128, 256]⟩
abbrev S16x2048x512 : Shape := ⟨3, ![16, 2048, 512]⟩
abbrev S16x2048x4x128 : Shape := ⟨4, ![16, 2048, 4, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x128x2048 : Shape := ⟨4, ![16, 4, 128, 2048]⟩

abbrev nBuf : Space → Nat
  | .hbm => 185
  | .vmem => 0
  | .smem => 0
  | _ => 0

abbrev hbmTy0_0 (i : Nat) : BufTy := match i % 128 with
  | 0 => ⟨S16x2304x7680, .f32⟩
  | 1 => ⟨S16x2304x512, .f32⟩
  | 2 => ⟨S16x256x512, .f32⟩
  | 3 => ⟨S16x256x4x128, .f32⟩
  | 4 => ⟨S256, .i32⟩
  | 5 => ⟨S256x1, .i32⟩
  | 6 => ⟨S1x256, .i32⟩
  | 7 => ⟨S256x256, .i32⟩
  | 8 => ⟨S256x256, .i32⟩
  | 9 => ⟨S256x256, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S256x256, .i32⟩
  | 17 => ⟨S256x256, .i32⟩
  | 18 => ⟨S_, .i32⟩
  | 19 => ⟨S256x256, .i32⟩
  | 20 => ⟨S256x256, .i1⟩
  | 21 => ⟨S_, .i32⟩
  | 22 => ⟨S256x256, .i32⟩
  | 23 => ⟨S256x256, .i1⟩
  | 24 => ⟨S_, .i32⟩
  | 25 => ⟨S_, .i1⟩
  | 26 => ⟨S256x256, .i1⟩
  | 27 => ⟨S256x256, .i1⟩
  | 28 => ⟨S256x256, .i1⟩
  | 29 => ⟨S256x256, .i32⟩
  | 30 => ⟨S256x256, .i32⟩
  | 31 => ⟨S256x256, .i32⟩
  | 32 => ⟨S256x256, .f32⟩
  | 33 => ⟨S_, .f32⟩
  | 34 => ⟨S256x256, .f32⟩
  | 35 => ⟨S256x256, .f32⟩
  | 36 => ⟨S_, .f32⟩
  | 37 => ⟨S256x256, .f32⟩
  | 38 => ⟨S256x256, .f32⟩
  | 39 => ⟨S128, .i32⟩
  | 40 => ⟨S128x1, .i32⟩
  | 41 => ⟨S1x128, .i32⟩
  | 42 => ⟨S128x128, .i32⟩
  | 43 => ⟨S128x128, .i32⟩
  | 44 => ⟨S128x128, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128x128, .i32⟩
  | 52 => ⟨S128x128, .i32⟩
  | 53 => ⟨S_, .i32⟩
  | 54 => ⟨S128x128, .i32⟩
  | 55 => ⟨S128x128, .i1⟩
  | 56 => ⟨S_, .i32⟩
  | 57 => ⟨S128x128, .i32⟩
  | 58 => ⟨S128x128, .i1⟩
  | 59 => ⟨S_, .i32⟩
  | 60 => ⟨S_, .i1⟩
  | 61 => ⟨S128x128, .i1⟩
  | 62 => ⟨S128x128, .i1⟩
  | 63 => ⟨S128x128, .i1⟩
  | 64 => ⟨S128x128, .i32⟩
  | 65 => ⟨S128x128, .i32⟩
  | 66 => ⟨S128x128, .i32⟩
  | 67 => ⟨S128x128, .f32⟩
  | 68 => ⟨S_, .f32⟩
  | 69 => ⟨S128x128, .f32⟩
  | 70 => ⟨S128x128, .f32⟩
  | 71 => ⟨S_, .f32⟩
  | 72 => ⟨S128x128, .f32⟩
  | 73 => ⟨S128x128, .f32⟩
  | 74 => ⟨S128x128, .f32⟩
  | 75 => ⟨S16x256x4x128, .f32⟩
  | 76 => ⟨S128x128, .f32⟩
  | 77 => ⟨S16x256x4x128, .f32⟩
  | 78 => ⟨S256x256, .f32⟩
  | 79 => ⟨S_, .f32⟩
  | 80 => ⟨S256x256, .f32⟩
  | 81 => ⟨S256x256, .f32⟩
  | 82 => ⟨S16x4x128x256, .f32⟩
  | 83 => ⟨S16x256x4x128, .f32⟩
  | 84 => ⟨S256x256, .f32⟩
  | 85 => ⟨S256x256, .f32⟩
  | 86 => ⟨S_, .f32⟩
  | 87 => ⟨S256x256, .f32⟩
  | 88 => ⟨S256x256, .f32⟩
  | 89 => ⟨S16x4x128x256, .f32⟩
  | 90 => ⟨S16x256x4x128, .f32⟩
  | 91 => ⟨S16x256x4x128, .f32⟩
  | 92 => ⟨S16x256x512, .f32⟩
  | 93 => ⟨S16x2048x512, .f32⟩
  | 94 => ⟨S16x2048x4x128, .f32⟩
  | 95 => ⟨S2048, .i32⟩
  | 96 => ⟨S2048x1, .i32⟩
  | 97 => ⟨S1x2048, .i32⟩
  | 98 => ⟨S2048x2048, .i32⟩
  | 99 => ⟨S2048x2048, .i32⟩
  | 100 => ⟨S2048x2048, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S2048x2048, .i32⟩
  | 108 => ⟨S2048x2048, .i32⟩
  | 109 => ⟨S_, .i32⟩
  | 110 => ⟨S2048x2048, .i32⟩
  | 111 => ⟨S2048x2048, .i1⟩
  | 112 => ⟨S_, .i32⟩
  | 113 => ⟨S2048x2048, .i32⟩
  | 114 => ⟨S2048x2048, .i1⟩
  | 115 => ⟨S_, .i32⟩
  | 116 => ⟨S_, .i1⟩
  | 117 => ⟨S2048x2048, .i1⟩
  | 118 => ⟨S2048x2048, .i1⟩
  | 119 => ⟨S2048x2048, .i1⟩
  | 120 => ⟨S2048x2048, .i32⟩
  | 121 => ⟨S2048x2048, .i32⟩
  | 122 => ⟨S2048x2048, .i32⟩
  | 123 => ⟨S2048x2048, .f32⟩
  | 124 => ⟨S_, .f32⟩
  | 125 => ⟨S2048x2048, .f32⟩
  | 126 => ⟨S2048x2048, .f32⟩
  | 127 => ⟨S_, .f32⟩
  | _ => ⟨S16x2304x7680, .f32⟩

abbrev hbmTy0_1 (i : Nat) : BufTy := match i % 128 with
  | 0 => ⟨S2048x2048, .f32⟩
  | 1 => ⟨S2048x2048, .f32⟩
  | 2 => ⟨S128, .i32⟩
  | 3 => ⟨S128x1, .i32⟩
  | 4 => ⟨S1x128, .i32⟩
  | 5 => ⟨S128x128, .i32⟩
  | 6 => ⟨S128x128, .i32⟩
  | 7 => ⟨S128x128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128x128, .i32⟩
  | 15 => ⟨S128x128, .i32⟩
  | 16 => ⟨S_, .i32⟩
  | 17 => ⟨S128x128, .i32⟩
  | 18 => ⟨S128x128, .i1⟩
  | 19 => ⟨S_, .i32⟩
  | 20 => ⟨S128x128, .i32⟩
  | 21 => ⟨S128x128, .i1⟩
  | 22 => ⟨S_, .i32⟩
  | 23 => ⟨S_, .i1⟩
  | 24 => ⟨S128x128, .i1⟩
  | 25 => ⟨S128x128, .i1⟩
  | 26 => ⟨S128x128, .i1⟩
  | 27 => ⟨S128x128, .i32⟩
  | 28 => ⟨S128x128, .i32⟩
  | 29 => ⟨S128x128, .i32⟩
  | 30 => ⟨S128x128, .f32⟩
  | 31 => ⟨S_, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S128x128, .f32⟩
  | 38 => ⟨S16x2048x4x128, .f32⟩
  | 39 => ⟨S128x128, .f32⟩
  | 40 => ⟨S16x2048x4x128, .f32⟩
  | 41 => ⟨S2048x2048, .f32⟩
  | 42 => ⟨S_, .f32⟩
  | 43 => ⟨S2048x2048, .f32⟩
  | 44 => ⟨S2048x2048, .f32⟩
  | 45 => ⟨S16x4x128x2048, .f32⟩
  | 46 => ⟨S16x2048x4x128, .f32⟩
  | 47 => ⟨S2048x2048, .f32⟩
  | 48 => ⟨S2048x2048, .f32⟩
  | 49 => ⟨S_, .f32⟩
  | 50 => ⟨S2048x2048, .f32⟩
  | 51 => ⟨S2048x2048, .f32⟩
  | 52 => ⟨S16x4x128x2048, .f32⟩
  | 53 => ⟨S16x2048x4x128, .f32⟩
  | 54 => ⟨S16x2048x4x128, .f32⟩
  | 55 => ⟨S16x2048x512, .f32⟩
  | 56 => ⟨S16x2304x512, .f32⟩
  | _ => ⟨S16x2304x7680, .f32⟩

abbrev hbmTy (i : Nat) : BufTy := match i / 128 with
  | 0 => hbmTy0_0 i
  | 1 => hbmTy0_1 i
  | _ => ⟨S16x2304x7680, .f32⟩

abbrev bufTy : (tb : Table) → Fin (tcTables nBuf tb) → BufTy
  | .hbm, ⟨i, _⟩ => hbmTy i
  | _, _ => ⟨S16x2304x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_cst_3 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_4 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_5 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_6 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_c_1 : Ref sig .tc := ⟨.hbm, 109, rfl⟩
abbrev main_call2_v5 : Ref sig .tc := ⟨.hbm, 110, rfl⟩
abbrev main_call2_v6 : Ref sig .tc := ⟨.hbm, 111, rfl⟩
abbrev main_call2_c_2 : Ref sig .tc := ⟨.hbm, 112, rfl⟩
abbrev main_call2_v7 : Ref sig .tc := ⟨.hbm, 113, rfl⟩
abbrev main_call2_v8 : Ref sig .tc := ⟨.hbm, 114, rfl⟩
abbrev main_call2_c_3 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_v52 : Ref sig .tc := ⟨.hbm, 122, rfl⟩
abbrev main_v53 : Ref sig .tc := ⟨.hbm, 123, rfl⟩
abbrev main_cst_7 : Ref sig .tc := ⟨.hbm, 124, rfl⟩
abbrev main_v54 : Ref sig .tc := ⟨.hbm, 125, rfl⟩
abbrev main_v55 : Ref sig .tc := ⟨.hbm, 126, rfl⟩
abbrev main_cst_8 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_c_9 : Ref sig .tc := ⟨.hbm, 136, rfl⟩
abbrev main_call3_v0 : Ref sig .tc := ⟨.hbm, 137, rfl⟩
abbrev main_call3_c : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_c_1 : Ref sig .tc := ⟨.hbm, 144, rfl⟩
abbrev main_call3_v5 : Ref sig .tc := ⟨.hbm, 145, rfl⟩
abbrev main_call3_v6 : Ref sig .tc := ⟨.hbm, 146, rfl⟩
abbrev main_call3_c_2 : Ref sig .tc := ⟨.hbm, 147, rfl⟩
abbrev main_call3_v7 : Ref sig .tc := ⟨.hbm, 148, rfl⟩
abbrev main_call3_v8 : Ref sig .tc := ⟨.hbm, 149, rfl⟩
abbrev main_call3_c_3 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_v64 : Ref sig .tc := ⟨.hbm, 157, rfl⟩
abbrev main_v65 : Ref sig .tc := ⟨.hbm, 158, rfl⟩
abbrev main_cst_10 : Ref sig .tc := ⟨.hbm, 159, rfl⟩
abbrev main_v66 : Ref sig .tc := ⟨.hbm, 160, rfl⟩
abbrev main_v67 : Ref sig .tc := ⟨.hbm, 161, rfl⟩
abbrev main_cst_11 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_cst_12 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_cst_13 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩

abbrev nD : Nat := 1
abbrev τ : Topo := Topo.v7x

variable {F : FTy → Type} [FloatOps F]
-- ==== HgrnF.lean ====
abbrev S16x2304x7680 : Shape := ⟨3, ![16, 2304, 7680]⟩
abbrev S512 : Shape := ⟨1, ![512]⟩
abbrev S1024x128 : Shape := ⟨2, ![1024, 128]⟩
abbrev S128x128 : Shape := ⟨2, ![128, 128]⟩
abbrev S_ : Shape := ⟨0, ![]⟩
abbrev S1x512 : Shape := ⟨2, ![1, 512]⟩
abbrev S2x512 : Shape := ⟨2, ![2, 512]⟩
abbrev S16x2304x512 : Shape := ⟨3, ![16, 2304, 512]⟩
abbrev S1x128x512 : Shape := ⟨3, ![1, 128, 512]⟩
abbrev S4x128x128 : Shape := ⟨3, ![4, 128, 128]⟩
abbrev S1x128x128 : Shape := ⟨3, ![1, 128, 128]⟩
abbrev S1x128 : Shape := ⟨2, ![1, 128]⟩

abbrev nBuf : Space → Nat
  | .hbm => 14
  | .vmem => 12
  | .smem => 0
  | _ => 0

abbrev bufTy : (tb : Table) → Fin (tcTables nBuf tb) → BufTy
  | .hbm, ⟨0, _⟩ => ⟨S16x2304x7680, .f32⟩
  | .hbm, ⟨1, _⟩ => ⟨S512, .f32⟩
  | .hbm, ⟨2, _⟩ => ⟨S1024x128, .bf16⟩
  | .hbm, ⟨3, _⟩ => ⟨S128x128, .i32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | .hbm, ⟨13, _⟩ => ⟨S16x2304x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S2x512, .f32⟩
  | .local _ .vmem, ⟨7, _⟩ => ⟨S1024x128, .bf16⟩
  | .local _ .vmem, ⟨8, _⟩ => ⟨S128x128, .i32⟩
  | .local _ .vmem, ⟨9, _⟩ => ⟨S1x128x512, .f32⟩
  | .local _ .vmem, ⟨10, _⟩ => ⟨S1x128x512, .f32⟩
  | .local _ .vmem, ⟨11, _⟩ => ⟨S4x128x128, .f32⟩
  | _, _ => ⟨S16x2304x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 18], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnB.lean ====
abbrev S16x2304x7680 : Shape := ⟨3, ![16, 2304, 7680]⟩
abbrev S512 : Shape := ⟨1, ![512]⟩
abbrev S1024x128 : Shape := ⟨2, ![1024, 128]⟩
abbrev S128x128 : Shape := ⟨2, ![128, 128]⟩
abbrev S_ : Shape := ⟨0, ![]⟩
abbrev S1x512 : Shape := ⟨2, ![1, 512]⟩
abbrev S2x512 : Shape := ⟨2, ![2, 512]⟩
abbrev S16x2304x512 : Shape := ⟨3, ![16, 2304, 512]⟩
abbrev S1x128x512 : Shape := ⟨3, ![1, 128, 512]⟩
abbrev S4x128x128 : Shape := ⟨3, ![4, 128, 128]⟩
abbrev S1x128x128 : Shape := ⟨3, ![1, 128, 128]⟩
abbrev S1x128 : Shape := ⟨2, ![1, 128]⟩

abbrev nBuf : Space → Nat
  | .hbm => 14
  | .vmem => 12
  | .smem => 0
  | _ => 0

abbrev bufTy : (tb : Table) → Fin (tcTables nBuf tb) → BufTy
  | .hbm, ⟨0, _⟩ => ⟨S16x2304x7680, .f32⟩
  | .hbm, ⟨1, _⟩ => ⟨S512, .f32⟩
  | .hbm, ⟨2, _⟩ => ⟨S1024x128, .bf16⟩
  | .hbm, ⟨3, _⟩ => ⟨S128x128, .i32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | .hbm, ⟨13, _⟩ => ⟨S16x2304x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S2x512, .f32⟩
  | .local _ .vmem, ⟨7, _⟩ => ⟨S1024x128, .bf16⟩
  | .local _ .vmem, ⟨8, _⟩ => ⟨S128x128, .i32⟩
  | .local _ .vmem, ⟨9, _⟩ => ⟨S1x128x512, .f32⟩
  | .local _ .vmem, ⟨10, _⟩ => ⟨S1x128x512, .f32⟩
  | .local _ .vmem, ⟨11, _⟩ => ⟨S4x128x128, .f32⟩
  | _, _ => ⟨S16x2304x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 18], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c19_i32 : BitVec 32 := 19#32
  let v2 : BitVec 32 := Scalar.subi c19_i32 arg1
  let v3 : BitVec 32 := Scalar.select v0 v1 v2
  let c6_i32 : BitVec 32 := 6#32
  let c0_i32 : BitVec 32 := 0#32
  ![arg0.toNat, v3.toNat, c6_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c19_i32 : BitVec 32 := 19#32
  let v2 : BitVec 32 := Scalar.subi c19_i32 arg1
  let v3 : BitVec 32 := Scalar.select v0 v1 v2
  let c8_i32 : BitVec 32 := 8#32
  let c0_i32 : BitVec 32 := 0#32
  ![arg0.toNat, v3.toNat, c8_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c19_i32 : BitVec 32 := 19#32
  let v2 : BitVec 32 := Scalar.subi c19_i32 arg1
  let v3 : BitVec 32 := Scalar.select v0 v1 v2
  let c9_i32 : BitVec 32 := 9#32
  let c0_i32 : BitVec 32 := 0#32
  ![arg0.toNat, v3.toNat, c9_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c19_i32 : BitVec 32 := 19#32
  let v2 : BitVec 32 := Scalar.subi c19_i32 arg1
  let v3 : BitVec 32 := Scalar.select v0 v1 v2
  let c0_i32 : BitVec 32 := 0#32
  let c0_i32_0 : BitVec 32 := 0#32
  ![arg0.toNat, v3.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Router.lean ====
abbrev S64x36864 : Shape := ⟨2, ![64, 36864]⟩
abbrev S64 : Shape := ⟨1, ![64]⟩
abbrev S8x8 : Shape := ⟨2, ![8, 8]⟩
abbrev S64x1 : Shape := ⟨2, ![64, 1]⟩
abbrev S64x512 : Shape := ⟨2, ![64, 512]⟩
abbrev S8x512 : Shape := ⟨2, ![8, 512]⟩
abbrev S512 : Shape := ⟨1, ![512]⟩
abbrev S1x512 : Shape := ⟨2, ![1, 512]⟩

abbrev nBuf : Space → Nat
  | .hbm => 8
  | .vmem => 5
  | .smem => 0
  | _ => 0

abbrev bufTy : (tb : Table) → Fin (tcTables nBuf tb) → BufTy
  | .hbm, ⟨0, _⟩ => ⟨S64x36864, .f32⟩
  | .hbm, ⟨1, _⟩ => ⟨S64, .f32⟩
  | .hbm, ⟨2, _⟩ => ⟨S8x8, .f32⟩
  | .hbm, ⟨3, _⟩ => ⟨S8x8, .f32⟩
  | .hbm, ⟨4, _⟩ => ⟨S64, .f32⟩
  | .hbm, ⟨5, _⟩ => ⟨S64x1, .f32⟩
  | .hbm, ⟨6, _⟩ => ⟨S64x512, .f32⟩
  | .hbm, ⟨7, _⟩ => ⟨S64x36864, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | _, _ => ⟨S64x36864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proof.AdaValue.lean ====
module

public import proofs.«01_k».proof.Proof.Gen.AdaIdeal.Value
public import proofs.«01_k».proof.Proof.Gen.AdaRefIdeal.Run
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.AdaSpec

/-- One modulation: the conditioning vector through `silu`, against one column of the weight, and the bias. -/
def row (v : Fin 1024 → EReal) (W : (⟨2, ![1024, 6144]⟩ : Shape).Idx → EReal) (B : (⟨1, ![6144]⟩ : Shape).Idx → EReal)
    (d : Fin 6144) : EReal :=
  (∑ k : Fin 1024, v k * Ideal.logistic (v k) * W (ix2 k d)) + B (ix1 d)

/-- A conditioning vector of zeros leaves the bias. -/
theorem row_zero (W : (⟨2, ![1024, 6144]⟩ : Shape).Idx → EReal) (B : (⟨1, ![6144]⟩ : Shape).Idx → EReal) (d : Fin 6144) :
    row (fun _ => 0) W B d = B (ix1 d) := by
  simp only [row, zero_mul, Finset.sum_const_zero, zero_add]

/-- The 24 conditioning vectors: the batches', the context's, and seven of zeros. -/
def cond (C : (⟨2, ![16, 1024]⟩ : Shape).Idx → EReal) (C' : (⟨1, ![1024]⟩ : Shape).Idx → EReal) (n : Fin 24)
    (k : Fin 1024) : EReal :=
  if h : (n : ℕ) < 16 then C (ix2 ⟨n, h⟩ k) else if (n : ℕ) < 17 then C' (ix1 k) else 0

end Cert.AdaSpec

section Reference
open Cert.AdaRefIdeal Cert.AdaRefIdeal.Gen

/-- A concatenation of 16, 1 and 7 rows, entry by entry. -/
theorem Cert.AdaRefIdeal.Value.concat_at (a : Vec Ideal S16x6144 .f32) (b : Vec Ideal S1x6144 .f32)
    (e : Vec Ideal S7x6144 .f32) (H) (C : (⟨2, ![16, 1024]⟩ : Shape).Idx → EReal) (C' : (⟨1, ![1024]⟩ : Shape).Idx → EReal)
    (W : (⟨2, ![1024, 6144]⟩ : Shape).Idx → EReal) (B : (⟨1, ![6144]⟩ : Shape).Idx → EReal)
    (ha : ∀ n d, a (ix2 n d) = Cert.AdaSpec.row (fun k => C (ix2 n k)) W B d)
    (hb : ∀ n d, b (ix2 n d) = Cert.AdaSpec.row (fun k => C' (ix1 k)) W B d)
    (he : ∀ n d, e (ix2 n d) = B (ix1 d)) (n : Fin 24) (d : Fin 6144) :
    (concatenate S24x6144 0 [⟨S16x6144, a⟩, ⟨S1x6144, b⟩, ⟨S7x6144, e⟩] H : Vec Ideal S24x6144 .f32) (ix2 n d) =
      Cert.AdaSpec.row (Cert.AdaSpec.cond C C' n) W B d := by
  pointwise []
  by_cases h : (n : ℕ) < 16
  · rw [dif_pos h, ha]
    congr 1
    exact funext fun k => (show Cert.AdaSpec.cond C C' n k = _ from dif_pos h).symm
  by_cases h2 : (n : ℕ) < 17
  · rw [dif_neg h, dif_pos (by omega), hb]
    congr 1
    exact funext fun k => (show Cert.AdaSpec.cond C C' n k = _ from (dif_neg h).trans (if_pos h2)).symm
  · rw [dif_neg h, dif_neg (by omega), he, ← Cert.AdaSpec.row_zero W B d]
    congr 1
    exact funext fun k => (show Cert.AdaSpec.cond C C' n k = _ from (dif_neg h).trans (if_neg h2)).symm

/-- The reference's run ends with the modulations, and the arguments unchanged. -/
theorem Cert.AdaRefIdeal.Value.run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun j : S24x6144.Idx => Cert.AdaSpec.row (Cert.AdaSpec.cond
        (m ((c.tc : Thread nD τ).loc main_arg0)) (m ((c.tc : Thread nD τ).loc main_arg1)) (j 0))
        (m ((c.tc : Thread nD τ).loc main_arg2)) (m ((c.tc : Thread nD τ).loc main_arg3)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (Cert.AdaRefIdeal.Value.run m ρ) fun r hr c => ⟨?_, (hr c).2⟩
  rw [(hr c).1]
  funext j
  refine (congrArg _ (eq_ix2 (n0 := 24) (n1 := 6144) j)).trans (Cert.AdaRefIdeal.Value.concat_at _ _ _ _ _ _ _ _
    (fun n d => ?_) (fun n d => ?_) (fun n d => ?_) (j 0) (j 1))
  · pointwise []
    rfl
  · pointwise []
    rfl
  · pointwise []

end Reference

namespace Cert.AdaIdeal.Value
open Cert.AdaIdeal Cert.AdaIdeal.Gen

/-- What the body stores, entry by entry, of the blocks it loads. -/
theorem pay_at (v0 : Vec Ideal S24x1024 .f32) (v4 : Vec Ideal S1024x1536 .f32) (v6 : Vec Ideal S1x1536 .f32)
    (n : Fin 24) (d : Fin 1536) :
    k0_pay1 v0 v4 v6 (ix2 n d) =
      (∑ k : Fin 1024, v0 (ix2 n k) * Ideal.logistic (v0 (ix2 n k)) * v4 (ix2 k d)) + v6 (ix2 0 d) := by
  pointwise [k0_pay1]
  try rfl

/-- A concatenation of 16 rows, one row and 7 rows of zeros, entry by entry. -/
theorem concat_at (a : Vec Ideal S16x1024 .f32) (b : Vec Ideal S1x1024 .f32) (e : Vec Ideal S7x1024 .f32) (H)
    (C' : Fin 1024 → EReal) (hb : ∀ n k, b (ix2 n k) = C' k) (he : ∀ n k, e (ix2 n k) = (0 : EReal))
    (n : Fin 24) (k : Fin 1024) :
    (concatenate S24x1024 0 [⟨S16x1024, a⟩, ⟨S1x1024, b⟩, ⟨S7x1024, e⟩] H : Vec Ideal S24x1024 .f32) (ix2 n k) =
      if h : (n : ℕ) < 16 then a (ix2 ⟨n, h⟩ k) else if (n : ℕ) < 17 then C' k else (0 : EReal) := by
  pointwise []
  by_cases h : (n : ℕ) < 16
  · rw [dif_pos h, dif_pos h]
  by_cases h2 : (n : ℕ) < 17
  · rw [dif_neg h, dif_neg h, if_pos h2, dif_pos (by omega), hb]
  · rw [dif_neg h, dif_neg h, if_neg h2, dif_neg (by omega), he]

variable (m : (ℓ : Loc nD τ sig) → Buf (Elt Ideal) ℓ)

/-- Where each window's block lies at grid point `t`: column tile `t`. -/
theorem idx : ∀ t : Fin cfg0.N, win0_0.index t = ![0, 0] ∧ win0_1.index t = ![0, t.val] ∧ win0_2.index t = ![0, t.val] ∧
    win0_3.index t = ![0, t.val] :=
  (by decide +kernel : ∀ t : Fin grid0.N, _)

/-- The conditioning vectors as the launch lays them out. -/
theorem cond_at (c : Dev nD) (n : Fin 24) (k : Fin 1024) :
    (V m c main_v2 : S24x1024.Idx → EReal) (ix2 n k) =
      Cert.AdaSpec.cond (m ((c.tc : Thread nD τ).loc main_arg0)) (m ((c.tc : Thread nD τ).loc main_arg1)) n k := by
  unfold V
  after_reads_simp
  refine concat_at _ _ _ _ (fun k => (m ((c.tc : Thread nD τ).loc main_arg1) : S1024.Idx → EReal) (ix1 k))
    (fun n l => ?_) (fun n l => ?_) n k
  · refine (congrFun (StableHlo.unary_result _ _ _ _ _ _) _).trans ?_
    pointwise []
    rfl
  · refine (congrFun (StableHlo.unary_result _ _ _ _ _ _) _).trans ?_
    pointwise []
    after_reads_simp
    pointwise []

/-- The bias as the launch lays it out. -/
theorem bias_at (c : Dev nD) (d : Fin 6144) :
    (V m c main_v3 : S1x6144.Idx → EReal) (ix2 0 d) =
      (m ((c.tc : Thread nD τ).loc main_arg3) : S6144.Idx → EReal) (ix1 d) := by
  entry_read
  pointwise []
  try rfl

/-- At one grid point the body's block is the modulations there. -/
theorem point (c : Dev nD) (t : Fin cfg0.N) (n : Fin 24) (d : Fin 1536) (n' : Fin 24) (d' : Fin 6144)
    (hn : (n' : ℕ) = n) (hd : (d' : ℕ) = t.val * 1536 + d) :
    k0_pay1 (iblk m c 0 t) (iblk m c 1 t) (iblk m c 2 t) (ix2 n d) =
      Cert.AdaSpec.row (Cert.AdaSpec.cond (m ((c.tc : Thread nD τ).loc main_arg0)) (m ((c.tc : Thread nD τ).loc main_arg1))
        n') (m ((c.tc : Thread nD τ).loc main_arg2)) (m ((c.tc : Thread nD τ).loc main_arg3)) d' := by
  have h0 : ∀ k : Fin 1024, iblk m c 0 t (ix2 n k) = Cert.AdaSpec.cond (m ((c.tc : Thread nD τ).loc main_arg0))
      (m ((c.tc : Thread nD τ).loc main_arg1)) n' k := fun k =>
    (show _ = (V m c main_v2 : S24x1024.Idx → EReal) (ix2 n' k) by blk_point [iblk, idx t]).trans (cond_at m c n' k)
  have h1 : ∀ k : Fin 1024, iblk m c 1 t (ix2 k d) =
      (m ((c.tc : Thread nD τ).loc main_arg2) : S1024x6144.Idx → EReal) (ix2 k d') := fun k => by
    blk_point [iblk, V, idx t]
  have h2 : iblk m c 2 t (ix2 0 d) = (m ((c.tc : Thread nD τ).loc main_arg3) : S6144.Idx → EReal) (ix1 d') :=
    (show _ = (V m c main_v3 : S1x6144.Idx → EReal) (ix2 0 d') by blk_point [iblk, idx t]).trans (bias_at m c d')
  rw [pay_at, h2, Cert.AdaSpec.row]
  exact congrArg (· + _) (Finset.sum_congr rfl fun k _ => by rw [h0, h1])

/-- The kernel's result array, entry by entry. -/
theorem final (c : Dev nD) :
    (dats m 0 c).arrAt 3 cfg0.N = fun j : S24x6144.Idx =>
      Cert.AdaSpec.row (Cert.AdaSpec.cond (m ((c.tc : Thread nD τ).loc main_arg0)) (m ((c.tc : Thread nD τ).loc main_arg1))
        (j 0)) (m ((c.tc : Thread nD τ).loc main_arg2)) (m ((c.tc : Thread nD τ).loc main_arg3)) (j 1) := by
  refine (dats m 0 c).arrAt_eq_of_covers 3 _ (by decide +kernel) fun t _ y => ?_
  have e0 : (((cfg0.win 3).blk t).view.emb y 0 : ℕ) = y 0 := by blk_simp [idx t]
  have e1 : (((cfg0.win 3).blk t).view.emb y 1 : ℕ) = t.val * 1536 + y 1 := by blk_simp [idx t]
  have hy : y = (ix2 (y 0) (y 1) : S24x1536.Idx) := eq_ix2 (n0 := 24) (n1 := 1536) y
  blk_simp
  rw [after0_3]
  frame_out
  exact (congrArg _ hy).trans (point m c t (y 0) (y 1) _ _ e0 e1)

end Cert.AdaIdeal.Value
-- ==== Proof.AttnMath.lean ====
module

public import Idealize.ShloMosaic.Lib.Pointwise

@[expose] public section

set_option maxRecDepth 16384

noncomputable section

open Idealize.ShloMosaic

namespace Cert.Soft

/-- A finite extended real is a real number. -/
theorem real_of_finite {x : EReal} (h : x ≠ ⊤ ∧ x ≠ ⊥) : ∃ r : ℝ, x = (r : EReal) :=
  ⟨x.toReal, (EReal.coe_toReal h.1 h.2).symm⟩

/-- A finite array is an array of real numbers. -/
theorem reals_of_finite {ι : Type} {f : ι → EReal} (h : ∀ i, f i ≠ ⊤ ∧ f i ≠ ⊥) : ∃ r : ι → ℝ, f = fun i => (r i : EReal) :=
  ⟨fun i => (f i).toReal, funext fun i => (EReal.coe_toReal (h i).1 (h i).2).symm⟩

/-- A finite sum of real numbers is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of finite terms is finite. -/
theorem finite_sum {ι : Type} (s : Finset ι) (f : ι → EReal) (h : ∀ i, f i ≠ ⊤ ∧ f i ≠ ⊥) :
    ∑ i ∈ s, f i ≠ ⊤ ∧ ∑ i ∈ s, f i ≠ ⊥ := by
  obtain ⟨r, rfl⟩ := reals_of_finite h
  rw [← coe_sum]
  exact ⟨EReal.coe_ne_top _, EReal.coe_ne_bot _⟩

/-- A product of finite numbers is finite. -/
theorem finite_mul {x y : EReal} (hx : x ≠ ⊤ ∧ x ≠ ⊥) (hy : y ≠ ⊤ ∧ y ≠ ⊥) : x * y ≠ ⊤ ∧ x * y ≠ ⊥ := by
  obtain ⟨a, rfl⟩ := real_of_finite hx
  obtain ⟨b, rfl⟩ := real_of_finite hy
  rw [← EReal.coe_mul]
  exact ⟨EReal.coe_ne_top _, EReal.coe_ne_bot _⟩

/-- The word of minus infinity. -/
theorem neg_inf : Ideal.ofBits .f32 0xFF800000#32 = ⊥ := by simp [Ideal.ofBits, Ideal.ieee]

/-- The greatest entry of a row of scores. -/
def top {n : ℕ} (s : Fin n → EReal) : EReal := Finset.fold max (Ideal.ofBits .f32 0xFF800000#32) s Finset.univ

/-- The softmax's numerators: the exponential of a score less the greatest score of its row. -/
def num {n : ℕ} (s : Fin n → EReal) (x : Fin n) : EReal := Ideal.exp (s x - top s)

/-- The greatest entry of a finite row is finite. -/
theorem top_finite {n : ℕ} (hn : 0 < n) {s : Fin n → EReal} (h : ∀ x, s x ≠ ⊤ ∧ s x ≠ ⊥) : top s ≠ ⊤ ∧ top s ≠ ⊥ := by
  constructor
  · refine ne_of_lt ((Finset.fold_max_lt (c := (⊤ : EReal))).2 ⟨?_, fun x _ => lt_top_iff_ne_top.2 (h x).1⟩)
    rw [neg_inf]; exact bot_lt_top
  · refine ne_of_gt (lt_of_lt_of_le (bot_lt_iff_ne_bot.2 (h ⟨0, hn⟩).2) ?_)
    exact (Finset.le_fold_max _).2 (Or.inr ⟨_, Finset.mem_univ _, le_rfl⟩)

/-- The numerators of a finite row are positive real numbers. -/
theorem num_real {n : ℕ} {s : Fin n → EReal} (h : ∀ x, s x ≠ ⊤ ∧ s x ≠ ⊥) :
    ∃ e : Fin n → ℝ, (∀ x, 0 < e x) ∧ num s = fun x => (e x : EReal) := by
  rcases Nat.eq_zero_or_pos n with rfl | hn
  · exact ⟨fun _ => 1, fun _ => one_pos, funext fun x => x.elim0⟩
  obtain ⟨M, hM⟩ := real_of_finite (top_finite hn h)
  obtain ⟨r, rfl⟩ := reals_of_finite h
  refine ⟨fun x => Real.exp (r x - M), fun x => Real.exp_pos _, funext fun x => ?_⟩
  rw [num, hM, ← EReal.coe_sub]
  rfl

/-- Two softmax rows, the second scaled by `l` and subtracted, applied to one column of the values: the quotients may
be taken after the sums or before them. -/
theorem heads_eq {n : ℕ} (hn : 0 < n) {s u v : Fin n → EReal} {l : EReal} (hs : ∀ x, s x ≠ ⊤ ∧ s x ≠ ⊥)
    (hu : ∀ x, u x ≠ ⊤ ∧ u x ≠ ⊥) (hv : ∀ x, v x ≠ ⊤ ∧ v x ≠ ⊥) (hl : l ≠ ⊤ ∧ l ≠ ⊥) :
    Ideal.div (∑ x, num s x * v x) (∑ x, num s x) - l * Ideal.div (∑ x, num u x * v x) (∑ x, num u x) =
      ∑ x, v x * (Ideal.div (num s x) (∑ y, num s y) - l * Ideal.div (num u x) (∑ y, num u y)) := by
  obtain ⟨e, he, hse⟩ := num_real hs
  obtain ⟨f, hf, huf⟩ := num_real hu
  obtain ⟨w, rfl⟩ := reals_of_finite hv
  obtain ⟨a, rfl⟩ := real_of_finite hl
  rw [hse, huf]
  have hE : (∑ x, e x) ≠ 0 := ne_of_gt (Finset.sum_pos (fun x _ => he x) ⟨⟨0, hn⟩, Finset.mem_univ _⟩)
  have hF : (∑ x, f x) ≠ 0 := ne_of_gt (Finset.sum_pos (fun x _ => hf x) ⟨⟨0, hn⟩, Finset.mem_univ _⟩)
  simp only [← coe_sum, ← EReal.coe_mul, Ideal.div_coe hE, Ideal.div_coe hF, ← EReal.coe_sub]
  refine congrArg _ ?_
  rw [Finset.sum_mul, Finset.sum_mul, Finset.mul_sum, ← Finset.sum_sub_distrib]
  exact Finset.sum_congr rfl fun x _ => by ring

end Cert.Soft
-- ==== Proof.AttnRef.lean ====
module

public import proofs.«01_k».proof.Proof.Gen.AttnRefIdeal.Run
public import proofs.«01_k».proof.Proof.AttnMath
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

/-! The attention's specification, entry by entry, and the reference read down to it. -/

namespace Cert.AttnSpec

/-- Lane `k` of half `g` of a head's 128 lanes. -/
def half (g : Fin 2) (k : Fin 64) : Fin 128 := ⟨(g : ℕ) * 64 + k, by omega⟩

/-- Column `j` of head `h`. -/
def lane (h : Fin 4) (j : Fin 128) : Fin 512 := ⟨(h : ℕ) * 128 + j, by omega⟩

/-- A key among the first `n` rows, as a row of the whole array. -/
def row {n : ℕ} (hn : n ≤ 2304) (x : Fin n) : Fin 2304 := ⟨x, by omega⟩

/-- The score of query `t` against key `x`, of half `g` of head `h` of batch `b`. -/
def score (Q K : (⟨3, ![16, 2304, 512]⟩ : Shape).Idx → EReal) (b : Fin 16) (h : Fin 4) (g : Fin 2) (t x : Fin 2304) : EReal :=
  ∑ k : Fin 64, Q (ix3 b t (lane h (half g k))) * K (ix3 b x (lane h (half g k)))

/-- One head's output for query `t` on the first `n` keys: the difference of its two softmax rows, the second scaled by
`l`, applied to column `d` of the values. -/
def head {n : ℕ} (hn : n ≤ 2304) (Q K W : (⟨3, ![16, 2304, 512]⟩ : Shape).Idx → EReal) (l : EReal)
    (b : Fin 16) (h : Fin 4) (t : Fin 2304) (d : Fin 128) : EReal :=
  ∑ x : Fin n, W (ix3 b (row hn x) (lane h d)) *
    (Ideal.div (Cert.Soft.num (fun x : Fin n => score Q K b h 0 t (row hn x)) x)
        (∑ y : Fin n, Cert.Soft.num (fun x : Fin n => score Q K b h 0 t (row hn x)) y)
      - l * Ideal.div (Cert.Soft.num (fun x : Fin n => score Q K b h 1 t (row hn x)) x)
        (∑ y : Fin n, Cert.Soft.num (fun x : Fin n => score Q K b h 1 t (row hn x)) y))

/-- The scale of the second softmax, of the four learned vectors and the initial value. -/
def lam (L : (⟨2, ![4, 64]⟩ : Shape).Idx → EReal) (I : (⟨1, ![1]⟩ : Shape).Idx → EReal) : EReal :=
  Ideal.exp (∑ x : Fin 64, L (ix2 0 x) * L (ix2 1 x)) - Ideal.exp (∑ x : Fin 64, L (ix2 2 x) * L (ix2 3 x)) + I (ix1 0)

/-- The attention at one index: a context query sees the 256 context keys, a latent query sees all keys. -/
def out (Q K W : (⟨3, ![16, 2304, 512]⟩ : Shape).Idx → EReal) (L : (⟨2, ![4, 64]⟩ : Shape).Idx → EReal)
    (I : (⟨1, ![1]⟩ : Shape).Idx → EReal) (b : Fin 16) (t : Fin 2304) (h : Fin 4) (d : Fin 128) : EReal :=
  if (t : ℕ) < 256 then head (n := 256) (by decide) Q K W (lam L I) b h t d
  else head (n := 2304) le_rfl Q K W (lam L I) b h t d

/-- The same by the column of the result: column `d` is lane `d % 128` of head `d / 128`. -/
def outCol (Q K W : (⟨3, ![16, 2304, 512]⟩ : Shape).Idx → EReal) (L : (⟨2, ![4, 64]⟩ : Shape).Idx → EReal)
    (I : (⟨1, ![1]⟩ : Shape).Idx → EReal) (b : Fin 16) (t : Fin 2304) (d : Fin 512) : EReal :=
  out Q K W L I b t ⟨(d : ℕ) / 128, by omega⟩ ⟨(d : ℕ) % 128, by omega⟩

end Cert.AttnSpec

namespace Cert.AttnRefIdeal.Value
open Cert.AttnRefIdeal Cert.AttnRefIdeal.Gen Cert.AttnSpec

/-- The scale, as the reference composes it. -/
def lamda (L : FVec Ideal S4x64 .f32) (I : FVec Ideal S1 .f32) : FVec Ideal S_ .f32 :=
  addf (subf (Host.exp (Host.reduceAdd (mulf (shapeCast _ (extractStridedSlice S1x64 ![0, 0] L slices_S4x64_S1x64_0_0) shapeCasts_S1x64_S64) (shapeCast _ (extractStridedSlice S1x64 ![1, 0] L slices_S4x64_S1x64_1_0) shapeCasts_S1x64_S64)) (constant S_ .f32 0x00000000#32) reducesTo_S64_S_d0 h_S_)) (Host.exp (Host.reduceAdd (mulf (shapeCast _ (extractStridedSlice S1x64 ![2, 0] L slices_S4x64_S1x64_2_0) shapeCasts_S1x64_S64) (shapeCast _ (extractStridedSlice S1x64 ![3, 0] L slices_S4x64_S1x64_3_0) shapeCasts_S1x64_S64)) (constant S_ .f32 0x00000000#32) reducesTo_S64_S_d0 h_S_))) (shapeCast _ I shapeCasts_S1_S_)

/-- The context queries' scores. -/
def scoresC (Q K : FVec Ideal S16x2304x512 .bf16) : FVec Ideal S16x4x2x256x256 .f32 :=
  Host.dotGeneral dot_S16x256x4x2x64_S16x256x4x2x64_S16x4x2x256x256_4_4_1_1_023_023 none (extractStridedSlice S16x256x4x2x64 ![0, 0, 0, 0, 0] (shapeCast _ (extf .f32 Q bitsLt_bf16_f32) shapeCasts_S16x2304x512_S16x2304x4x2x64) slices_S16x2304x4x2x64_S16x256x4x2x64_0_0_0_0_0) (extractStridedSlice S16x256x4x2x64 ![0, 0, 0, 0, 0] (shapeCast _ (extf .f32 K bitsLt_bf16_f32) shapeCasts_S16x2304x512_S16x2304x4x2x64) slices_S16x2304x4x2x64_S16x256x4x2x64_0_0_0_0_0)

/-- The greatest score of each context query. -/
def topsC (S : FVec Ideal S16x4x2x256x256 .f32) : FVec Ideal S16x4x2x256 .f32 :=
  Host.reduce FloatOps.maximumf S (constant S_ .f32 0xFF800000#32) reducesTo_S16x4x2x256x256_S16x4x2x256_d4 h_S_

/-- That maximum, not below minus infinity. -/
def capsC (M : FVec Ideal S16x4x2x256 .f32) : FVec Ideal S16x4x2x256 .f32 :=
  maximumf (broadcastInDim S16x4x2x256 ![] bcast_S_S16x4x2x256 (constant S_ .f32 0xFF800000#32)) M

/-- The context queries' softmax numerators. -/
def expsC (S : FVec Ideal S16x4x2x256x256 .f32) : FVec Ideal S16x4x2x256x256 .f32 :=
  Host.exp (subf S (broadcastInDim S16x4x2x256x256 ![0, 1, 2, 3, 4] bcast_S16x4x2x256x1_S16x4x2x256x256_0_1_2_3_4 (broadcastInDim S16x4x2x256x1 ![0, 1, 2, 3] bcast_S16x4x2x256_S16x4x2x256x1_0_1_2_3 (capsC (topsC S)))))

/-- The context queries' softmax. -/
def probsC (E : FVec Ideal S16x4x2x256x256 .f32) : FVec Ideal S16x4x2x256x256 .f32 :=
  Host.divf E (broadcastInDim S16x4x2x256x256 ![0, 1, 2, 3, 4] bcast_S16x4x2x256x1_S16x4x2x256x256_0_1_2_3_4 (broadcastInDim S16x4x2x256x1 ![0, 1, 2, 3] bcast_S16x4x2x256_S16x4x2x256x1_0_1_2_3 (Host.reduceAdd E (constant S_ .f32 0x00000000#32) reducesTo_S16x4x2x256x256_S16x4x2x256_d4 h_S_)))

/-- The context queries' heads. -/
def headsC (W : FVec Ideal S16x2304x512 .bf16) (P : FVec Ideal S16x4x2x256x256 .f32) (l : FVec Ideal S_ .f32) : FVec Ideal S16x256x4x128 .f32 :=
  transpose S16x256x4x128 [0, 3, 1, 2] (Host.dotGeneral dot_S16x256x4x128_S16x4x256x256_S16x4x128x256_1_3_3_2_02_01 none (extractStridedSlice S16x256x4x128 ![0, 0, 0, 0] (shapeCast _ (extf .f32 W bitsLt_bf16_f32) shapeCasts_S16x2304x512_S16x2304x4x128) slices_S16x2304x4x128_S16x256x4x128_0_0_0_0) (subf (shapeCast _ (extractStridedSlice S16x4x1x256x256 ![0, 0, 0, 0, 0] P slices_S16x4x2x256x256_S16x4x1x256x256_0_0_0_0_0) shapeCasts_S16x4x1x256x256_S16x4x256x256) (mulf (broadcastInDim S16x4x256x256 ![] bcast_S_S16x4x256x256 l) (shapeCast _ (extractStridedSlice S16x4x1x256x256 ![0, 0, 1, 0, 0] P slices_S16x4x2x256x256_S16x4x1x256x256_0_0_1_0_0) shapeCasts_S16x4x1x256x256_S16x4x256x256)))) transposes_S16x4x128x256_S16x256x4x128_0_3_1_2

/-- The latent queries' scores. -/
def scoresL (Q K : FVec Ideal S16x2304x512 .bf16) : FVec Ideal S16x4x2x2048x2304 .f32 :=
  Host.dotGeneral dot_S16x2048x4x2x64_S16x2304x4x2x64_S16x4x2x2048x2304_4_4_1_1_023_023 none (extractStridedSlice S16x2048x4x2x64 ![0, 256, 0, 0, 0] (shapeCast _ (extf .f32 Q bitsLt_bf16_f32) shapeCasts_S16x2304x512_S16x2304x4x2x64) slices_S16x2304x4x2x64_S16x2048x4x2x64_0_256_0_0_0) (shapeCast _ (extf .f32 K bitsLt_bf16_f32) shapeCasts_S16x2304x512_S16x2304x4x2x64)

/-- The greatest score of each latent query. -/
def topsL (S : FVec Ideal S16x4x2x2048x2304 .f32) : FVec Ideal S16x4x2x2048 .f32 :=
  Host.reduce FloatOps.maximumf S (constant S_ .f32 0xFF800000#32) reducesTo_S16x4x2x2048x2304_S16x4x2x2048_d4 h_S_

/-- That maximum, not below minus infinity. -/
def capsL (M : FVec Ideal S16x4x2x2048 .f32) : FVec Ideal S16x4x2x2048 .f32 :=
  maximumf (broadcastInDim S16x4x2x2048 ![] bcast_S_S16x4x2x2048 (constant S_ .f32 0xFF800000#32)) M

/-- The latent queries' softmax numerators. -/
def expsL (S : FVec Ideal S16x4x2x2048x2304 .f32) : FVec Ideal S16x4x2x2048x2304 .f32 :=
  Host.exp (subf S (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (capsL (topsL S)))))

/-- The latent queries' softmax. -/
def probsL (E : FVec Ideal S16x4x2x2048x2304 .f32) : FVec Ideal S16x4x2x2048x2304 .f32 :=
  Host.divf E (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (Host.reduceAdd E (constant S_ .f32 0x00000000#32) reducesTo_S16x4x2x2048x2304_S16x4x2x2048_d4 h_S_)))

/-- The latent queries' heads. -/
def headsL (W : FVec Ideal S16x2304x512 .bf16) (P : FVec Ideal S16x4x2x2048x2304 .f32) (l : FVec Ideal S_ .f32) : FVec Ideal S16x2048x4x128 .f32 :=
  transpose S16x2048x4x128 [0, 3, 1, 2] (Host.dotGeneral dot_S16x2304x4x128_S16x4x2048x2304_S16x4x128x2048_1_3_3_2_02_01 none (shapeCast _ (extf .f32 W bitsLt_bf16_f32) shapeCasts_S16x2304x512_S16x2304x4x128) (subf (shapeCast _ (extractStridedSlice S16x4x1x2048x2304 ![0, 0, 0, 0, 0] P slices_S16x4x2x2048x2304_S16x4x1x2048x2304_0_0_0_0_0) shapeCasts_S16x4x1x2048x2304_S16x4x2048x2304) (mulf (broadcastInDim S16x4x2048x2304 ![] bcast_S_S16x4x2048x2304 l) (shapeCast _ (extractStridedSlice S16x4x1x2048x2304 ![0, 0, 1, 0, 0] P slices_S16x4x2x2048x2304_S16x4x1x2048x2304_0_0_1_0_0) shapeCasts_S16x4x1x2048x2304_S16x4x2048x2304)))) transposes_S16x4x128x2048_S16x2048x4x128_0_3_1_2

/-- The reference's result, as it composes it of its arguments. -/
def res (Q K W : FVec Ideal S16x2304x512 .bf16) (L : FVec Ideal S4x64 .f32) (I : FVec Ideal S1 .f32) : FVec Ideal S16x2304x512 .f32 :=
  shapeCast _ (concatenate S16x2304x4x128 1 [⟨S16x256x4x128, (headsC W (probsC (expsC (scoresC Q K))) (lamda L I))⟩, ⟨S16x2048x4x128, (headsL W (probsL (expsL (scoresL Q K))) (lamda L I))⟩] concatenates_S16x256x4x128_S16x2048x4x128_S16x2304x4x128_d1) shapeCasts_S16x2304x4x128_S16x2304x512

/-- The greatest entry along the last axis of a rank-five array. -/
theorem top_at {n0 n1 n2 n3 n4 : ℕ} (S : FVec Ideal ⟨5, ![n0, n1, n2, n3, n4]⟩ .f32)
    (h' : (⟨5, ![n0, n1, n2, n3, n4]⟩ : Shape).ReducesTo [4] ⟨4, ![n0, n1, n2, n3]⟩)
    (b : Fin n0) (h : Fin n1) (g : Fin n2) (t : Fin n3) :
    Host.reduce FloatOps.maximumf S (constant S_ .f32 0xFF800000#32) h' h_S_ (ix4 b h g t) =
      Cert.Soft.top fun x => S (ix5 b h g t x) :=
  (Host.reduce_eq_fold _ _ _ _ _ _).trans ((h'.fold_fiber_r5_a4 _ _ _ _).trans rfl)

/-- Starting the maximum from minus infinity changes nothing. -/
theorem max_top {n : ℕ} (s : Fin n → EReal) : max (Ideal.ofBits .f32 0xFF800000#32) (Cert.Soft.top s) = Cert.Soft.top s := by
  rw [Cert.Soft.neg_inf]
  exact max_eq_right bot_le

/-- The scale. -/
theorem lamda_at (L : FVec Ideal S4x64 .f32) (I : FVec Ideal S1 .f32) (j : S_.Idx) : lamda L I j = lam L I := by
  pointwise [lamda]
  rfl

/-- A context score at an index. -/
theorem scoresC_at (Q K : FVec Ideal S16x2304x512 .bf16) (b : Fin 16) (h : Fin 4) (g : Fin 2) (t : Fin 256) (x : Fin 256) :
    scoresC Q K (ix5 b h g t x) = score Q K b h g (row (n := 256) (by decide) t) (row (n := 256) (by decide) x) := by
  pointwise [scoresC]
  refine Finset.sum_congr rfl fun k _ => ?_
  have e : (⟨(h : ℕ) * 128 + (g : ℕ) * 64 + (k : ℕ), by omega⟩ : Fin 512) = lane h (half g k) :=
    Fin.ext (Nat.add_assoc _ _ _)
  rw [e]
  rfl

/-- That maximum at an index. -/
theorem capsC_at (M : FVec Ideal S16x4x2x256 .f32) (b : Fin 16) (h : Fin 4) (g : Fin 2) (t : Fin 256) :
    capsC M (ix4 b h g t) = max (Ideal.ofBits .f32 0xFF800000#32) (M (ix4 b h g t)) := by
  pointwise [capsC]

/-- A context numerator at an index. -/
theorem expsC_at (S : FVec Ideal S16x4x2x256x256 .f32) (b : Fin 16) (h : Fin 4) (g : Fin 2) (t : Fin 256) (x : Fin 256) :
    expsC S (ix5 b h g t x) = Cert.Soft.num (fun x : Fin 256 => S (ix5 b h g t x)) x := by
  have e : capsC (topsC S) (ix4 b h g t) = Cert.Soft.top (fun x : Fin 256 => S (ix5 b h g t x)) :=
    (capsC_at _ _ _ _ _).trans
      ((congrArg _ (by unfold topsC; exact top_at (n0 := 16) (n1 := 4) (n2 := 2) (n3 := 256) (n4 := 256) S _ b h g t)).trans
        (max_top _))
  pointwise [expsC]
  rw [e]
  rfl

/-- A context probability at an index. -/
theorem probsC_at (E : FVec Ideal S16x4x2x256x256 .f32) (b : Fin 16) (h : Fin 4) (g : Fin 2) (t : Fin 256) (x : Fin 256) :
    probsC E (ix5 b h g t x) = Ideal.div (E (ix5 b h g t x)) (∑ y : Fin 256, E (ix5 b h g t y)) := by
  pointwise [probsC]

/-- A context head at an index. -/
theorem headsC_at (W : FVec Ideal S16x2304x512 .bf16) (P : FVec Ideal S16x4x2x256x256 .f32) (l : FVec Ideal S_ .f32)
    (b : Fin 16) (t : Fin 256) (h : Fin 4) (d : Fin 128) :
    headsC W P l (ix4 b t h d) =
      ∑ x : Fin 256, W (ix3 b (row (n := 256) (by decide) x) (lane h d)) * (P (ix5 b h 0 t x) - l ix0 * P (ix5 b h 1 t x)) := by
  pointwise [headsC]
  rfl

/-- A latent score at an index. -/
theorem scoresL_at (Q K : FVec Ideal S16x2304x512 .bf16) (b : Fin 16) (h : Fin 4) (g : Fin 2) (t : Fin 2048) (x : Fin 2304) :
    scoresL Q K (ix5 b h g t x) = score Q K b h g ⟨256 + (t : ℕ), by omega⟩ x := by
  pointwise [scoresL]
  refine Finset.sum_congr rfl fun k _ => ?_
  have e : (⟨(h : ℕ) * 128 + (g : ℕ) * 64 + (k : ℕ), by omega⟩ : Fin 512) = lane h (half g k) :=
    Fin.ext (Nat.add_assoc _ _ _)
  rw [e]

/-- That maximum at an index. -/
theorem capsL_at (M : FVec Ideal S16x4x2x2048 .f32) (b : Fin 16) (h : Fin 4) (g : Fin 2) (t : Fin 2048) :
    capsL M (ix4 b h g t) = max (Ideal.ofBits .f32 0xFF800000#32) (M (ix4 b h g t)) := by
  pointwise [capsL]

/-- A latent numerator at an index. -/
theorem expsL_at (S : FVec Ideal S16x4x2x2048x2304 .f32) (b : Fin 16) (h : Fin 4) (g : Fin 2) (t : Fin 2048) (x : Fin 2304) :
    expsL S (ix5 b h g t x) = Cert.Soft.num (fun x : Fin 2304 => S (ix5 b h g t x)) x := by
  have e : capsL (topsL S) (ix4 b h g t) = Cert.Soft.top (fun x : Fin 2304 => S (ix5 b h g t x)) :=
    (capsL_at _ _ _ _ _).trans
      ((congrArg _ (by unfold topsL; exact top_at (n0 := 16) (n1 := 4) (n2 := 2) (n3 := 2048) (n4 := 2304) S _ b h g t)).trans
        (max_top _))
  pointwise [expsL]
  rw [e]
  rfl

/-- A latent probability at an index. -/
theorem probsL_at (E : FVec Ideal S16x4x2x2048x2304 .f32) (b : Fin 16) (h : Fin 4) (g : Fin 2) (t : Fin 2048) (x : Fin 2304) :
    probsL E (ix5 b h g t x) = Ideal.div (E (ix5 b h g t x)) (∑ y : Fin 2304, E (ix5 b h g t y)) := by
  pointwise [probsL]

/-- A latent head at an index. -/
theorem headsL_at (W : FVec Ideal S16x2304x512 .bf16) (P : FVec Ideal S16x4x2x2048x2304 .f32) (l : FVec Ideal S_ .f32)
    (b : Fin 16) (t : Fin 2048) (h : Fin 4) (d : Fin 128) :
    headsL W P l (ix4 b t h d) =
      ∑ x : Fin 2304, W (ix3 b x (lane h d)) * (P (ix5 b h 0 t x) - l ix0 * P (ix5 b h 1 t x)) := by
  pointwise [headsL]
  rfl

/-- The reference's result at an index. -/
theorem res_at (Q K W : FVec Ideal S16x2304x512 .bf16) (L : FVec Ideal S4x64 .f32) (I : FVec Ideal S1 .f32)
    (b : Fin 16) (t : Fin 2304) (d : Fin 512) :
    res Q K W L I (ix3 b t d) = outCol Q K W L I b t d := by
  unfold outCol
  pointwise [res]
  by_cases h : (t : ℕ) < 256
  · rw [dif_pos h, out, if_pos h, headsC_at]
    refine Finset.sum_congr rfl fun x _ => ?_
    simp only [probsC_at, expsC_at, scoresC_at, lamda_at]
    rfl
  · rw [dif_neg h, out, if_neg h, headsL_at]
    have e : (⟨256 + ((t : ℕ) - 256), by omega⟩ : Fin 2304) = t := Fin.ext (by show 256 + ((t : ℕ) - 256) = t; omega)
    refine Finset.sum_congr rfl fun x _ => ?_
    simp only [probsL_at, expsL_at, scoresL_at, lamda_at, e]
    rfl

/-- The reference's program ends with that result, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = res (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (run m ρ) fun r hr c => ⟨?_, (hr c).2⟩
  rw [(hr c).1]
  rfl

end Cert.AttnRefIdeal.Value
-- ==== Proof.MoeValue.lean ====
module

public import proofs.«01_k».proof.Proof.Gen.MoeIdeal.Value
public import proofs.«01_k».proof.Proof.Gen.MoeRefIdeal.Run
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.MoeSpec

/-- One hidden unit of a gated expert: `silu (x · g) * (x · u)`. -/
def hidden (x : Fin 1024 → EReal) (g u : Fin 1024 → Fin 256 → EReal) (f : Fin 256) : EReal :=
  (∑ k, x k * g k f) * Ideal.logistic (∑ k, x k * g k f) * ∑ k, x k * u k f

/-- One output entry of a gated expert. -/
def expert (x : Fin 1024 → EReal) (g u : Fin 1024 → Fin 256 → EReal) (w : Fin 256 → EReal) : EReal :=
  ∑ f, hidden x g u f * w f

/-- The transposition of the 8 by 8 arrangement of the experts. -/
def swap (e : Fin 64) : Fin 64 := ⟨(e : ℕ) % 8 * 8 + (e : ℕ) / 8, by omega⟩

/-- The transposition is its own inverse. -/
theorem swap_swap (e : Fin 64) : swap (swap e) = e := Fin.ext (by simp only [swap]; omega)

/-- The mixture at one index: every expert's output times the token's weight of it, and the shared expert's output. -/
def out (H : (⟨2, ![36864, 1024]⟩ : Shape).Idx → EReal) (T : (⟨2, ![64, 36864]⟩ : Shape).Idx → EReal)
    (G U : (⟨3, ![64, 1024, 256]⟩ : Shape).Idx → EReal) (D : (⟨3, ![64, 256, 1024]⟩ : Shape).Idx → EReal)
    (G' U' : (⟨2, ![1024, 256]⟩ : Shape).Idx → EReal) (D' : (⟨2, ![256, 1024]⟩ : Shape).Idx → EReal)
    (n : Fin 36864) (d : Fin 1024) : EReal :=
  (∑ e : Fin 64, expert (fun k => H (ix2 n k)) (fun k f => G (ix3 e k f)) (fun k f => U (ix3 e k f))
      (fun f => D (ix3 e f d)) * T (ix2 (swap e) n)) +
    expert (fun k => H (ix2 n k)) (fun k f => G' (ix2 k f)) (fun k f => U' (ix2 k f)) (fun f => D' (ix2 f d))

/-- Every weight is nonnegative and not infinite. -/
def Good (T : (⟨2, ![64, 36864]⟩ : Shape).Idx → EReal) : Prop := ∀ j, 0 ≤ T j ∧ T j ≠ ⊤

/-- A nonnegative finite factor goes into a sum of extended reals. -/
theorem sum_mul {ι : Type} (s : Finset ι) (a : ι → EReal) (w : EReal) (h0 : 0 ≤ w) (h1 : w ≠ ⊤) :
    (∑ i ∈ s, a i) * w = ∑ i ∈ s, a i * w := by
  classical
  induction s using Finset.induction_on with
  | empty => simp
  | insert i s hi ih => rw [Finset.sum_insert hi, Finset.sum_insert hi, EReal.right_distrib_of_nonneg_of_ne_top h0 h1, ih]

/-- Weighting the hidden units weighs the expert's output. -/
theorem expert_mul (x : Fin 1024 → EReal) (g u : Fin 1024 → Fin 256 → EReal) (d : Fin 256 → EReal) (w : EReal)
    (h0 : 0 ≤ w) (h1 : w ≠ ⊤) : ∑ f, hidden x g u f * w * d f = expert x g u d * w := by
  rw [expert, sum_mul _ _ _ h0 h1]
  exact Finset.sum_congr rfl fun f _ => mul_right_comm _ _ _

end Cert.MoeSpec

section Reference
open Cert.MoeRefIdeal Cert.MoeRefIdeal.Gen

/-- The reference's operations over its arguments. -/
def Cert.MoeRefIdeal.Value.REF (H : FVec Ideal S36864x1024 .bf16) (T : FVec Ideal S64x36864 .f32)
    (G U : FVec Ideal S64x1024x256 .f32) (D : FVec Ideal S64x256x1024 .f32) (G' U' : FVec Ideal S1024x256 .f32)
    (D' : FVec Ideal S256x1024 .f32) : FVec Ideal S36864x1024 .f32 :=
  addf (Host.reduceAdd (mulf (Host.dotGeneral dot_S64x36864x256_S64x256x1024_S64x36864x1024_2_1_1_2_0_0 none (mulf
    (mulf (transpose S64x36864x256 [0, 2, 1] (Host.dotGeneral
    dot_S64x1024x256_S36864x1024_S64x256x36864_1_1_02_0_n_n none G (extf .f32 H bitsLt_bf16_f32))
    transposes_S64x256x36864_S64x36864x256_0_2_1) (Host.divf (broadcastInDim S64x36864x256 ![] bcast_S_S64x36864x256
    (constant S_ .f32 0x3F800000#32)) (addf (broadcastInDim S64x36864x256 ![] bcast_S_S64x36864x256 (constant S_
    .f32 0x3F800000#32)) (Host.exp (Host.negf (transpose S64x36864x256 [0, 2, 1] (Host.dotGeneral
    dot_S64x1024x256_S36864x1024_S64x256x36864_1_1_02_0_n_n none G (extf .f32 H bitsLt_bf16_f32))
    transposes_S64x256x36864_S64x36864x256_0_2_1)))))) (transpose S64x36864x256 [0, 2, 1] (Host.dotGeneral
    dot_S64x1024x256_S36864x1024_S64x256x36864_1_1_02_0_n_n none U (extf .f32 H bitsLt_bf16_f32))
    transposes_S64x256x36864_S64x36864x256_0_2_1)) D) (broadcastInDim S64x36864x1024 ![0, 1, 2]
    bcast_S64x36864x1_S64x36864x1024_0_1_2 (broadcastInDim S64x36864x1 ![0, 1] bcast_S64x36864_S64x36864x1_0_1
    (shapeCast _ (transpose S8x8x36864 [1, 0, 2] (shapeCast _ T shapeCasts_S64x36864_S8x8x36864)
    transposes_S8x8x36864_S8x8x36864_1_0_2) shapeCasts_S8x8x36864_S64x36864)))) (constant S_ .f32 0x00000000#32)
    reducesTo_S64x36864x1024_S36864x1024_d0 h_S_) (Host.dotGeneral dot_S36864x256_S256x1024_S36864x1024_1_0_0_1_n_n
    none (mulf (mulf (Host.dotGeneral dot_S36864x1024_S1024x256_S36864x256_1_0_0_1_n_n none (extf .f32 H
    bitsLt_bf16_f32) G') (Host.divf (broadcastInDim S36864x256 ![] bcast_S_S36864x256 (constant S_ .f32
    0x3F800000#32)) (addf (broadcastInDim S36864x256 ![] bcast_S_S36864x256 (constant S_ .f32 0x3F800000#32))
    (Host.exp (Host.negf (Host.dotGeneral dot_S36864x1024_S1024x256_S36864x256_1_0_0_1_n_n none (extf .f32 H
    bitsLt_bf16_f32) G')))))) (Host.dotGeneral dot_S36864x1024_S1024x256_S36864x256_1_0_0_1_n_n none (extf .f32 H
    bitsLt_bf16_f32) U')) D')

set_option maxHeartbeats 1600000 in
/-- The reference's operations, entry by entry, are the mixture. -/
theorem Cert.MoeRefIdeal.Value.REF_at (H : FVec Ideal S36864x1024 .bf16) (T : FVec Ideal S64x36864 .f32)
    (G U : FVec Ideal S64x1024x256 .f32) (D : FVec Ideal S64x256x1024 .f32) (G' U' : FVec Ideal S1024x256 .f32)
    (D' : FVec Ideal S256x1024 .f32) (n : Fin 36864) (d : Fin 1024) :
    Cert.MoeRefIdeal.Value.REF H T G U D G' U' D' (ix2 n d) = Cert.MoeSpec.out H T G U D G' U' D' n d := by
  pointwise [Cert.MoeRefIdeal.Value.REF]
  simp only [mul_comm (G _) _, mul_comm (U _) _]
  rfl

/-- The reference's run ends with its operations over its arguments, and the arguments unchanged. -/
theorem Cert.MoeRefIdeal.Value.run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = Cert.MoeRefIdeal.Value.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine θ_run_mono (Cert.MoeRefIdeal.Value.run m ρ) fun r hr c => ⟨?_, (hr c).2⟩
  rw [(hr c).1]
  unfold Cert.MoeRefIdeal.Value.REF
  with_reducible rfl

end Reference

namespace Cert.MoeIdeal.Value
open Cert.MoeIdeal Cert.MoeIdeal.Gen

/-- Of 128 lanes masked to one lane, the sum is that lane. -/
theorem lane_sum (v : Fin 128 → EReal) (e : Fin 65) :
    ∑ x : Fin 128, Scalar.select (IntOp.cmpi CmpIPredicate.eq (BitVec.ofNat 32 (x : ℕ)) (BitVec.ofNat 32 (e : ℕ))) (v x)
      (0 : EReal) = v ⟨e, by omega⟩ := by
  rw [Finset.sum_eq_single (⟨e, by omega⟩ : Fin 128)]
  · simp [Scalar.select, IntOp.cmpi]
  · intro x _ hx
    have : (x : ℕ) ≠ e := fun h => hx (Fin.ext h)
    have h2 : BitVec.ofNat 32 (x : ℕ) ≠ BitVec.ofNat 32 (e : ℕ) := fun h => this (by
      have := congrArg BitVec.toNat h
      simp only [BitVec.toNat_ofNat] at this
      omega)
    simp [Scalar.select, IntOp.cmpi, beq_false_of_ne h2]
  · simp

/-- What one grid point adds, entry by entry, of the blocks it loads. -/
theorem pay_at (i : grid0.Coords) (v0 : Vec Ideal S1024x1024 .bf16) (v1 v6 : Vec Ideal S1x1024x256 .bf16)
    (v10 : Vec Ideal S1024x128 .f32) (v22 : Vec Ideal S1x256x1024 .bf16) (r d : Fin 1024) :
    k0_pay1 i v0 v1 v6 v10 v22 (ix2 r d) =
      ∑ f : Fin 256, Cert.MoeSpec.hidden (fun k => v0 (ix2 r k)) (fun k f => v1 (ix3 0 k f)) (fun k f => v6 (ix3 0 k f)) f
        * v10 (ix2 r ⟨i 1, (i 1).isLt.trans (by decide)⟩) * v22 (ix3 0 f d) := by
  pointwise [k0_pay1]
  refine Finset.sum_congr rfl fun f _ => ?_
  rw [show (∑ x : Fin 128, Scalar.select (IntOp.cmpi CmpIPredicate.eq (BitVec.ofNat 32 (x : ℕ)) (BitVec.ofNat 32 (i 1 : ℕ)))
    (v10 (ix2 r x)) (0 : EReal)) = _ from lane_sum (fun x => v10 (ix2 r x)) (i 1)]
  rfl

/-- What one later grid point leaves: what the point before left, and what it adds. -/
theorem pay_step (i : grid0.Coords) (v0 : Vec Ideal S1024x1024 .bf16) (v1 v6 : Vec Ideal S1x1024x256 .bf16)
    (v10 : Vec Ideal S1024x128 .f32) (v22 : Vec Ideal S1x256x1024 .bf16) (v31 : Vec Ideal S1024x1024 .f32)
    (j : S1024x1024.Idx) :
    k0_pay2 i v0 v1 v6 v10 v22 v31 j = v31 j + k0_pay1 i v0 v1 v6 v10 v22 j := by
  pointwise [k0_pay2]

/-- A concatenation of 64 columns, a column of ones and 63 columns of zeros, entry by entry. -/
theorem concat_at (a : Vec Ideal S36864x64 .f32) (b : Vec Ideal S36864x1 .f32) (c : Vec Ideal S36864x63 .f32) (H)
    (X : Fin 36864 → Fin 64 → EReal) (ha : ∀ n l, a (ix2 n l) = X n l) (hb : ∀ n l, b (ix2 n l) = (1 : EReal))
    (hc : ∀ n l, c (ix2 n l) = (0 : EReal)) (n : Fin 36864) (l : Fin 128) :
    (concatenate S36864x128 1 [⟨S36864x64, a⟩, ⟨S36864x1, b⟩, ⟨S36864x63, c⟩] H : Vec Ideal S36864x128 .f32) (ix2 n l) =
      if h : (l : ℕ) < 64 then X n ⟨l, h⟩ else if (l : ℕ) < 65 then (1 : EReal) else (0 : EReal) := by
  pointwise []
  by_cases h : (l : ℕ) < 64
  · rw [dif_pos h, dif_pos h, ha]
  by_cases h2 : (l : ℕ) < 65
  · rw [dif_neg h, dif_neg h, if_pos h2, dif_pos (by omega), hb]
  · rw [dif_neg h, dif_neg h, if_neg h2, dif_neg (by omega), hc]

variable (m : (ℓ : Loc nD τ sig) → Buf (Elt Ideal) ℓ)

/-- Where each window's block lies at grid point `t`: row tile `t / 65`, expert `t % 65`. -/
theorem idx : ∀ t : Fin cfg0.N, win0_0.index t = ![t.val / 65, 0] ∧ win0_1.index t = ![t.val / 65, 0] ∧
    win0_2.index t = ![t.val % 65, 0, 0] ∧ win0_3.index t = ![t.val % 65, 0, 0] ∧ win0_4.index t = ![t.val % 65, 0, 0] ∧
    win0_5.index t = ![t.val / 65, 0] ∧ (grid0.coords t 1 : ℕ) = t.val % 65 :=
  (by decide +kernel : ∀ t : Fin grid0.N, _)

/-- The weights as the launch lays them out: the 64 experts' lanes, a lane of ones for the shared expert, zeros. -/
theorem weights_at (c : Dev nD) (n : Fin 36864) (l : Fin 128) :
    (V m c main_v3 : S36864x128.Idx → EReal) (ix2 n l) =
      if h : (l : ℕ) < 64 then (m ((c.tc : Thread nD τ).loc main_arg1) : S64x36864.Idx → EReal) (ix2 ⟨l, h⟩ n)
      else if (l : ℕ) < 65 then (1 : EReal) else (0 : EReal) := by
  unfold V
  after_reads_simp
  refine concat_at _ _ _ _ (fun n l => (m ((c.tc : Thread nD τ).loc main_arg1) : S64x36864.Idx → EReal) (ix2 l n))
    (fun n l => ?_) (fun n l => ?_) (fun n l => ?_) n l
  · refine (congrFun (StableHlo.unary_result _ _ _ _ _ _) _).trans ?_
    pointwise []
    rfl
  · refine (congrFun (StableHlo.unary_result _ _ _ _ _ _) _).trans ?_
    pointwise []
    after_reads_simp
    pointwise []
  · refine (congrFun (StableHlo.unary_result _ _ _ _ _ _) _).trans ?_
    pointwise []
    after_reads_simp
    pointwise []

/-- The gate projections as the launch lays them out: the experts in transposed order, the shared expert last. -/
theorem gate_at (c : Dev nD) (e : Fin 65) (k : Fin 1024) (f : Fin 256) :
    (V m c main_v9 : S65x1024x256.Idx → EReal) (ix3 e k f) =
      if h : (e : ℕ) < 64 then (m ((c.tc : Thread nD τ).loc main_arg2) : S64x1024x256.Idx → EReal)
        (ix3 (Cert.MoeSpec.swap ⟨e, h⟩) k f)
      else (m ((c.tc : Thread nD τ).loc main_arg5) : S1024x256.Idx → EReal) (ix2 k f) := by
  entry_read
  pointwise []
  split <;> rfl

/-- The up projections as the launch lays them out: the experts in transposed order, the shared expert last. -/
theorem up_at (c : Dev nD) (e : Fin 65) (k : Fin 1024) (f : Fin 256) :
    (V m c main_v15 : S65x1024x256.Idx → EReal) (ix3 e k f) =
      if h : (e : ℕ) < 64 then (m ((c.tc : Thread nD τ).loc main_arg3) : S64x1024x256.Idx → EReal)
        (ix3 (Cert.MoeSpec.swap ⟨e, h⟩) k f)
      else (m ((c.tc : Thread nD τ).loc main_arg6) : S1024x256.Idx → EReal) (ix2 k f) := by
  entry_read
  pointwise []
  split <;> rfl

/-- The down projections as the launch lays them out: the experts in transposed order, the shared expert last. -/
theorem down_at (c : Dev nD) (e : Fin 65) (f : Fin 256) (k : Fin 1024) :
    (V m c main_v21 : S65x256x1024.Idx → EReal) (ix3 e f k) =
      if h : (e : ℕ) < 64 then (m ((c.tc : Thread nD τ).loc main_arg4) : S64x256x1024.Idx → EReal)
        (ix3 (Cert.MoeSpec.swap ⟨e, h⟩) f k)
      else (m ((c.tc : Thread nD τ).loc main_arg7) : S256x1024.Idx → EReal) (ix2 f k) := by
  entry_read
  pointwise []
  split <;> rfl

/-- The weighted expert that grid point `t` adds, at row `r` of the tile: expert `e` of the launch's order. -/
theorem point (c : Dev nD) (t : Fin cfg0.N) (r d : Fin 1024) (n : Fin 36864) (e : Fin 65)
    (hn : (n : ℕ) = t.val / 65 * 1024 + r) (he : (e : ℕ) = t.val % 65)
    (hw : Cert.MoeSpec.Good (m ((c.tc : Thread nD τ).loc main_arg1))) :
    k0_pay1 (grid0.coords t) (iblk m c 0 t) (iblk m c 2 t) (iblk m c 3 t) (iblk m c 1 t) (iblk m c 4 t) (ix2 r d) =
      if h : (e : ℕ) < 64 then
        Cert.MoeSpec.expert (fun k => (m ((c.tc : Thread nD τ).loc main_arg0) : S36864x1024.Idx → EReal) (ix2 n k))
          (fun k f => (m ((c.tc : Thread nD τ).loc main_arg2) : S64x1024x256.Idx → EReal) (ix3 (Cert.MoeSpec.swap ⟨e, h⟩) k f))
          (fun k f => (m ((c.tc : Thread nD τ).loc main_arg3) : S64x1024x256.Idx → EReal) (ix3 (Cert.MoeSpec.swap ⟨e, h⟩) k f))
          (fun f => (m ((c.tc : Thread nD τ).loc main_arg4) : S64x256x1024.Idx → EReal) (ix3 (Cert.MoeSpec.swap ⟨e, h⟩) f d))
          * (m ((c.tc : Thread nD τ).loc main_arg1) : S64x36864.Idx → EReal) (ix2 ⟨e, h⟩ n)
      else
        Cert.MoeSpec.expert (fun k => (m ((c.tc : Thread nD τ).loc main_arg0) : S36864x1024.Idx → EReal) (ix2 n k))
          (fun k f => (m ((c.tc : Thread nD τ).loc main_arg5) : S1024x256.Idx → EReal) (ix2 k f))
          (fun k f => (m ((c.tc : Thread nD τ).loc main_arg6) : S1024x256.Idx → EReal) (ix2 k f))
          (fun f => (m ((c.tc : Thread nD τ).loc main_arg7) : S256x1024.Idx → EReal) (ix2 f d)) := by
  have h0 : (fun k : Fin 1024 => iblk m c 0 t (ix2 r k)) =
      fun k => (m ((c.tc : Thread nD τ).loc main_arg0) : S36864x1024.Idx → EReal) (ix2 n k) :=
    funext fun k => by blk_point [iblk, V, idx t]
  have h1 : ∀ l : Fin 128, iblk m c 1 t (ix2 r l) = (V m c main_v3 : S36864x128.Idx → EReal) (ix2 n l) :=
    fun l => by blk_point [iblk, idx t]
  have h2 : (fun (k : Fin 1024) (f : Fin 256) => iblk m c 2 t (ix3 0 k f)) =
      fun k f => (V m c main_v9 : S65x1024x256.Idx → EReal) (ix3 e k f) :=
    funext fun k => funext fun f => by blk_point [iblk, idx t]
  have h3 : (fun (k : Fin 1024) (f : Fin 256) => iblk m c 3 t (ix3 0 k f)) =
      fun k f => (V m c main_v15 : S65x1024x256.Idx → EReal) (ix3 e k f) :=
    funext fun k => funext fun f => by blk_point [iblk, idx t]
  have h4 : ∀ f : Fin 256, iblk m c 4 t (ix3 0 f d) = (V m c main_v21 : S65x256x1024.Idx → EReal) (ix3 e f d) :=
    fun f => by blk_point [iblk, idx t]
  have hl : (⟨grid0.coords t 1, (grid0.coords t 1).isLt.trans (by decide)⟩ : Fin 128) = ⟨e, by omega⟩ :=
    Fin.ext ((idx t).2.2.2.2.2.2.trans he.symm)
  rw [pay_at, h0, h2, h3, hl, h1, weights_at m c n ⟨e, by omega⟩]
  simp only [h4]
  by_cases h : (e : ℕ) < 64
  · rw [dif_pos h, dif_pos h]
    rw [show (fun (k : Fin 1024) (f : Fin 256) => (V m c main_v9 : S65x1024x256.Idx → EReal) (ix3 e k f)) = _ from
      funext fun k => funext fun f => (gate_at m c e k f).trans (dif_pos h),
      show (fun (k : Fin 1024) (f : Fin 256) => (V m c main_v15 : S65x1024x256.Idx → EReal) (ix3 e k f)) = _ from
      funext fun k => funext fun f => (up_at m c e k f).trans (dif_pos h)]
    refine Eq.trans (Finset.sum_congr rfl fun f _ => congrArg _ ((down_at m c e f d).trans (dif_pos h))) ?_
    exact Cert.MoeSpec.expert_mul _ _ _ _ _ (hw (ix2 ⟨e, h⟩ n)).1 (hw (ix2 ⟨e, h⟩ n)).2
  · rw [dif_neg h, dif_neg h, if_pos e.isLt]
    rw [show (fun (k : Fin 1024) (f : Fin 256) => (V m c main_v9 : S65x1024x256.Idx → EReal) (ix3 e k f)) = _ from
      funext fun k => funext fun f => (gate_at m c e k f).trans (dif_neg h),
      show (fun (k : Fin 1024) (f : Fin 256) => (V m c main_v15 : S65x1024x256.Idx → EReal) (ix3 e k f)) = _ from
      funext fun k => funext fun f => (up_at m c e k f).trans (dif_neg h)]
    refine Eq.trans (Finset.sum_congr rfl fun f _ => congrArg _ ((down_at m c e f d).trans (dif_neg h))) ?_
    exact Finset.sum_congr rfl fun f _ => congrArg (· * _) (mul_one _)

/-- The kernel's result array, entry by entry. -/
theorem final (c : Dev nD) (hw : Cert.MoeSpec.Good (m ((c.tc : Thread nD τ).loc main_arg1))) :
    (dats m 0 c).arrAt 5 cfg0.N = fun j : S36864x1024.Idx =>
      Cert.MoeSpec.out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) (j 0) (j 1) := by
  refine (dats m 0 c).arrAt_eq_of_covers 5 _ (by decide +kernel) fun t hf y => ?_
  have e0 : (((cfg0.win 5).blk t).view.emb y 0 : ℕ) = t.val / 65 * 1024 + y 0 := by blk_simp [idx t]
  have e1 : (((cfg0.win 5).blk t).view.emb y 1 : ℕ) = y 1 := by blk_simp [idx t]
  have hy : y = (ix2 (y 0) (y 1) : S1024x1024.Idx) := eq_ix2 (n0 := 1024) (n1 := 1024) y
  have hd : (y 1 : Fin 1024) = ((cfg0.win 5).blk t).view.emb y 1 := Fin.ext e1.symm
  blk_simp
  rw [after0_5, Pipeline.eq_sum_fin_of_reset_step_apply_of_flush (fun n h => outsAt0 m c n h) 65 (fun _ => 0)
    (fun p j => k0_pay1 (grid0.coords p) (iblk m c 0 p) (iblk m c 2 p) (iblk m c 3 p) (iblk m c 1 p) (iblk m c 4 p) j)
    (fun t h j => by rw [outsAt0_A m c t h (by omega)]; frame_out; exact (zero_add _).symm)
    (fun t h j => by rw [outsAt0_B m c t h (by omega)]; frame_out; exact pay_step _ _ _ _ _ _ _ _)
    t ((flush0_5 t).mp hf) _, zero_add]
  have hp : ∀ s : Fin 65, ∀ q : Fin cfg0.N, q.val = 65 * (t.val / 65) + s → _ := fun s q hq =>
    (congrArg _ hy).trans (point m c q (y 0) (y 1) (((cfg0.win 5).blk t).view.emb y 0) s
      (by rw [e0, hq]; omega) (by rw [hq]; omega) hw)
  refine (Finset.sum_congr rfl fun s _ => hp s _ rfl).trans ?_
  rw [Fin.sum_univ_castSucc]
  rw [dif_neg (by decide)]
  have e2 : (win0_5.blk t).view.emb y 1 = y 1 := hd.symm
  refine Eq.trans ?_ (congrArg (Cert.MoeSpec.out _ _ _ _ _ _ _ _ _) hd)
  refine congrArg (· + _) (Eq.trans (Finset.sum_congr rfl fun s _ => dif_pos s.isLt) ?_)
  refine (Equiv.sum_comp (Function.Involutive.toPerm Cert.MoeSpec.swap Cert.MoeSpec.swap_swap) _).symm.trans ?_
  refine Finset.sum_congr rfl fun s _ => ?_
  show Cert.MoeSpec.expert _ (fun k f => (m ((c.tc : Thread nD τ).loc main_arg2) : S64x1024x256.Idx → EReal)
      (ix3 (Cert.MoeSpec.swap (Cert.MoeSpec.swap s)) k f))
    (fun k f => (m ((c.tc : Thread nD τ).loc main_arg3) : S64x1024x256.Idx → EReal)
      (ix3 (Cert.MoeSpec.swap (Cert.MoeSpec.swap s)) k f))
    (fun f => (m ((c.tc : Thread nD τ).loc main_arg4) : S64x256x1024.Idx → EReal)
      (ix3 (Cert.MoeSpec.swap (Cert.MoeSpec.swap s)) f (y 1))) * _ = _
  rw [Cert.MoeSpec.swap_swap]
  rfl

end Cert.MoeIdeal.Value
-- ==== Proof.Precond.lean ====
module

public import proofs.«01_k».proof.Defs
public import proofs.«01_k».proof.Proof.Gen.Pre_weights_nonneg
public import proofs.«01_k».proof.Proof.MoeValue
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Precond

/-- The mask word of an order comparison, read back. -/
theorem of_bit (p : Bool) (h : BitVec.ofBool p = 1#1) : p = true := by cases p <;> simp_all

/-- The constant that the preconditions compare with is infinity. -/
theorem inf : Ideal.ofBits .f32 0x7F800000#32 = (⊤ : EReal) := by simp [Ideal.ofBits, Ideal.ieee]

/-- Two bits whose conjunction is one are both one. -/
theorem both (a b : BitVec 1) (h : IntOp.andi a b = 1#1) : a = 1#1 ∧ b = 1#1 := by
  revert a b; decide

/-- The mixture's precondition read entry by entry: the weights are nonnegative and not infinite. -/
theorem weights (x T g u d g' u' d') (h : Cert.Pre_weights_nonneg.fn (F := Ideal) x T g u d g' u' d' = fun _ => 1#1) :
    Cert.MoeSpec.Good T := by
  intro j
  have := Host.reduce_andi_all _ _ _ _ _ (congrFun h (fun i => i.elim0)) j
  obtain ⟨h0, h1⟩ := both _ _ this
  have h0' := of_bit _ h0
  have h1' := of_bit _ h1
  pointwise [] at h0' h1'
  exact ⟨of_decide_eq_true h0', ((of_decide_eq_true h1').trans_eq inf).ne⟩

end Cert.Precond
-- ==== Proof.Finite.lean ====
module

public import proofs.«01_k».proof.Defs
public import proofs.«01_k».proof.Proof.Gen.Pre_entries_finite
public import proofs.«01_k».proof.Proof.Precond
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Precond

/-- An entry whose absolute value is below infinity is finite. -/
theorem finite_of_abs (x : EReal) (h : max x (-x) < Ideal.ofBits .f32 0x7F800000#32) : x ≠ ⊤ ∧ x ≠ ⊥ := by
  rw [inf] at h
  constructor
  · rintro rfl; simp at h
  · rintro rfl; simp at h

/-- Every entry of an array is finite. -/
def Finite {s : Shape} (v : s.Idx → EReal) : Prop := ∀ j, v j ≠ ⊤ ∧ v j ≠ ⊥

/-- The attention's precondition read entry by entry: all entries are finite. -/
theorem finite (q k v lp li) (h : Cert.Pre_entries_finite.fn (F := Ideal) q k v lp li = fun _ => 1#1) :
    Finite q ∧ Finite k ∧ Finite v ∧ Finite lp ∧ Finite li := by
  have h0 := congrFun h (fun i => i.elim0)
  obtain ⟨h1, hli⟩ := both _ _ h0
  obtain ⟨h2, hlp⟩ := both _ _ h1
  obtain ⟨h3, hv⟩ := both _ _ h2
  obtain ⟨hq, hk⟩ := both _ _ h3
  refine ⟨fun j => finite_of_abs _ (of_decide_eq_true ?_), fun j => finite_of_abs _ (of_decide_eq_true ?_),
    fun j => finite_of_abs _ (of_decide_eq_true ?_), fun j => finite_of_abs _ (of_decide_eq_true ?_),
    fun j => finite_of_abs _ (of_decide_eq_true ?_)⟩
  · exact of_bit _ (Host.reduce_andi_all _ _ _ _ _ hq j)
  · exact of_bit _ (Host.reduce_andi_all _ _ _ _ _ hk j)
  · exact of_bit _ (Host.reduce_andi_all _ _ _ _ _ hv j)
  · exact of_bit _ (Host.reduce_andi_all _ _ _ _ _ hlp j)
  · exact of_bit _ (Host.reduce_andi_all _ _ _ _ _ hli j)

end Cert.Precond
-- ==== Proof.AttnValue.lean ====
module

public import proofs.«01_k».proof.Proof.Gen.AttnIdeal.Value
public import proofs.«01_k».proof.Proof.AttnRef
public import proofs.«01_k».proof.Proof.Finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnSpec

/-- The mask of the first half: lanes below 64 are kept. -/
theorem mask_low : ∀ x : Fin 128,
    IntOp.xori (IntOp.xori (IntOp.cmpi CmpIPredicate.slt (BitVec.ofNat 32 x) 64#32) 1#1) 1#1 =
      if (x : ℕ) < 64 then 1#1 else 0#1 := by decide +kernel

/-- The mask of the second half: lanes from 64 on are kept. -/
theorem mask_high : ∀ x : Fin 128,
    IntOp.xori (IntOp.xori (IntOp.cmpi CmpIPredicate.slt (BitVec.ofNat 32 x) 64#32) 0#1) 1#1 =
      if (x : ℕ) < 64 then 0#1 else 1#1 := by decide +kernel

/-- A sum over the 128 lanes is the sum over the two halves. -/
theorem sum_halves (f : Fin 128 → EReal) : ∑ x, f x = ∑ k, f (half 0 k) + ∑ k, f (half 1 k) := by
  refine (Fin.sum_univ_add (a := 64) (b := 64) f).trans (congrArg₂ _ ?_ ?_)
  · exact Finset.sum_congr rfl fun k _ => congrArg f (Fin.ext (by simp [half]))
  · exact Finset.sum_congr rfl fun k _ => congrArg f (Fin.ext (by simp [half]; omega))

/-- The sum over the lanes that the first mask keeps. -/
theorem sum_low (f : Fin 128 → EReal) :
    ∑ x : Fin 128, Scalar.select
      (IntOp.xori (IntOp.xori (IntOp.cmpi CmpIPredicate.slt (BitVec.ofNat 32 x) 64#32) 1#1) 1#1) (f x) 0 =
      ∑ k : Fin 64, f (half 0 k) := by
  simp only [mask_low]
  refine (sum_halves _).trans ?_
  have h0 : ∀ k : Fin 64, ((half 0 k : Fin 128) : ℕ) < 64 := fun k => by show 0 * 64 + (k : ℕ) < 64; omega
  have h1 : ∀ k : Fin 64, ¬ ((half 1 k : Fin 128) : ℕ) < 64 := fun k => by show ¬ 1 * 64 + (k : ℕ) < 64; omega
  simp only [h0, h1, ↓reduceIte]
  refine (congrArg _ (Finset.sum_eq_zero fun k _ => rfl)).trans ((add_zero _).trans ?_)
  rfl

/-- The sum over the lanes that the second mask keeps. -/
theorem sum_high (f : Fin 128 → EReal) :
    ∑ x : Fin 128, Scalar.select
      (IntOp.xori (IntOp.xori (IntOp.cmpi CmpIPredicate.slt (BitVec.ofNat 32 x) 64#32) 0#1) 1#1) (f x) 0 =
      ∑ k : Fin 64, f (half 1 k) := by
  simp only [mask_high]
  refine (sum_halves _).trans ?_
  have h0 : ∀ k : Fin 64, ((half 0 k : Fin 128) : ℕ) < 64 := fun k => by show 0 * 64 + (k : ℕ) < 64; omega
  have h1 : ∀ k : Fin 64, ¬ ((half 1 k : Fin 128) : ℕ) < 64 := fun k => by show ¬ 1 * 64 + (k : ℕ) < 64; omega
  simp only [h0, h1, ↓reduceIte]
  refine (congrArg (· + _) (Finset.sum_eq_zero fun k _ => rfl)).trans ((zero_add _).trans ?_)
  rfl

/-- One head as the body computes it: each softmax's quotient taken after its sum. -/
def late {n : ℕ} (s u v : Fin n → EReal) (l : EReal) : EReal :=
  Ideal.div (∑ x, Cert.Soft.num s x * v x) (∑ x, Cert.Soft.num s x)
    - l * Ideal.div (∑ x, Cert.Soft.num u x * v x) (∑ x, Cert.Soft.num u x)

/-- Scores of finite arrays are finite. -/
theorem score_finite {Q K : (⟨3, ![16, 2304, 512]⟩ : Shape).Idx → EReal} (hQ : Cert.Precond.Finite Q)
    (hK : Cert.Precond.Finite K) (b : Fin 16) (h : Fin 4) (g : Fin 2) (t x : Fin 2304) :
    score Q K b h g t x ≠ ⊤ ∧ score Q K b h g t x ≠ ⊥ :=
  Cert.Soft.finite_sum _ _ fun _ => Cert.Soft.finite_mul (hQ _) (hK _)

/-- The scale of finite vectors is finite. -/
theorem lam_finite {L : (⟨2, ![4, 64]⟩ : Shape).Idx → EReal} {I : (⟨1, ![1]⟩ : Shape).Idx → EReal}
    (hL : Cert.Precond.Finite L) (hI : Cert.Precond.Finite I) : lam L I ≠ ⊤ ∧ lam L I ≠ ⊥ := by
  obtain ⟨a, ha⟩ := Cert.Soft.real_of_finite (Cert.Soft.finite_sum Finset.univ
    (fun x : Fin 64 => L (ix2 0 x) * L (ix2 1 x)) fun _ => Cert.Soft.finite_mul (hL _) (hL _))
  obtain ⟨b, hb⟩ := Cert.Soft.real_of_finite (Cert.Soft.finite_sum Finset.univ
    (fun x : Fin 64 => L (ix2 2 x) * L (ix2 3 x)) fun _ => Cert.Soft.finite_mul (hL _) (hL _))
  obtain ⟨i, hi⟩ := Cert.Soft.real_of_finite (hI (ix1 0))
  have e : lam L I = ((Real.exp a - Real.exp b + i : ℝ) : EReal) := by
    rw [lam, ha, hb, hi, EReal.coe_add, EReal.coe_sub]
    rfl
  rw [e]
  exact ⟨EReal.coe_ne_top _, EReal.coe_ne_bot _⟩

/-- On finite arrays, one head as the body computes it is the head. -/
theorem late_eq {n : ℕ} (hn : n ≤ 2304) (h0 : 0 < n) {Q K W : (⟨3, ![16, 2304, 512]⟩ : Shape).Idx → EReal} {l : EReal}
    (hQ : Cert.Precond.Finite Q) (hK : Cert.Precond.Finite K) (hW : Cert.Precond.Finite W) (hl : l ≠ ⊤ ∧ l ≠ ⊥)
    (b : Fin 16) (h : Fin 4) (t : Fin 2304) (d : Fin 128) :
    late (fun x : Fin n => score Q K b h 0 t (row hn x)) (fun x : Fin n => score Q K b h 1 t (row hn x))
      (fun x : Fin n => W (ix3 b (row hn x) (lane h d))) l = head hn Q K W l b h t d :=
  Cert.Soft.heads_eq h0 (fun _ => score_finite hQ hK _ _ _ _ _) (fun _ => score_finite hQ hK _ _ _ _ _)
    (fun _ => hW _) hl

end Cert.AttnSpec

namespace Cert.AttnIdeal.Value
open Cert.AttnIdeal Cert.AttnIdeal.Gen Cert.AttnSpec

/-- What the body stores at a context tile, entry by entry, of the blocks it loads. -/
theorem payC_at (v0 : Vec Ideal S1x1 .f32) (v8 v10 v12 : Vec Ideal S1x256x128 .bf16) (r : Fin 256) (d : Fin 128) :
    k0_pay2 v0 (k0_pay6 v12) (k0_pay8 v8 v10 v12) (k0_pay9 v8 v10) (k0_pay10 v8 v10) (ix3 0 r d) =
      late (fun x : Fin 256 => ∑ k : Fin 64, v8 (ix3 0 r (half 0 k)) * v10 (ix3 0 x (half 0 k)))
        (fun x : Fin 256 => ∑ k : Fin 64, v8 (ix3 0 r (half 1 k)) * v10 (ix3 0 x (half 1 k)))
        (fun x : Fin 256 => v12 (ix3 0 x d)) (v0 (ix2 0 0)) := by
  have h9 : ∀ x : Fin 256, k0_pay9 v8 v10 (ix2 r x) =
      ∑ k : Fin 64, v8 (ix3 0 r (half 1 k)) * v10 (ix3 0 x (half 1 k)) := fun x => by
    pointwise [k0_pay9, k0_pay4, k0_pay5, k0_pay7]
    exact sum_high _
  have h10 : ∀ x : Fin 256, k0_pay10 v8 v10 (ix2 r x) =
      Cert.Soft.top fun x : Fin 256 => ∑ k : Fin 64, v8 (ix3 0 r (half 1 k)) * v10 (ix3 0 x (half 1 k)) := fun x => by
    pointwise [k0_pay10]
    simp only [h9]
    rfl
  have h8 : k0_pay8 v8 v10 v12 (ix2 r d) =
      Ideal.div (∑ x, Cert.Soft.num (fun x : Fin 256 => ∑ k : Fin 64, v8 (ix3 0 r (half 0 k)) * v10 (ix3 0 x (half 0 k))) x
        * v12 (ix3 0 x d))
        (∑ x, Cert.Soft.num (fun x : Fin 256 => ∑ k : Fin 64, v8 (ix3 0 r (half 0 k)) * v10 (ix3 0 x (half 0 k))) x) := by
    pointwise [k0_pay8, k0_pay4, k0_pay5, k0_pay6, k0_pay7]
    simp only [sum_low]
    rfl
  pointwise [k0_pay2, k0_pay1, k0_pay6]
  rw [h8]
  simp only [h9, h10]
  rfl

/-- What the body stores at a latent tile, entry by entry, of the blocks it loads. -/
theorem payL_at (v0 : Vec Ideal S1x1 .f32) (v8 : Vec Ideal S1x256x128 .bf16) (v10 v12 : Vec Ideal S1x2304x128 .bf16)
    (r : Fin 256) (d : Fin 128) :
    k0_pay3 v0 (k0_pay13 v12) (k0_pay15 v8 v10 v12) (k0_pay16 v8 v10) (k0_pay17 v8 v10) (ix3 0 r d) =
      late (fun x : Fin 2304 => ∑ k : Fin 64, v8 (ix3 0 r (half 0 k)) * v10 (ix3 0 x (half 0 k)))
        (fun x : Fin 2304 => ∑ k : Fin 64, v8 (ix3 0 r (half 1 k)) * v10 (ix3 0 x (half 1 k)))
        (fun x : Fin 2304 => v12 (ix3 0 x d)) (v0 (ix2 0 0)) := by
  have h9 : ∀ x : Fin 2304, k0_pay16 v8 v10 (ix2 r x) =
      ∑ k : Fin 64, v8 (ix3 0 r (half 1 k)) * v10 (ix3 0 x (half 1 k)) := fun x => by
    pointwise [k0_pay16, k0_pay11, k0_pay12, k0_pay14]
    exact sum_high _
  have h10 : ∀ x : Fin 2304, k0_pay17 v8 v10 (ix2 r x) =
      Cert.Soft.top fun x : Fin 2304 => ∑ k : Fin 64, v8 (ix3 0 r (half 1 k)) * v10 (ix3 0 x (half 1 k)) := fun x => by
    pointwise [k0_pay17]
    simp only [h9]
    rfl
  have h8 : k0_pay15 v8 v10 v12 (ix2 r d) =
      Ideal.div (∑ x, Cert.Soft.num (fun x : Fin 2304 => ∑ k : Fin 64, v8 (ix3 0 r (half 0 k)) * v10 (ix3 0 x (half 0 k))) x
        * v12 (ix3 0 x d))
        (∑ x, Cert.Soft.num (fun x : Fin 2304 => ∑ k : Fin 64, v8 (ix3 0 r (half 0 k)) * v10 (ix3 0 x (half 0 k))) x) := by
    pointwise [k0_pay15, k0_pay11, k0_pay12, k0_pay13, k0_pay14]
    simp only [sum_low]
    rfl
  pointwise [k0_pay3, k0_pay1, k0_pay13]
  rw [h8]
  simp only [h9, h10]
  rfl

variable (m : (ℓ : Loc nD τ sig) → Buf (Elt Ideal) ℓ)

/-- Where each window's block lies at grid point `t`: batch `t / 36`, head `t / 9 % 4`, row tile `t % 9`. -/
theorem idx : ∀ t : Fin cfg0.N, win0_0.index t = ![t.val / 36, t.val % 9, t.val / 9 % 4] ∧
    win0_1.index t = ![t.val / 36, 0, t.val / 9 % 4] ∧ win0_2.index t = ![t.val / 36, 0, t.val / 9 % 4] ∧
    win0_3.index t = ![0, 0] ∧ win0_4.index t = ![t.val / 36, t.val % 9, t.val / 9 % 4] :=
  (by decide +kernel : ∀ t : Fin grid0.N, _)

/-- The tile of the scale as the launch lays it out. -/
theorem scale_at (c : Dev nD) (a : Fin 8) (b : Fin 128) : (V m c main_v17 : S8x128.Idx → EReal) (ix2 a b) =
    lam (m ((c.tc : Thread nD τ).loc main_arg3)) (m ((c.tc : Thread nD τ).loc main_arg4)) := by
  entry_read
  pointwise []
  rfl

/-- The block of queries, entry by entry. -/
theorem query_at (c : Dev nD) (t : Fin cfg0.N) (r : Fin 256) (k : Fin 128) (b : Fin 16) (rw : Fin 2304) (h : Fin 4)
    (hb : (b : ℕ) = t.val / 36) (hr : (rw : ℕ) = t.val % 9 * 256 + r) (hh : (h : ℕ) = t.val / 9 % 4) :
    iblk m c 0 t (ix3 0 r k) = (m ((c.tc : Thread nD τ).loc main_arg0) : S16x2304x512.Idx → EReal) (ix3 b rw (lane h k)) := by
  blk_point [iblk, idx t, V, lane]

/-- The block of keys, entry by entry. -/
theorem key_at (c : Dev nD) (t : Fin cfg0.N) (x : Fin 2304) (k : Fin 128) (b : Fin 16) (h : Fin 4)
    (hb : (b : ℕ) = t.val / 36) (hh : (h : ℕ) = t.val / 9 % 4) :
    iblk m c 1 t (ix3 0 x k) = (m ((c.tc : Thread nD τ).loc main_arg1) : S16x2304x512.Idx → EReal) (ix3 b x (lane h k)) := by
  blk_point [iblk, idx t, V, lane]

/-- The block of values, entry by entry. -/
theorem value_at (c : Dev nD) (t : Fin cfg0.N) (x : Fin 2304) (k : Fin 128) (b : Fin 16) (h : Fin 4)
    (hb : (b : ℕ) = t.val / 36) (hh : (h : ℕ) = t.val / 9 % 4) :
    iblk m c 2 t (ix3 0 x k) = (m ((c.tc : Thread nD τ).loc main_arg2) : S16x2304x512.Idx → EReal) (ix3 b x (lane h k)) := by
  blk_point [iblk, idx t, V, lane]

/-- The scale that the body reads. -/
theorem scale_ld (c : Dev nD) (t : Fin cfg0.N) :
    View.ld (iblk m c 3 t) (Rect.unit ![0, 0] ![1, 1] inb_S8x128_S1x1_0_0) (ix2 0 0) =
      lam (m ((c.tc : Thread nD τ).loc main_arg3)) (m ((c.tc : Thread nD τ).loc main_arg4)) := by
  refine (show _ = iblk m c 3 t (ix2 0 0) by pointwise []).trans ?_
  refine Eq.trans ?_ (scale_at m c 0 0)
  blk_point [iblk, idx t]

/-- At a context tile the body's block is the attention there. -/
theorem pointC (c : Dev nD) (hQ : Cert.Precond.Finite (s := S16x2304x512) (m ((c.tc : Thread nD τ).loc main_arg0)))
    (hK : Cert.Precond.Finite (s := S16x2304x512) (m ((c.tc : Thread nD τ).loc main_arg1)))
    (hW : Cert.Precond.Finite (s := S16x2304x512) (m ((c.tc : Thread nD τ).loc main_arg2)))
    (hL : Cert.Precond.Finite (s := S4x64) (m ((c.tc : Thread nD τ).loc main_arg3)))
    (hI : Cert.Precond.Finite (s := S1) (m ((c.tc : Thread nD τ).loc main_arg4)))
    (t : Fin cfg0.N) (h0 : t.val % 9 = 0) (r : Fin 256) (d : Fin 128) (b : Fin 16) (rw : Fin 2304) (cl : Fin 512)
    (hb : (b : ℕ) = t.val / 36) (hr : (rw : ℕ) = t.val % 9 * 256 + r) (hc : (cl : ℕ) = t.val / 9 % 4 * 128 + d) :
    k0_pay2 (View.ld (iblk m c 3 t) (Rect.unit ![0, 0] ![1, 1] inb_S8x128_S1x1_0_0)) (k0_pay6 (View.ld (iblk m c 2 t) (Rect.unit ![0, 0, 0] ![1, 256, 128] inb_S1x2304x128_S1x256x128_0_0_0)))
      (k0_pay8 (iblk m c 0 t) (View.ld (iblk m c 1 t) (Rect.unit ![0, 0, 0] ![1, 256, 128] inb_S1x2304x128_S1x256x128_0_0_0))
        (View.ld (iblk m c 2 t) (Rect.unit ![0, 0, 0] ![1, 256, 128] inb_S1x2304x128_S1x256x128_0_0_0)))
      (k0_pay9 (iblk m c 0 t) (View.ld (iblk m c 1 t) (Rect.unit ![0, 0, 0] ![1, 256, 128] inb_S1x2304x128_S1x256x128_0_0_0)))
      (k0_pay10 (iblk m c 0 t) (View.ld (iblk m c 1 t) (Rect.unit ![0, 0, 0] ![1, 256, 128] inb_S1x2304x128_S1x256x128_0_0_0)))
      (ix3 0 r d) =
      outCol (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) b rw cl := by
  have hd : (⟨(cl : ℕ) % 128, by omega⟩ : Fin 128) = d := Fin.ext (by show (cl : ℕ) % 128 = d; omega)
  obtain ⟨h, hh', hh⟩ : ∃ h : Fin 4, (⟨(cl : ℕ) / 128, by omega⟩ : Fin 4) = h ∧ (h : ℕ) = t.val / 9 % 4 :=
    ⟨_, rfl, by show (cl : ℕ) / 128 = _; omega⟩
  rw [outCol, hd, hh', out, if_pos (by omega), payC_at]
  have hq : ∀ k : Fin 128, iblk m c 0 t (ix3 0 r k) =
      (m ((c.tc : Thread nD τ).loc main_arg0) : S16x2304x512.Idx → EReal) (ix3 b rw (lane h k)) :=
    fun k => query_at m c t r k b rw h hb hr hh
  have hk : ∀ (x : Fin 256) (k : Fin 128), View.ld (iblk m c 1 t) (Rect.unit ![0, 0, 0] ![1, 256, 128] inb_S1x2304x128_S1x256x128_0_0_0) (ix3 0 x k) =
      (m ((c.tc : Thread nD τ).loc main_arg1) : S16x2304x512.Idx → EReal) (ix3 b (row (n := 256) (by decide) x) (lane h k)) :=
    fun x k => (show _ = iblk m c 1 t (ix3 0 (row (n := 256) (by decide) x) k) by pointwise []; rfl).trans (key_at m c t _ k b h hb hh)
  have hv : ∀ x : Fin 256, View.ld (iblk m c 2 t) (Rect.unit ![0, 0, 0] ![1, 256, 128] inb_S1x2304x128_S1x256x128_0_0_0) (ix3 0 x d) =
      (m ((c.tc : Thread nD τ).loc main_arg2) : S16x2304x512.Idx → EReal) (ix3 b (row (n := 256) (by decide) x) (lane h d)) :=
    fun x => (show _ = iblk m c 2 t (ix3 0 (row (n := 256) (by decide) x) d) by pointwise []; rfl).trans (value_at m c t _ d b h hb hh)
  refine Eq.trans ?_ (late_eq (n := 256) (by decide) (by decide) hQ hK hW (lam_finite hL hI) b h rw d)
  rw [scale_ld]
  simp only [hq, hk, hv]
  rfl

/-- At a latent tile the body's block is the attention there. -/
theorem pointL (c : Dev nD) (hQ : Cert.Precond.Finite (s := S16x2304x512) (m ((c.tc : Thread nD τ).loc main_arg0)))
    (hK : Cert.Precond.Finite (s := S16x2304x512) (m ((c.tc : Thread nD τ).loc main_arg1)))
    (hW : Cert.Precond.Finite (s := S16x2304x512) (m ((c.tc : Thread nD τ).loc main_arg2)))
    (hL : Cert.Precond.Finite (s := S4x64) (m ((c.tc : Thread nD τ).loc main_arg3)))
    (hI : Cert.Precond.Finite (s := S1) (m ((c.tc : Thread nD τ).loc main_arg4)))
    (t : Fin cfg0.N) (h0 : ¬ t.val % 9 = 0) (r : Fin 256) (d : Fin 128) (b : Fin 16) (rw : Fin 2304) (cl : Fin 512)
    (hb : (b : ℕ) = t.val / 36) (hr : (rw : ℕ) = t.val % 9 * 256 + r) (hc : (cl : ℕ) = t.val / 9 % 4 * 128 + d) :
    k0_pay3 (View.ld (iblk m c 3 t) (Rect.unit ![0, 0] ![1, 1] inb_S8x128_S1x1_0_0)) (k0_pay13 (iblk m c 2 t))
      (k0_pay15 (iblk m c 0 t) (iblk m c 1 t) (iblk m c 2 t)) (k0_pay16 (iblk m c 0 t) (iblk m c 1 t))
      (k0_pay17 (iblk m c 0 t) (iblk m c 1 t))
      (ix3 0 r d) =
      outCol (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) b rw cl := by
  have hd : (⟨(cl : ℕ) % 128, by omega⟩ : Fin 128) = d := Fin.ext (by show (cl : ℕ) % 128 = d; omega)
  obtain ⟨h, hh', hh⟩ : ∃ h : Fin 4, (⟨(cl : ℕ) / 128, by omega⟩ : Fin 4) = h ∧ (h : ℕ) = t.val / 9 % 4 :=
    ⟨_, rfl, by show (cl : ℕ) / 128 = _; omega⟩
  rw [outCol, hd, hh', out, if_neg (by omega), payL_at]
  have hq : ∀ k : Fin 128, iblk m c 0 t (ix3 0 r k) =
      (m ((c.tc : Thread nD τ).loc main_arg0) : S16x2304x512.Idx → EReal) (ix3 b rw (lane h k)) :=
    fun k => query_at m c t r k b rw h hb hr hh
  have hk : ∀ (x : Fin 2304) (k : Fin 128), iblk m c 1 t (ix3 0 x k) =
      (m ((c.tc : Thread nD τ).loc main_arg1) : S16x2304x512.Idx → EReal) (ix3 b x (lane h k)) :=
    fun x k => key_at m c t x k b h hb hh
  have hv : ∀ x : Fin 2304, iblk m c 2 t (ix3 0 x d) =
      (m ((c.tc : Thread nD τ).loc main_arg2) : S16x2304x512.Idx → EReal) (ix3 b x (lane h d)) :=
    fun x => value_at m c t x d b h hb hh
  refine Eq.trans ?_ (late_eq (n := 2304) le_rfl (by decide) hQ hK hW (lam_finite hL hI) b h rw d)
  rw [scale_ld]
  simp only [hq, hk, hv]
  rfl

/-- The kernel's result array, entry by entry. -/
theorem final (c : Dev nD) (hQ : Cert.Precond.Finite (s := S16x2304x512) (m ((c.tc : Thread nD τ).loc main_arg0)))
    (hK : Cert.Precond.Finite (s := S16x2304x512) (m ((c.tc : Thread nD τ).loc main_arg1)))
    (hW : Cert.Precond.Finite (s := S16x2304x512) (m ((c.tc : Thread nD τ).loc main_arg2)))
    (hL : Cert.Precond.Finite (s := S4x64) (m ((c.tc : Thread nD τ).loc main_arg3)))
    (hI : Cert.Precond.Finite (s := S1) (m ((c.tc : Thread nD τ).loc main_arg4))) :
    (dats m 0 c).arrAt 4 cfg0.N = fun j : S16x2304x512.Idx =>
      outCol (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (j 0) (j 1) (j 2) := by
  refine (dats m 0 c).arrAt_eq_of_covers 4 _ (by decide +kernel) fun t _ y => ?_
  have e0 : (((cfg0.win 4).blk t).view.emb y 0 : ℕ) = t.val / 36 := by blk_simp [idx t]
  have e1 : (((cfg0.win 4).blk t).view.emb y 1 : ℕ) = t.val % 9 * 256 + y 1 := by blk_simp [idx t]
  have e2 : (((cfg0.win 4).blk t).view.emb y 2 : ℕ) = t.val / 9 % 4 * 128 + y 2 := by blk_simp [idx t]
  have hy : y = (ix3 0 (y 1) (y 2) : S1x256x128.Idx) :=
    (eq_ix3 (n0 := 1) (n1 := 256) (n2 := 128) y).trans (by rw [Subsingleton.elim (α := Fin 1) (y 0) 0])
  blk_simp
  rw [after0_4]
  by_cases h0 : t.val % 9 = 0
  · rw [outsAt0_A m c t h0 (by omega)]
    frame_out
    exact (congrArg _ hy).trans (pointC m c hQ hK hW hL hI t h0 (y 1) (y 2) _ _ _ e0 e1 e2)
  · rw [outsAt0_B m c t h0 (by omega)]
    frame_out
    exact (congrArg _ hy).trans (pointL m c hQ hK hW hL hI t h0 (y 1) (y 2) _ _ _ e0 e1 e2)

end Cert.AttnIdeal.Value
-- ==== Proof.RowNorm.lean ====
module

public import Idealize.ShloMosaic.Lib.Pipeline.ValueKit
public import Idealize.ShloMosaic.Lib.Pointwise

@[expose] public section

set_option maxRecDepth 16384

noncomputable section

open Idealize.ShloMosaic

namespace Cert.Row

/-- One entry of a row of 1024 extended reals, normalised: the row less its mean, over the root of its variance plus the
small constant. -/
def norm (u : Fin 1024 → EReal) (d : Fin 1024) : EReal :=
  (u d - Ideal.div (∑ k, u k) (Ideal.ofBits .f32 0x44800000#32)) *
    Ideal.rsqrt (Ideal.div (∑ k, (u k - Ideal.div (∑ l, u l) (Ideal.ofBits .f32 0x44800000#32)) *
        (u k - Ideal.div (∑ l, u l) (Ideal.ofBits .f32 0x44800000#32))) (Ideal.ofBits .f32 0x44800000#32)
      + Ideal.ofBits .f32 0x3727C5AC#32)

/-- The row of the conditioning table that modulates row `t` of batch `b`: the shared row 16 for the context rows, the
batch's own row for the latent rows. -/
def modRow (b : Fin 16) (t : Fin 2304) : Fin 24 := if (t : ℕ) < 256 then 16 else ⟨b, by omega⟩

end Cert.Row
-- ==== Proof.FinalValue.lean ====
module

public import proofs.«01_k».proof.Proof.Gen.FinalIdeal.Value
public import proofs.«01_k».proof.Proof.Gen.FinalRefIdeal.Run
public import proofs.«01_k».proof.Proof.RowNorm

@[expose] public section

set_option maxRecDepth 16384

noncomputable section

open Idealize.ShloMosaic Idealize.ShloMosaic.TcCoe Idealize.SL.Sem
open Idealize.ShloMosaic.Pipeline (Dat)

namespace Cert.FinalSpec

/-- The layer's output at one index: the layer norm of the scaled residual plus the gated mixture. -/
def out (X Y : (⟨3, ![16, 2304, 1024]⟩ : Shape).Idx → EReal) (M : (⟨2, ![24, 6144]⟩ : Shape).Idx → EReal)
    (G B : (⟨1, ![1024]⟩ : Shape).Idx → EReal) (b : Fin 16) (t : Fin 2304) (d : Fin 1024) : EReal :=
  Cert.Row.norm (fun k => Ideal.ofBits .f32 0x3FB504F3#32 * X (ix3 b t k)
      + M (ix2 (Cert.Row.modRow b t) ⟨5120 + (k : ℕ), by omega⟩) * Y (ix3 b t k)) d * G (ix1 d) + B (ix1 d)

end Cert.FinalSpec

section Reference
open Cert.FinalRefIdeal

/-- The reference's result is `out` of its arguments. -/
theorem Cert.FinalSpec.ref_at (m : (ℓ : Loc nD τ sig) → Buf (Elt Ideal) ℓ) (c : Dev nD)
    (b : Fin 16) (t : Fin 2304) (d : Fin 1024) :
    Cert.FinalRefIdeal.Value.res_out0 m c (ix3 b t d) =
      Cert.FinalSpec.out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) b t d := by
  pointwise [Cert.FinalRefIdeal.Value.res_out0, Cert.FinalRefIdeal.Value.res_main_v79]
  by_cases h : (t : ℕ) < 256
  · rw [dif_pos h]
    simp only [Cert.FinalSpec.out, Cert.Row.modRow, if_pos h]
    rfl
  · have ht : ∀ h', (⟨256 + ((t : ℕ) - 256), h'⟩ : Fin 2304) = t := fun _ => Fin.ext (by simp only []; omega)
    rw [dif_neg h]
    simp only [ht, Cert.FinalSpec.out, Cert.Row.modRow, if_neg h]
    rfl

end Reference

namespace Cert.FinalIdeal.Value
open Cert.FinalIdeal Cert.FinalIdeal.Gen

/-- What the body stores, entry by entry, as the layer norm of the row it loads. -/
theorem pay_at (v0 : Vec Ideal S1x1x1x1024 .f32) (v2 : Vec Ideal S1x256x1024 .f32) (v6 : Vec Ideal S1x256x1024 .f32)
    (v27 : Vec Ideal S1x1024 .f32) (v31 : Vec Ideal S1x1024 .f32) (r : Fin 256) (d : Fin 1024) :
    k0_pay1 (k0_pay2 v0 v2 v6 v27 v31) (ix3 0 r d) =
      Cert.Row.norm (fun k => Ideal.ofBits .f32 0x3FB504F3#32 * v2 (ix3 0 r k) + v0 (ix4 0 0 0 k) * v6 (ix3 0 r k)) d
        * v27 (ix2 0 d) + v31 (ix2 0 d) := by
  pointwise [k0_pay1, k0_pay2]
  rfl

variable (m : (ℓ : Loc nD τ sig) → Buf (Elt Ideal) ℓ)

/-- Where each window's block lies at grid point `t`: batch `t / 9`, row tile `t % 9`. -/
theorem idx : ∀ t : Fin cfg0.N, win0_0.index t = ![t.val / 9, t.val % 9, 0] ∧ win0_1.index t = ![t.val / 9, t.val % 9, 0] ∧
    win0_2.index t = ![t.val / 9, if t.val % 9 = 0 then 0 else 1, 0, 0] ∧ win0_3.index t = ![0, 0] ∧
    win0_4.index t = ![t.val / 9, t.val % 9, 0] :=
  (by decide +kernel : ∀ t : Fin grid0.N, _)

/-- The conditioning table as the kernel's launch lays it out: entry `(b, s, j, k)` is entry `1024 j + k` of the shared row
for `s = 0`, of the batch's row for `s = 1`. -/
theorem modulation (c : Dev nD) (b : Fin 16) (s : Fin 2) (j : Fin 6) (k : Fin 1024) :
    (V m c main_v9 : S16x2x6x1024.Idx → EReal) (ix4 b s j k) =
      (m ((c.tc : Thread nD τ).loc main_arg2) : S24x6144.Idx → EReal)
        (ix2 (if (s : ℕ) < 1 then 16 else ⟨b, by omega⟩) ⟨j * 1024 + k, by omega⟩) := by
  entry_read
  pointwise []
  by_cases h : (s : ℕ) < 1
  · rw [dif_pos h]
    simp only [if_pos h]
  · rw [dif_neg h]
    simp only [if_neg h]

/-- The gain and shift of the norm as the kernel's launch stacks them. -/
theorem gains (c : Dev nD) (s : Fin 2) (k : Fin 1024) :
    (V m c main_v2 : S2x1024.Idx → EReal) (ix2 s k) =
      if (s : ℕ) < 1 then (m ((c.tc : Thread nD τ).loc main_arg3) : S1024.Idx → EReal) (ix1 k)
      else (m ((c.tc : Thread nD τ).loc main_arg4) : S1024.Idx → EReal) (ix1 k) := by
  entry_read
  pointwise []
  split <;> rfl

/-- At one grid point the body's block is the layer's output there. -/
theorem point (c : Dev nD) (t : Fin cfg0.N) (r : Fin 256) (d : Fin 1024) (b : Fin 16) (row : Fin 2304)
    (hb : (b : ℕ) = t.val / 9) (hr : (row : ℕ) = t.val % 9 * 256 + r) :
    k0_pay1 (k0_pay2 (View.ld (iblk m c 2 t) r0_0) (iblk m c 0 t) (iblk m c 1 t)
      (View.ld (iblk m c 3 t) r0_2) (View.ld (iblk m c 3 t) r0_3)) (ix3 0 r d) =
      Cert.FinalSpec.out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) b row d := by
  have h0 : ∀ k : Fin 1024, iblk m c 0 t (ix3 0 r k) =
      (m ((c.tc : Thread nD τ).loc main_arg0) : S16x2304x1024.Idx → EReal) (ix3 b row k) := fun k => by
    blk_point [iblk, V, idx t]
  have h1 : ∀ k : Fin 1024, iblk m c 1 t (ix3 0 r k) =
      (m ((c.tc : Thread nD τ).loc main_arg1) : S16x2304x1024.Idx → EReal) (ix3 b row k) := fun k => by
    blk_point [iblk, V, idx t]
  have hs : ((if t.val % 9 = 0 then 0 else 1 : ℕ) < 1) = ((row : ℕ) < 256) := by
    split <;> simp only [eq_iff_iff] <;> omega
  have hv2 : ∀ k : Fin 1024, iblk m c 2 t (ix4 0 0 5 k) = (V m c main_v9 : S16x2x6x1024.Idx → EReal)
      (ix4 b ⟨if t.val % 9 = 0 then 0 else 1, by split <;> omega⟩ 5 k) := fun k => by
    blk_point [iblk, idx t]
  have h2 : ∀ k : Fin 1024, View.ld (iblk m c 2 t) r0_0 (ix4 0 0 0 k) =
      (m ((c.tc : Thread nD τ).loc main_arg2) : S24x6144.Idx → EReal)
        (ix2 (Cert.Row.modRow b row) ⟨5120 + (k : ℕ), by omega⟩) := fun k => by
    refine (show _ = iblk m c 2 t (ix4 0 0 5 k) by pointwise []).trans ((hv2 k).trans ((modulation m c _ _ _ _).trans ?_))
    simp only [hs, Cert.Row.modRow]
    rfl
  have hv3 : ∀ s : Fin 2, iblk m c 3 t (ix2 s d) = (V m c main_v2 : S2x1024.Idx → EReal) (ix2 s d) := fun s => by
    blk_point [iblk, idx t]
  have h3 : View.ld (iblk m c 3 t) r0_2 (ix2 0 d) =
      (m ((c.tc : Thread nD τ).loc main_arg3) : S1024.Idx → EReal) (ix1 d) :=
    (show _ = iblk m c 3 t (ix2 0 d) by pointwise []).trans ((hv3 0).trans (gains m c _ _))
  have h4 : View.ld (iblk m c 3 t) r0_3 (ix2 0 d) =
      (m ((c.tc : Thread nD τ).loc main_arg4) : S1024.Idx → EReal) (ix1 d) :=
    (show _ = iblk m c 3 t (ix2 1 d) by pointwise []).trans ((hv3 1).trans (gains m c _ _))
  rw [pay_at, h3, h4]
  simp only [h0, h1, h2]
  rfl

/-- The kernel's result array, entry by entry. -/
theorem final (c : Dev nD) :
    (dats m 0 c).arrAt 4 cfg0.N = fun j : S16x2304x1024.Idx =>
      Cert.FinalSpec.out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (j 0) (j 1) (j 2) := by
  refine (dats m 0 c).arrAt_eq_of_covers 4 _ (by decide +kernel) fun t _ y => ?_
  have e0 : (((cfg0.win 4).blk t).view.emb y 0 : ℕ) = t.val / 9 := by blk_simp [idx t]
  have e1 : (((cfg0.win 4).blk t).view.emb y 1 : ℕ) = t.val % 9 * 256 + y 1 := by blk_simp [idx t]
  have e2 : (((cfg0.win 4).blk t).view.emb y 2 : ℕ) = y 2 := by blk_simp [idx t]
  have hy : y = (ix3 0 (y 1) (y 2) : S1x256x1024.Idx) :=
    (eq_ix3 (n0 := 1) (n1 := 256) (n2 := 1024) y).trans (by rw [Subsingleton.elim (α := Fin 1) (y 0) 0])
  have hd : (y 2 : Fin 1024) = ((cfg0.win 4).blk t).view.emb y 2 := Fin.ext e2.symm
  blk_simp
  rw [after0_4]
  frame_out
  refine (congrArg _ hy).trans ((point m c t (y 1) (y 2) _ _ e0 e1).trans ?_)
  rw [hd]

end Cert.FinalIdeal.Value
-- ==== Proof.FourierRef.lean ====
module

public import proofs.«01_k».proof.Proof.Gen.FourierRefIdeal.Run
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.FourierSpec

/-- The transform of one position's channels at channel `j`, within the group of 128 channels that `j` lies in. -/
def chan (U : (⟨3, ![16, 2304, 7680]⟩ : Shape).Idx → EReal) (T : (⟨2, ![128, 128]⟩ : Shape).Idx → EReal) (b : Fin 16)
    (t : Fin 2304) (j : Fin 512) : EReal :=
  ∑ d : Fin 128, U (ix3 b t ⟨7168 + ((j : ℕ) / 128 * 128 + d), by omega⟩) * T (ix2 d ⟨j % 128, by omega⟩)

/-- The mixing at one index: the context's 256 positions are transformed among themselves, and so are the 2048 latents. -/
def out (U : (⟨3, ![16, 2304, 7680]⟩ : Shape).Idx → EReal) (C S : (⟨2, ![128, 128]⟩ : Shape).Idx → EReal)
    (P Q : (⟨2, ![256, 256]⟩ : Shape).Idx → EReal) (P' Q' : (⟨2, ![2048, 2048]⟩ : Shape).Idx → EReal) (b : Fin 16)
    (t : Fin 2304) (j : Fin 512) : EReal :=
  if h : (t : ℕ) < 256 then
    (∑ l : Fin 256, chan U C b ⟨l, by omega⟩ j * P (ix2 ⟨t, h⟩ l)) +
      ∑ l : Fin 256, chan U S b ⟨l, by omega⟩ j * Q (ix2 ⟨t, h⟩ l)
  else
    (∑ l : Fin 2048, chan U C b ⟨256 + (l : ℕ), by omega⟩ j * P' (ix2 ⟨(t : ℕ) - 256, by omega⟩ l)) +
      ∑ l : Fin 2048, chan U S b ⟨256 + (l : ℕ), by omega⟩ j * Q' (ix2 ⟨(t : ℕ) - 256, by omega⟩ l)

end Cert.FourierSpec

namespace Cert.FourierRefIdeal.Value
open Cert.FourierRefIdeal Cert.FourierRefIdeal.Gen

/-- A modulus, a zero replaced by one. -/
def modulus (n : BitVec 32) : IVec S_ 32 :=
  select (cmpi .eq (id (constantI S_ 32 n)) (constantI S_ 32 0#32)) (constantI S_ 32 1#32) (id (constantI S_ 32 n))

/-- The products of two positions, reduced modulo 128. -/
def prod128 : IVec S128x128 32 :=
  Host.remsi (muli (broadcastInDim S128x128 ![0, 1] bcast_S128x1_S128x128_0_1
    (broadcastInDim S128x1 ![0] bcast_S128_S128x1_0 (iotaInDim S128 32 0)))
    (broadcastInDim S128x128 ![0, 1] bcast_S1x128_S128x128_0_1
    (broadcastInDim S1x128 ![1] bcast_S128_S1x128_1 (iotaInDim S128 32 0))))
    (broadcastInDim S128x128 ![] bcast_S_S128x128 (modulus 128#32))

/-- The angles of the 128-point transform. -/
def turn128 : FVec Ideal S128x128 .f32 :=
  Host.divf (mulf (broadcastInDim S128x128 ![] bcast_S_S128x128 (constant S_ .f32 0x40C90FDB#32))
    (sitofp .f32 (select (andi (cmpi .ne (cmpi .slt prod128 (broadcastInDim S128x128 ![] bcast_S_S128x128
    (constantI S_ 32 0#32))) (broadcastInDim S128x128 ![] bcast_S_S128x128 (cmpi .slt (modulus 128#32)
    (constantI S_ 32 0#32)))) (cmpi .ne prod128 (broadcastInDim S128x128 ![] bcast_S_S128x128 (constantI S_ 32 0#32))))
    (addi prod128 (broadcastInDim S128x128 ![] bcast_S_S128x128 (modulus 128#32))) prod128)))
    (broadcastInDim S128x128 ![] bcast_S_S128x128 (constant S_ .f32 0x43000000#32))

/-- The products of two positions, reduced modulo 256. -/
def prod256 : IVec S256x256 32 :=
  Host.remsi (muli (broadcastInDim S256x256 ![0, 1] bcast_S256x1_S256x256_0_1
    (broadcastInDim S256x1 ![0] bcast_S256_S256x1_0 (iotaInDim S256 32 0)))
    (broadcastInDim S256x256 ![0, 1] bcast_S1x256_S256x256_0_1
    (broadcastInDim S1x256 ![1] bcast_S256_S1x256_1 (iotaInDim S256 32 0))))
    (broadcastInDim S256x256 ![] bcast_S_S256x256 (modulus 256#32))

/-- The angles of the 256-point transform. -/
def turn256 : FVec Ideal S256x256 .f32 :=
  Host.divf (mulf (broadcastInDim S256x256 ![] bcast_S_S256x256 (constant S_ .f32 0x40C90FDB#32))
    (sitofp .f32 (select (andi (cmpi .ne (cmpi .slt prod256 (broadcastInDim S256x256 ![] bcast_S_S256x256
    (constantI S_ 32 0#32))) (broadcastInDim S256x256 ![] bcast_S_S256x256 (cmpi .slt (modulus 256#32)
    (constantI S_ 32 0#32)))) (cmpi .ne prod256 (broadcastInDim S256x256 ![] bcast_S_S256x256 (constantI S_ 32 0#32))))
    (addi prod256 (broadcastInDim S256x256 ![] bcast_S_S256x256 (modulus 256#32))) prod256)))
    (broadcastInDim S256x256 ![] bcast_S_S256x256 (constant S_ .f32 0x43800000#32))

/-- The products of two positions, reduced modulo 2048. -/
def prod2048 : IVec S2048x2048 32 :=
  Host.remsi (muli (broadcastInDim S2048x2048 ![0, 1] bcast_S2048x1_S2048x2048_0_1
    (broadcastInDim S2048x1 ![0] bcast_S2048_S2048x1_0 (iotaInDim S2048 32 0)))
    (broadcastInDim S2048x2048 ![0, 1] bcast_S1x2048_S2048x2048_0_1
    (broadcastInDim S1x2048 ![1] bcast_S2048_S1x2048_1 (iotaInDim S2048 32 0))))
    (broadcastInDim S2048x2048 ![] bcast_S_S2048x2048 (modulus 2048#32))

/-- The angles of the 2048-point transform. -/
def turn2048 : FVec Ideal S2048x2048 .f32 :=
  Host.divf (mulf (broadcastInDim S2048x2048 ![] bcast_S_S2048x2048 (constant S_ .f32 0x40C90FDB#32))
    (sitofp .f32 (select (andi (cmpi .ne (cmpi .slt prod2048 (broadcastInDim S2048x2048 ![] bcast_S_S2048x2048
    (constantI S_ 32 0#32))) (broadcastInDim S2048x2048 ![] bcast_S_S2048x2048 (cmpi .slt (modulus 2048#32)
    (constantI S_ 32 0#32)))) (cmpi .ne prod2048 (broadcastInDim S2048x2048 ![] bcast_S_S2048x2048 (constantI S_ 32 0#32))))
    (addi prod2048 (broadcastInDim S2048x2048 ![] bcast_S_S2048x2048 (modulus 2048#32))) prod2048)))
    (broadcastInDim S2048x2048 ![] bcast_S_S2048x2048 (constant S_ .f32 0x45000000#32))

/-- The cosines of the 256-point transform, normalised. -/
def cos256 : FVec Ideal S256x256 .f32 :=
  mulf (Host.cos turn256) (broadcastInDim S256x256 ![] bcast_S_S256x256 (constant S_ .f32 0x3BB504F3#32))

/-- The negated sines of the 256-point transform, normalised. -/
def sin256 : FVec Ideal S256x256 .f32 :=
  mulf (Host.negf (Host.sin turn256)) (broadcastInDim S256x256 ![] bcast_S_S256x256 (constant S_ .f32 0x3BB504F3#32))

/-- The cosines of the 2048-point transform, normalised. -/
def cos2048 : FVec Ideal S2048x2048 .f32 :=
  mulf (Host.cos turn2048) (broadcastInDim S2048x2048 ![] bcast_S_S2048x2048 (constant S_ .f32 0x3B000000#32))

/-- The negated sines of the 2048-point transform, normalised. -/
def sin2048 : FVec Ideal S2048x2048 .f32 :=
  mulf (Host.negf (Host.sin turn2048)) (broadcastInDim S2048x2048 ![] bcast_S_S2048x2048 (constant S_ .f32 0x3B000000#32))

/-- The transform over 256 positions and the channels of each group. -/
def mix256 (u : FVec Ideal S16x256x4x128 .f32) (C S : FVec Ideal S128x128 .f32) (P Q : FVec Ideal S256x256 .f32) :
    FVec Ideal S16x256x512 .f32 :=
  shapeCast _ (addf (transpose S16x256x4x128 [0, 3, 1, 2] (Host.dotGeneral
    dot_S16x256x4x128_S256x256_S16x4x128x256_1_1_023_0_n_n none (Host.dotGeneral
    dot_S16x256x4x128_S128x128_S16x256x4x128_3_0_012_1_n_n none u C) P)
    transposes_S16x4x128x256_S16x256x4x128_0_3_1_2) (transpose S16x256x4x128 [0, 3, 1, 2] (Host.dotGeneral
    dot_S16x256x4x128_S256x256_S16x4x128x256_1_1_023_0_n_n none (Host.dotGeneral
    dot_S16x256x4x128_S128x128_S16x256x4x128_3_0_012_1_n_n none u S) Q)
    transposes_S16x4x128x256_S16x256x4x128_0_3_1_2)) shapeCasts_S16x256x4x128_S16x256x512

set_option maxHeartbeats 1600000 in
/-- The transform over 256 positions, entry by entry. -/
theorem mix256_at (u : FVec Ideal S16x256x4x128 .f32) (C S : FVec Ideal S128x128 .f32) (P Q : FVec Ideal S256x256 .f32)
    (b : Fin 16) (t : Fin 256) (j : Fin 512) :
    mix256 u C S P Q (ix3 b t j) =
      (∑ l : Fin 256, (∑ d : Fin 128, u (ix4 b l ⟨j / 128, by omega⟩ d) * C (ix2 d ⟨j % 128, by omega⟩)) * P (ix2 t l)) +
      ∑ l : Fin 256, (∑ d : Fin 128, u (ix4 b l ⟨j / 128, by omega⟩ d) * S (ix2 d ⟨j % 128, by omega⟩)) * Q (ix2 t l) := by
  pointwise [mix256]
  try rfl

/-- The transform over 2048 positions and the channels of each group. -/
def mix2048 (u : FVec Ideal S16x2048x4x128 .f32) (C S : FVec Ideal S128x128 .f32) (P Q : FVec Ideal S2048x2048 .f32) :
    FVec Ideal S16x2048x512 .f32 :=
  shapeCast _ (addf (transpose S16x2048x4x128 [0, 3, 1, 2] (Host.dotGeneral
    dot_S16x2048x4x128_S2048x2048_S16x4x128x2048_1_1_023_0_n_n none (Host.dotGeneral
    dot_S16x2048x4x128_S128x128_S16x2048x4x128_3_0_012_1_n_n none u C) P)
    transposes_S16x4x128x2048_S16x2048x4x128_0_3_1_2) (transpose S16x2048x4x128 [0, 3, 1, 2] (Host.dotGeneral
    dot_S16x2048x4x128_S2048x2048_S16x4x128x2048_1_1_023_0_n_n none (Host.dotGeneral
    dot_S16x2048x4x128_S128x128_S16x2048x4x128_3_0_012_1_n_n none u S) Q)
    transposes_S16x4x128x2048_S16x2048x4x128_0_3_1_2)) shapeCasts_S16x2048x4x128_S16x2048x512

set_option maxHeartbeats 1600000 in
/-- The transform over 2048 positions, entry by entry. -/
theorem mix2048_at (u : FVec Ideal S16x2048x4x128 .f32) (C S : FVec Ideal S128x128 .f32) (P Q : FVec Ideal S2048x2048 .f32)
    (b : Fin 16) (t : Fin 2048) (j : Fin 512) :
    mix2048 u C S P Q (ix3 b t j) =
      (∑ l : Fin 2048, (∑ d : Fin 128, u (ix4 b l ⟨j / 128, by omega⟩ d) * C (ix2 d ⟨j % 128, by omega⟩)) * P (ix2 t l)) +
      ∑ l : Fin 2048, (∑ d : Fin 128, u (ix4 b l ⟨j / 128, by omega⟩ d) * S (ix2 d ⟨j % 128, by omega⟩)) * Q (ix2 t l) := by
  pointwise [mix2048]
  try rfl

/-- A concatenation of 256 and 2048 positions, entry by entry. -/
theorem concat_at (a : Vec Ideal S16x256x512 .f32) (e : Vec Ideal S16x2048x512 .f32) (H) (b : Fin 16) (t : Fin 2304)
    (j : Fin 512) :
    (concatenate S16x2304x512 1 [⟨S16x256x512, a⟩, ⟨S16x2048x512, e⟩] H : Vec Ideal S16x2304x512 .f32) (ix3 b t j) =
      if h : (t : ℕ) < 256 then a (ix3 b ⟨t, h⟩ j) else e (ix3 b ⟨(t : ℕ) - 256, by omega⟩ j) := by
  pointwise []

/-- The context's part of the columns that are mixed. -/
theorem ctx_at (V0 : Valuation τ sig (Elt Ideal)) (b : Fin 16) (l : Fin 256) (g : Fin 4) (d : Fin 128) :
    (res_main_v2 V0 : S16x256x4x128.Idx → EReal) (ix4 b l g d) =
      (V0 (Proc.devRef .tc main_arg0) : S16x2304x7680.Idx → EReal)
        (ix3 b ⟨l, by omega⟩ ⟨7168 + ((g : ℕ) * 128 + d), by omega⟩) := by
  pointwise [res_main_v2, res_main_v0]
  try rfl

/-- The latents' part of the columns that are mixed. -/
theorem lat_at (V0 : Valuation τ sig (Elt Ideal)) (b : Fin 16) (l : Fin 2048) (g : Fin 4) (d : Fin 128) :
    (res_main_v45 V0 : S16x2048x4x128.Idx → EReal) (ix4 b l g d) =
      (V0 (Proc.devRef .tc main_arg0) : S16x2304x7680.Idx → EReal)
        (ix3 b ⟨256 + (l : ℕ), by omega⟩ ⟨7168 + ((g : ℕ) * 128 + d), by omega⟩) := by
  pointwise [res_main_v45, res_main_v0]
  try rfl

/-- The reference's run ends with the mixing, and the argument unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = (fun j : S16x2304x512.Idx =>
        Cert.FourierSpec.out (m ((c.tc : Thread nD τ).loc main_arg0)) (Host.cos turn128) (Host.sin turn128) cos256 sin256
          cos2048 sin2048 (j 0) (j 1) (j 2))
      ∧ r.2.mem ((c.tc : Thread nD τ).loc main_arg0) = m ((c.tc : Thread nD τ).loc main_arg0) := by
  refine θ_run_mono (Cert.FourierRefIdeal.Value.run m ρ) fun r hr c => ⟨?_, (hr c).2⟩
  rw [(hr c).1]
  have h : ∀ V0 : Valuation τ sig (Elt Ideal), res_main_v26 V0 = turn128 ∧ res_main_v69 V0 = turn128 ∧
      res_main_v14 V0 = turn256 ∧ res_main_v57 V0 = turn2048 := fun _ => ⟨rfl, rfl, rfl, rfl⟩
  rw [(h _).1, (h _).2.1, (h _).2.2.1, (h _).2.2.2]
  funext j
  refine (congrArg _ (eq_ix3 (n0 := 16) (n1 := 2304) (n2 := 512) j)).trans ((concat_at _ _ _ (j 0) (j 1) (j 2)).trans ?_)
  unfold Cert.FourierSpec.out
  by_cases h : (j 1 : ℕ) < 256
  · rw [dif_pos h, dif_pos h]
    refine (mix256_at _ _ _ cos256 sin256 _ _ _).trans ?_
    exact congrArg₂ (· + ·)
      (Finset.sum_congr rfl fun l _ => congrArg (· * _) (Finset.sum_congr rfl fun d _ => congrArg (· * _) (ctx_at _ _ _ _ _)))
      (Finset.sum_congr rfl fun l _ => congrArg (· * _) (Finset.sum_congr rfl fun d _ => congrArg (· * _) (ctx_at _ _ _ _ _)))
  · rw [dif_neg h, dif_neg h]
    refine (mix2048_at _ _ _ cos2048 sin2048 _ _ _).trans ?_
    exact congrArg₂ (· + ·)
      (Finset.sum_congr rfl fun l _ => congrArg (· * _) (Finset.sum_congr rfl fun d _ => congrArg (· * _) (lat_at _ _ _ _ _)))
      (Finset.sum_congr rfl fun l _ => congrArg (· * _) (Finset.sum_congr rfl fun d _ => congrArg (· * _) (lat_at _ _ _ _ _)))

end Cert.FourierRefIdeal.Value
-- ==== Proof.FourierTables.lean ====
module

public import proofs.«01_k».proof.Proof.Gen.FourierIdeal.Value
public import proofs.«01_k».proof.Proof.FourierRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FourierIdeal.Value
open Cert.FourierIdeal Cert.FourierIdeal.Gen
open Cert.FourierRefIdeal.Value (turn128 turn256 turn2048 cos256 sin256 cos2048 sin2048)

/-- Two tables of 256 columns side by side. -/
def cat256 (a b : FVec Ideal S256x256 .f32) : FVec Ideal S256x512 .f32 :=
  concatenate S256x512 1 [⟨S256x256, a⟩, ⟨S256x256, b⟩] concatenates_S256x256_S256x256_S256x512_d1

/-- Two tables of 2048 columns side by side. -/
def cat2048 (a b : FVec Ideal S2048x2048 .f32) : FVec Ideal S2048x4096 .f32 :=
  concatenate S2048x4096 1 [⟨S2048x2048, a⟩, ⟨S2048x2048, b⟩] concatenates_S2048x2048_S2048x2048_S2048x4096_d1

/-- The printed form of `cat256`. -/
theorem fold256 (a b : FVec Ideal S256x256 .f32) : concatenate S256x512 1 [⟨S256x256, a⟩, ⟨S256x256, b⟩]
    concatenates_S256x256_S256x256_S256x512_d1 = cat256 a b := rfl

/-- The printed form of `cat2048`. -/
theorem fold2048 (a b : FVec Ideal S2048x2048 .f32) : concatenate S2048x4096 1 [⟨S2048x2048, a⟩, ⟨S2048x2048, b⟩]
    concatenates_S2048x2048_S2048x2048_S2048x4096_d1 = cat2048 a b := rfl

/-- The 4 by 4 identity. -/
def eye : FVec Ideal S4x4 .f32 :=
  uitofp .f32 (cmpi .eq (addi (iotaInDim S4x4 32 0) (broadcastInDim S4x4 ![] bcast_S_S4x4 (constantI S_ 32 0#32)))
    (iotaInDim S4x4 32 1))

/-- A table repeated along the diagonal of a 4 by 4 arrangement. -/
def kron (T : FVec Ideal S128x128 .f32) : FVec Ideal S512x512 .f32 :=
  shapeCast _ (mulf (broadcastInDim S4x128x4x128 ![0, 1, 2, 3] bcast_S4x1x4x1_S4x128x4x128_0_1_2_3
    (broadcastInDim S4x1x4x1 ![0, 2] bcast_S4x4_S4x1x4x1_0_2 eye))
    (broadcastInDim S4x128x4x128 ![0, 1, 2, 3] bcast_S1x128x1x128_S4x128x4x128_0_1_2_3
    (broadcastInDim S1x128x1x128 ![1, 3] bcast_S128x128_S1x128x1x128_1_3 T))) shapeCasts_S4x128x4x128_S512x512

/-- The identity, entry by entry. -/
theorem eye_at (g h : Fin 4) : eye (ix2 g h) = if g = h then (1 : EReal) else 0 := by
  pointwise [eye]
  have e : ∀ g h : Fin 4, IntOp.cmpi CmpIPredicate.eq (IntOp.addi (BitVec.ofNat 32 (g : ℕ)) 0#32) (BitVec.ofNat 32 (h : ℕ)) =
      if g = h then 1#1 else 0#1 := by decide +kernel
  rw [e g h]
  by_cases he : g = h
  · rw [if_pos he, if_pos he]
    show (((1#1 : BitVec 1).toNat : ℝ) : EReal) = 1
    simp
  · rw [if_neg he, if_neg he]
    show (((0#1 : BitVec 1).toNat : ℝ) : EReal) = 0
    simp

/-- The repeated table, entry by entry. -/
theorem kron_at (T : FVec Ideal S128x128 .f32) (k j : Fin 512) :
    kron T (ix2 k j) = (if (⟨k / 128, by omega⟩ : Fin 4) = ⟨j / 128, by omega⟩ then (1 : EReal) else 0) *
      T (ix2 ⟨k % 128, by omega⟩ ⟨j % 128, by omega⟩) := by
  pointwise [kron]
  rw [eye_at]

variable (m : (ℓ : Loc nD τ sig) → Buf (Elt Ideal) ℓ)

/-- The channel cosines as the launch computes them. -/
theorem chanC_eq (c : Dev nD) : (V m c main_v60 : S512x512.Idx → EReal) = kron (Host.cos turn128) := by
  unfold V
  after_reads_simp
  unfold kron eye turn128 Cert.FourierRefIdeal.Value.prod128 Cert.FourierRefIdeal.Value.modulus
  rfl

/-- The channel sines as the launch computes them. -/
theorem chanS_eq (c : Dev nD) : (V m c main_v61 : S512x512.Idx → EReal) = kron (Host.sin turn128) := by
  unfold V
  after_reads_simp
  unfold kron eye turn128 Cert.FourierRefIdeal.Value.prod128 Cert.FourierRefIdeal.Value.modulus
  rfl

/-- The context's table as the launch computes it. -/
theorem ctx_eq (c : Dev nD) : (V m c main_v40 : S256x512.Idx → EReal) =
    mulf (cat256 (Host.cos turn256) (Host.negf (Host.sin turn256)))
      (broadcastInDim S256x512 ![] bcast_S_S256x512 (constant (F := Ideal) S_ .f32 0x3BB504F3#32)) := by
  unfold V
  after_reads_simp
  rw [fold256]
  after_reads_simp
  unfold cat256 turn256 Cert.FourierRefIdeal.Value.prod256 Cert.FourierRefIdeal.Value.modulus
  rfl

/-- The latents' table as the launch computes it. -/
theorem lat_eq (c : Dev nD) : (V m c main_v59 : S2048x4096.Idx → EReal) =
    mulf (cat2048 (Host.cos turn2048) (Host.negf (Host.sin turn2048)))
      (broadcastInDim S2048x4096 ![] bcast_S_S2048x4096 (constant (F := Ideal) S_ .f32 0x3B000000#32)) := by
  unfold V
  after_reads_simp
  rw [fold2048]
  after_reads_simp
  unfold cat2048 turn2048 Cert.FourierRefIdeal.Value.prod2048 Cert.FourierRefIdeal.Value.modulus
  rfl

/-- The context's table, entry by entry. -/
theorem ctx_at (c : Dev nD) (t : Fin 256) (l : Fin 512) : (V m c main_v40 : S256x512.Idx → EReal) (ix2 t l) =
    if h : (l : ℕ) < 256 then cos256 (ix2 t ⟨l, h⟩) else sin256 (ix2 t ⟨(l : ℕ) - 256, by omega⟩) := by
  refine (congrFun (ctx_eq m c) _).trans ?_
  pointwise [cat256, cos256, sin256]
  by_cases h : (l : ℕ) < 256
  · rw [dif_pos h, dif_pos h]
  · rw [dif_neg h, dif_neg h]

/-- The latents' table, entry by entry. -/
theorem lat_at (c : Dev nD) (t : Fin 2048) (l : Fin 4096) : (V m c main_v59 : S2048x4096.Idx → EReal) (ix2 t l) =
    if h : (l : ℕ) < 2048 then cos2048 (ix2 t ⟨l, h⟩) else sin2048 (ix2 t ⟨(l : ℕ) - 2048, by omega⟩) := by
  refine (congrFun (lat_eq m c) _).trans ?_
  pointwise [cat2048, cos2048, sin2048]
  by_cases h : (l : ℕ) < 2048
  · rw [dif_pos h, dif_pos h]
  · rw [dif_neg h, dif_neg h]

end Cert.FourierIdeal.Value
-- ==== Proof.FourierValue.lean ====
module

public import proofs.«01_k».proof.Proof.Gen.FourierIdeal.Value
public import proofs.«01_k».proof.Proof.FourierTables
public import Idealize.ShloMosaic.Lib.Claim
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FourierIdeal.Value
open Cert.FourierIdeal Cert.FourierIdeal.Gen
open Cert.FourierRefIdeal.Value (turn128 turn256 turn2048 cos256 sin256 cos2048 sin2048)

/-- A row of the channel transform of the context. -/
theorem pay4_at (U : Vec Ideal S1x2304x512 .f32) (C : Vec Ideal S512x512 .bf16) (l : Fin 256) (j : Fin 512) :
    (k0_pay4 (F := Ideal) U C (ix2 l j) : EReal) =
      (∑ k : Fin 512, (U (ix3 0 ⟨l, by omega⟩ k) : EReal) * (C (ix2 k j) : EReal) : EReal) := by
  pointwise [k0_pay4, k0_pay2, k0_pay1]
  try rfl

/-- A row of the second channel transform of the context. -/
theorem pay5_at (U : Vec Ideal S1x2304x512 .f32) (C : Vec Ideal S512x512 .bf16) (l : Fin 256) (j : Fin 512) :
    (k0_pay5 (F := Ideal) U C (ix2 l j) : EReal) =
      (∑ k : Fin 512, (U (ix3 0 ⟨l, by omega⟩ k) : EReal) * (C (ix2 k j) : EReal) : EReal) := by
  pointwise [k0_pay5, k0_pay3, k0_pay1]
  try rfl

/-- A row of the channel transform of the latents. -/
theorem pay6_at (U : Vec Ideal S1x2304x512 .f32) (C : Vec Ideal S512x512 .bf16) (l : Fin 2048) (j : Fin 512) :
    (k0_pay6 (F := Ideal) U C (ix2 l j) : EReal) =
      (∑ k : Fin 512, (U (ix3 0 ⟨256 + l, by omega⟩ k) : EReal) * (C (ix2 k j) : EReal) : EReal) := by
  pointwise [k0_pay6, k0_pay2, k0_pay1]
  try rfl

/-- A row of the second channel transform of the latents. -/
theorem pay7_at (U : Vec Ideal S1x2304x512 .f32) (C : Vec Ideal S512x512 .bf16) (l : Fin 2048) (j : Fin 512) :
    (k0_pay7 (F := Ideal) U C (ix2 l j) : EReal) =
      (∑ k : Fin 512, (U (ix3 0 ⟨256 + l, by omega⟩ k) : EReal) * (C (ix2 k j) : EReal) : EReal) := by
  pointwise [k0_pay7, k0_pay3, k0_pay1]
  try rfl

/-- The context's rows of the result. -/
theorem pay8_at (A : Vec Ideal S512x512 .bf16) (W : Vec Ideal S256x512 .bf16) (r : Fin 256) (j : Fin 512) :
    (k0_pay8 (F := Ideal) W A (ix3 0 r j) : EReal) =
      (∑ l : Fin 512, (W (ix2 r l) : EReal) * (A (ix2 l j) : EReal) : EReal) := by
  pointwise [k0_pay8]
  try rfl

/-- The latents' rows of the result. -/
theorem pay9_at (A : Vec Ideal S4096x512 .bf16) (W : Vec Ideal S256x4096 .bf16) (r : Fin 256) (j : Fin 512) :
    (k0_pay9 (F := Ideal) W A (ix3 0 r j) : EReal) =
      (∑ l : Fin 4096, (W (ix2 r l) : EReal) * (A (ix2 l j) : EReal) : EReal) := by
  pointwise [k0_pay9]
  try rfl

variable (m : (ℓ : Loc nD τ sig) → Buf (Elt Ideal) ℓ)

/-- What the two stores of 256 rows leave in the context's scratch, entry by entry. -/
theorem stack512_at (p5 p4 : Vec Ideal S256x512 .bf16) (i5 i4) (l j : Fin 512) :
    (View.canon (Val := Elt Ideal) (s := S512x512) (e := .bf16) [⟨Rect.unit ![256, 0] ![256, 512] i5, p5⟩, ⟨Rect.unit ![0, 0] ![256, 512] i4, p4⟩] (ix2 l j) : EReal) =
      if h : (l : ℕ) < 256 then p4 (ix2 ⟨l, h⟩ j) else p5 (ix2 ⟨(l : ℕ) - 256, by omega⟩ j) := by
  refine View.canon_apply_of_pieces (Val := Elt Ideal) (S := S512x512) (e := .bf16) (fun y => if h : (y 0 : ℕ) < 256 then p4 (ix2 ⟨y 0, h⟩ (y 1)) else
    p5 (ix2 ⟨(y 0 : ℕ) - 256, by have := (y 0).isLt; simp at this; omega⟩ (y 1))) _ ?_ _
    (View.cover_of_tiledL (Val := Elt Ideal) (s := S512x512) (e := .bf16) [⟨Rect.unit ![256, 0] ![256, 512] i5, p5⟩, ⟨Rect.unit ![0, 0] ![256, 512] i4, p4⟩] S256x512.size (by sl_kernel_rfl) _)
  intro pc hpc
  have late : ∀ (y : S512x512.Idx) (x : S256x512.Idx), (y 0 : ℕ) = 256 + 1 * (x 0 : ℕ) → (y 1 : ℕ) = 0 + 1 * (x 1 : ℕ) →
      (p5 x : EReal) = if h : (y 0 : ℕ) < 256 then p4 (ix2 ⟨y 0, h⟩ (y 1)) else
        p5 (ix2 ⟨(y 0 : ℕ) - 256, by have := (y 0).isLt; simp at this; omega⟩ (y 1)) := by
    intro y x e0 e1
    rw [dif_neg (by omega)]
    exact congrArg p5 ((eq_ix2 (n0 := 256) (n1 := 512) x).trans
      (congrArg₂ ix2 (Fin.ext (by show (x 0 : ℕ) = _ - 256; omega)) (Fin.ext (by omega))))
  have early : ∀ (y : S512x512.Idx) (x : S256x512.Idx), (y 0 : ℕ) = 0 + 1 * (x 0 : ℕ) → (y 1 : ℕ) = 0 + 1 * (x 1 : ℕ) →
      (p4 x : EReal) = if h : (y 0 : ℕ) < 256 then p4 (ix2 ⟨y 0, h⟩ (y 1)) else
        p5 (ix2 ⟨(y 0 : ℕ) - 256, by have := (y 0).isLt; simp at this; omega⟩ (y 1)) := by
    intro y x e0 e1
    have := (x 0).isLt
    rw [dif_pos (by change (x 0 : ℕ) < 256 at this; omega)]
    exact congrArg p4 ((eq_ix2 (n0 := 256) (n1 := 512) x).trans
      (congrArg₂ ix2 (Fin.ext (by show (x 0 : ℕ) = (y 0 : ℕ); omega)) (Fin.ext (by omega))))
  rcases List.mem_cons.mp hpc with rfl | hpc
  · intro x
    exact late _ x rfl rfl
  rcases List.mem_cons.mp hpc with rfl | hpc
  · intro x
    exact early _ x rfl rfl
  nomatch hpc

/-- What the two stores of 2048 rows leave in the latents' scratch, entry by entry. -/
theorem stack4096_at (p7 p6 : Vec Ideal S2048x512 .bf16) (i7 i6) (l : Fin 4096) (j : Fin 512) :
    (View.canon (Val := Elt Ideal) (s := S4096x512) (e := .bf16) [⟨Rect.unit ![2048, 0] ![2048, 512] i7, p7⟩, ⟨Rect.unit ![0, 0] ![2048, 512] i6, p6⟩] (ix2 l j) : EReal) =
      if h : (l : ℕ) < 2048 then p6 (ix2 ⟨l, h⟩ j) else p7 (ix2 ⟨(l : ℕ) - 2048, by omega⟩ j) := by
  refine View.canon_apply_of_pieces (Val := Elt Ideal) (S := S4096x512) (e := .bf16) (fun y => if h : (y 0 : ℕ) < 2048 then p6 (ix2 ⟨y 0, h⟩ (y 1)) else
    p7 (ix2 ⟨(y 0 : ℕ) - 2048, by have := (y 0).isLt; simp at this; omega⟩ (y 1))) _ ?_ _
    (View.cover_of_tiledL (Val := Elt Ideal) (s := S4096x512) (e := .bf16) [⟨Rect.unit ![2048, 0] ![2048, 512] i7, p7⟩, ⟨Rect.unit ![0, 0] ![2048, 512] i6, p6⟩] S2048x512.size (by sl_kernel_rfl) _)
  intro pc hpc
  have late : ∀ (y : S4096x512.Idx) (x : S2048x512.Idx), (y 0 : ℕ) = 2048 + 1 * (x 0 : ℕ) → (y 1 : ℕ) = 0 + 1 * (x 1 : ℕ) →
      (p7 x : EReal) = if h : (y 0 : ℕ) < 2048 then p6 (ix2 ⟨y 0, h⟩ (y 1)) else
        p7 (ix2 ⟨(y 0 : ℕ) - 2048, by have := (y 0).isLt; simp at this; omega⟩ (y 1)) := by
    intro y x e0 e1
    rw [dif_neg (by omega)]
    exact congrArg p7 ((eq_ix2 (n0 := 2048) (n1 := 512) x).trans
      (congrArg₂ ix2 (Fin.ext (by show (x 0 : ℕ) = _ - 2048; omega)) (Fin.ext (by omega))))
  have early : ∀ (y : S4096x512.Idx) (x : S2048x512.Idx), (y 0 : ℕ) = 0 + 1 * (x 0 : ℕ) → (y 1 : ℕ) = 0 + 1 * (x 1 : ℕ) →
      (p6 x : EReal) = if h : (y 0 : ℕ) < 2048 then p6 (ix2 ⟨y 0, h⟩ (y 1)) else
        p7 (ix2 ⟨(y 0 : ℕ) - 2048, by have := (y 0).isLt; simp at this; omega⟩ (y 1)) := by
    intro y x e0 e1
    have := (x 0).isLt
    rw [dif_pos (by change (x 0 : ℕ) < 2048 at this; omega)]
    exact congrArg p6 ((eq_ix2 (n0 := 2048) (n1 := 512) x).trans
      (congrArg₂ ix2 (Fin.ext (by show (x 0 : ℕ) = (y 0 : ℕ); omega)) (Fin.ext (by omega))))
  rcases List.mem_cons.mp hpc with rfl | hpc
  · intro x
    exact late _ x rfl rfl
  rcases List.mem_cons.mp hpc with rfl | hpc
  · intro x
    exact early _ x rfl rfl
  nomatch hpc

/-- The context's scratch as the body reads it back, entry by entry. -/
theorem stack512_ld (p5 p4 : Vec Ideal S256x512 .bf16) (i5 i4 i) (l j : Fin 512) :
    ((View.whole cc0_scratch0).readCov (Val := Elt Ideal) [⟨Rect.unit ![256, 0] ![256, 512] i5, p5⟩, ⟨Rect.unit ![0, 0] ![256, 512] i4, p4⟩]
      (Rect.unit (s := S512x512) ![0, 0] ![512, 512] i).toLoadRect (ix2 l j) : EReal) =
      if h : (l : ℕ) < 256 then p4 (ix2 ⟨l, h⟩ j) else p5 (ix2 ⟨(l : ℕ) - 256, by omega⟩ j) := by
  rw [View.readCov_eq_canon']
  refine Eq.trans (congrArg _ (?_ : _ = (ix2 l j : S512x512.Idx))) (stack512_at p5 p4 i5 i4 l j)
  exact (eq_ix2 (n0 := 512) (n1 := 512) _).trans (congrArg₂ ix2 (Fin.ext (by show 0 + 1 * (l : ℕ) = l; omega)) (Fin.ext (by show 0 + 1 * (j : ℕ) = j; omega)))

/-- A sum over the channels against the repeated table is the transform within the group of channels. -/
theorem collapse (f : Fin 512 → EReal) (T : FVec Ideal S128x128 .f32) (j : Fin 512) :
    ∑ k : Fin 512, f k * kron T (ix2 k j) =
      ∑ d : Fin 128, f ⟨(j : ℕ) / 128 * 128 + d, by omega⟩ * T (ix2 d ⟨(j : ℕ) % 128, by omega⟩) := by
  have e : ∑ k : Fin 512, f k * kron T (ix2 k j) = ∑ a : Fin 4, ∑ d : Fin 128,
      f ⟨(a : ℕ) * 128 + d, by omega⟩ * ((if a = (⟨(j : ℕ) / 128, by omega⟩ : Fin 4) then (1 : EReal) else 0) *
        T (ix2 d ⟨(j : ℕ) % 128, by omega⟩)) :=
    Fin.sum_divmod_congr fun k ha hs => by
      rw [kron_at]
      exact congrArg₂ (· * ·) (congrArg f (Fin.ext (by show (k : ℕ) = k / 128 * 128 + k % 128; omega))) rfl
  rw [e, Finset.sum_eq_single (⟨(j : ℕ) / 128, by omega⟩ : Fin 4)]
  · exact Finset.sum_congr rfl fun d _ => by rw [if_pos rfl, one_mul]
  · intro a _ ha
    exact Finset.sum_eq_zero fun d _ => by rw [if_neg ha, zero_mul, mul_zero]
  · intro h
    exact absurd (Finset.mem_univ _) h

/-- A sum over two stretches side by side. -/
theorem halves {n N : ℕ} (hN : N = n + n) (f : Fin N → EReal) :
    ∑ l : Fin N, f l = (∑ l : Fin n, f ⟨l, by omega⟩) + ∑ l : Fin n, f ⟨n + l, by omega⟩ := by
  subst hN
  exact Fin.sum_univ_add f

/-- Where each window's block lies at grid point `t`: batch `t / 9`, row tile `t % 9`. -/
theorem idx : ∀ t : Fin cfg0.N, win0_0.index t = ![t.val / 9, 0, 14] ∧ win0_1.index t = ![0, 0] ∧
    win0_2.index t = ![0, 0] ∧ win0_3.index t = ![0, 0] ∧ win0_4.index t = ![t.val % 9 - 1, 0] ∧
    win0_5.index t = ![t.val / 9, t.val % 9, 0] :=
  (by decide +kernel : ∀ t : Fin grid0.N, _)

/-- The block of the channels mixed, entry by entry. -/
theorem u_at (c : Dev nD) (t : Fin cfg0.N) (x : Fin 2304) (k : Fin 512) (b : Fin 16) (hb : (b : ℕ) = t.val / 9) :
    (iblk m c 0 t (ix3 0 x k) : EReal) = (m ((c.tc : Thread nD τ).loc main_arg0) : S16x2304x7680.Idx → EReal) (ix3 b x ⟨7168 + (k : ℕ), by omega⟩) := by
  blk_point [iblk, idx t, V]

/-- The block of the channel cosines, entry by entry. -/
theorem cc_at (c : Dev nD) (t : Fin cfg0.N) (k j : Fin 512) :
    (iblk m c 1 t (ix2 k j) : EReal) = kron (Host.cos turn128) (ix2 k j) :=
  (show _ = (V m c main_v60 : S512x512.Idx → EReal) (ix2 k j) by blk_point [iblk, idx t]).trans (congrFun (chanC_eq m c) _)

/-- The block of the channel sines, entry by entry. -/
theorem sc_at (c : Dev nD) (t : Fin cfg0.N) (k j : Fin 512) :
    (iblk m c 2 t (ix2 k j) : EReal) = kron (Host.sin turn128) (ix2 k j) :=
  (show _ = (V m c main_v61 : S512x512.Idx → EReal) (ix2 k j) by blk_point [iblk, idx t]).trans (congrFun (chanS_eq m c) _)

/-- The block of the context's table. -/
theorem wc_at (c : Dev nD) (t : Fin cfg0.N) (r : Fin 256) (l : Fin 512) :
    (iblk m c 3 t (ix2 r l) : EReal) = (V m c main_v40 : S256x512.Idx → EReal) (ix2 r l) := by
  blk_point [iblk, idx t]

/-- The block of the latents' table. -/
theorem wl_at (c : Dev nD) (t : Fin cfg0.N) (r : Fin 256) (l : Fin 4096) (x : Fin 2048) (hx : (x : ℕ) = (t.val % 9 - 1) * 256 + r) :
    (iblk m c 4 t (ix2 r l) : EReal) = (V m c main_v59 : S2048x4096.Idx → EReal) (ix2 x l) := by
  blk_point [iblk, idx t]

/-- One position's channel transform as the body computes it. -/
theorem chan_of (A : Vec Ideal S1x2304x512 .f32) (B : Vec Ideal S512x512 .bf16) (U : S16x2304x7680.Idx → EReal)
    (T : FVec Ideal S128x128 .f32) (x : Fin 2304) (j : Fin 512) (b : Fin 16)
    (hA : ∀ k : Fin 512, (A (ix3 0 x k) : EReal) = U (ix3 b x ⟨7168 + (k : ℕ), by omega⟩))
    (hB : ∀ k : Fin 512, (B (ix2 k j) : EReal) = kron T (ix2 k j)) :
    (∑ k : Fin 512, (A (ix3 0 x k) : EReal) * (B (ix2 k j) : EReal) : EReal) = Cert.FourierSpec.chan U T b x j :=
  (Finset.sum_congr rfl fun k _ => congrArg₂ (· * ·) (hA k) (hB k)).trans
    (collapse (fun k => U (ix3 b x ⟨7168 + (k : ℕ), by omega⟩)) T j)

/-- A context row of the channel cosines at a grid point. -/
theorem row4 (c : Dev nD) (t : Fin cfg0.N) (b : Fin 16) (hb : (b : ℕ) = t.val / 9) (l : Fin 256) (j : Fin 512) :
    (k0_pay4 (F := Ideal) (iblk m c 0 t) (iblk m c 1 t) (ix2 l j) : EReal) =
      Cert.FourierSpec.chan (m ((c.tc : Thread nD τ).loc main_arg0)) (Host.cos turn128) b ⟨l, by omega⟩ j :=
  (pay4_at _ _ l j).trans (chan_of _ _ _ _ _ j b (fun k => u_at m c t _ k b hb) fun k => cc_at m c t k j)

/-- A context row of the channel sines at a grid point. -/
theorem row5 (c : Dev nD) (t : Fin cfg0.N) (b : Fin 16) (hb : (b : ℕ) = t.val / 9) (l : Fin 256) (j : Fin 512) :
    (k0_pay5 (F := Ideal) (iblk m c 0 t) (iblk m c 2 t) (ix2 l j) : EReal) =
      Cert.FourierSpec.chan (m ((c.tc : Thread nD τ).loc main_arg0)) (Host.sin turn128) b ⟨l, by omega⟩ j :=
  (pay5_at _ _ l j).trans (chan_of _ _ _ _ _ j b (fun k => u_at m c t _ k b hb) fun k => sc_at m c t k j)

/-- A latent row of the channel cosines at a grid point. -/
theorem row6 (c : Dev nD) (t : Fin cfg0.N) (b : Fin 16) (hb : (b : ℕ) = t.val / 9) (l : Fin 2048) (j : Fin 512) :
    (k0_pay6 (F := Ideal) (iblk m c 0 t) (iblk m c 1 t) (ix2 l j) : EReal) =
      Cert.FourierSpec.chan (m ((c.tc : Thread nD τ).loc main_arg0)) (Host.cos turn128) b ⟨256 + (l : ℕ), by omega⟩ j :=
  (pay6_at _ _ l j).trans (chan_of _ _ _ _ _ j b (fun k => u_at m c t _ k b hb) fun k => cc_at m c t k j)

/-- A latent row of the channel sines at a grid point. -/
theorem row7 (c : Dev nD) (t : Fin cfg0.N) (b : Fin 16) (hb : (b : ℕ) = t.val / 9) (l : Fin 2048) (j : Fin 512) :
    (k0_pay7 (F := Ideal) (iblk m c 0 t) (iblk m c 2 t) (ix2 l j) : EReal) =
      Cert.FourierSpec.chan (m ((c.tc : Thread nD τ).loc main_arg0)) (Host.sin turn128) b ⟨256 + (l : ℕ), by omega⟩ j :=
  (pay7_at _ _ l j).trans (chan_of _ _ _ _ _ j b (fun k => u_at m c t _ k b hb) fun k => sc_at m c t k j)

/-- The latents' scratch at a batch's first grid point: the channel transforms of the batch's latents. -/
theorem scratchA_at (c : Dev nD) (t : Fin cfg0.N) (h0 : t.val % 9 = 0) (b : Fin 16) (hb : (b : ℕ) = t.val / 9) (l : Fin 4096)
    (j : Fin 512) : ((outsAt0 m c t.val t.isLt).2 (ix2 l j) : EReal) =
      if h : (l : ℕ) < 2048 then
        Cert.FourierSpec.chan (m ((c.tc : Thread nD τ).loc main_arg0)) (Host.cos turn128) b ⟨256 + (l : ℕ), by omega⟩ j
      else
        Cert.FourierSpec.chan (m ((c.tc : Thread nD τ).loc main_arg0)) (Host.sin turn128) b ⟨256 + ((l : ℕ) - 2048), by omega⟩ j := by
  rw [outsAt0_A m c t h0 h0 (by omega)]
  dsimp only
  frame_out
  refine (stack4096_at _ _ _ _ l j).trans ?_
  by_cases h : (l : ℕ) < 2048
  · rw [dif_pos h, dif_pos h]
    exact row6 m c t b hb ⟨l, h⟩ j
  · rw [dif_neg h, dif_neg h]
    exact row7 m c t b hb ⟨(l : ℕ) - 2048, by omega⟩ j

/-- At a batch's later grid points the latents' scratch is as it was. -/
theorem scratchB (c : Dev nD) (t : Fin cfg0.N) (h0 : ¬ t.val % 9 = 0) :
    (outsAt0 m c t.val t.isLt).2 = (outsAt0 m c (t.val - 1) (lt_of_le_of_lt (Nat.sub_le _ _) t.isLt)).2 := by
  rw [outsAt0_B m c t h0 h0 (by omega)]
  rfl

/-- The latents' scratch at every grid point: the channel transforms of the batch's latents. -/
theorem scratch_at (c : Dev nD) : ∀ (n : ℕ) (hn : n < cfg0.N) (b : Fin 16) (_ : (b : ℕ) = n / 9) (l : Fin 4096) (j : Fin 512),
    ((outsAt0 m c n hn).2 (ix2 l j) : EReal) =
      if h : (l : ℕ) < 2048 then
        Cert.FourierSpec.chan (m ((c.tc : Thread nD τ).loc main_arg0)) (Host.cos turn128) b ⟨256 + (l : ℕ), by omega⟩ j
      else
        Cert.FourierSpec.chan (m ((c.tc : Thread nD τ).loc main_arg0)) (Host.sin turn128) b ⟨256 + ((l : ℕ) - 2048), by omega⟩ j := by
  intro n
  induction n with
  | zero =>
    intro hn b hb l j
    exact scratchA_at m c ⟨0, hn⟩ (Nat.zero_mod _) b hb l j
  | succ n ih =>
    intro hn b hb l j
    by_cases h0 : (n + 1) % 9 = 0
    · exact scratchA_at m c ⟨n + 1, hn⟩ h0 b hb l j
    · exact (congrFun (scratchB m c ⟨n + 1, hn⟩ h0) _).trans (ih (Nat.lt_of_succ_lt hn) b (by omega) l j)

/-- At a context tile the body's block is the mixing there. -/
theorem pointC (c : Dev nD) (t : Fin cfg0.N) (h0 : t.val % 9 = 0) (r : Fin 256) (k : Fin 512) (b : Fin 16) (x : Fin 2304)
    (j : Fin 512) (hb : (b : ℕ) = t.val / 9) (hr : (x : ℕ) = t.val % 9 * 256 + r) (hc : (j : ℕ) = 0 * 512 + k) :
    ((outsAt0 m c t.val t.isLt).1 (ix3 0 r k) : EReal) =
      Cert.FourierSpec.out (m ((c.tc : Thread nD τ).loc main_arg0)) (Host.cos turn128) (Host.sin turn128) cos256 sin256
        cos2048 sin2048 b x j := by
  obtain rfl : j = k := Fin.ext (by omega)
  have hx : (⟨(x : ℕ), by omega⟩ : Fin 256) = r := Fin.ext (by show (x : ℕ) = r; omega)
  rw [outsAt0_A m c t h0 h0 (by omega), Cert.FourierSpec.out, dif_pos (by omega), hx]
  dsimp only
  frame_out
  refine (pay8_at _ _ _ _).trans ((halves (n := 256) rfl _).trans (congrArg₂ (· + ·) (Finset.sum_congr rfl fun l _ => ?_) (Finset.sum_congr rfl fun l _ => ?_)))
  · refine (mul_comm _ _).trans (congrArg₂ (· * ·) ((stack512_ld _ _ _ _ _ _ j).trans ?_) ((wc_at m c t r _).trans ((ctx_at m c r _).trans ?_)))
    · exact (dif_pos (show (l : ℕ) < 256 by omega)).trans (row4 m c t b hb l j)
    · exact dif_pos (show (l : ℕ) < 256 by omega)
  · refine (mul_comm _ _).trans (congrArg₂ (· * ·) ((stack512_ld _ _ _ _ _ _ j).trans ?_) ((wc_at m c t r _).trans ((ctx_at m c r _).trans ?_)))
    · refine (dif_neg (show ¬ 256 + (l : ℕ) < 256 by omega)).trans ((row5 m c t b hb _ j).trans ?_)
      exact congrArg (fun x => Cert.FourierSpec.chan _ _ b x j) (Fin.ext (by show 256 + (l : ℕ) - 256 = l; omega))
    · exact (dif_neg (show ¬ 256 + (l : ℕ) < 256 by omega)).trans
        (congrArg sin256 (congrArg (ix2 r) (Fin.ext (by show 256 + (l : ℕ) - 256 = l; omega))))

/-- At a latent tile the body's block is the mixing there. -/
theorem pointL (c : Dev nD) (t : Fin cfg0.N) (h0 : ¬ t.val % 9 = 0) (r : Fin 256) (k : Fin 512) (b : Fin 16) (x : Fin 2304)
    (j : Fin 512) (hb : (b : ℕ) = t.val / 9) (hr : (x : ℕ) = t.val % 9 * 256 + r) (hc : (j : ℕ) = 0 * 512 + k) :
    ((outsAt0 m c t.val t.isLt).1 (ix3 0 r k) : EReal) =
      Cert.FourierSpec.out (m ((c.tc : Thread nD τ).loc main_arg0)) (Host.cos turn128) (Host.sin turn128) cos256 sin256
        cos2048 sin2048 b x j := by
  obtain rfl : j = k := Fin.ext (by omega)
  have hs := scratch_at m c (t.val - 1) (lt_of_le_of_lt (Nat.sub_le _ _) t.isLt) b (by omega)
  have hw : ∀ l : Fin 4096, (iblk m c 4 t (ix2 r l) : EReal) =
      (V m c main_v59 : S2048x4096.Idx → EReal) (ix2 (⟨(x : ℕ) - 256, by omega⟩ : Fin 2048) l) :=
    fun l => wl_at m c t r l _ (by show (x : ℕ) - 256 = _; omega)
  rw [outsAt0_B m c t h0 h0 (by omega), Cert.FourierSpec.out, dif_neg (by omega)]
  dsimp only
  frame_out
  refine (congrArg (fun z => k0_pay9 (F := Ideal) (iblk m c 4 t) z (ix3 0 r j)) (Memref.IsWhole.read_unread (m := scM0_1) (Memref.isWhole_whole _) _)).trans ?_
  refine (pay9_at _ _ _ _).trans ((halves (n := 2048) rfl _).trans (congrArg₂ (· + ·) (Finset.sum_congr rfl fun l _ => ?_) (Finset.sum_congr rfl fun l _ => ?_)))
  · refine (mul_comm _ _).trans (congrArg₂ (· * ·) ((hs _ j).trans ?_) ((hw _).trans ((lat_at m c _ _).trans ?_)))
    · exact dif_pos (show (l : ℕ) < 2048 by omega)
    · exact dif_pos (show (l : ℕ) < 2048 by omega)
  · refine (mul_comm _ _).trans (congrArg₂ (· * ·) ((hs _ j).trans ?_) ((hw _).trans ((lat_at m c _ _).trans ?_)))
    · exact (dif_neg (show ¬ 2048 + (l : ℕ) < 2048 by omega)).trans (congrArg (fun x => Cert.FourierSpec.chan _ _ b x j)
        (Fin.ext (by show 256 + (2048 + (l : ℕ) - 2048) = 256 + l; omega)))
    · exact (dif_neg (show ¬ 2048 + (l : ℕ) < 2048 by omega)).trans
        (congrArg sin2048 (congrArg (ix2 _) (Fin.ext (by show 2048 + (l : ℕ) - 2048 = l; omega))))

/-- The kernel's result array, entry by entry. -/
theorem final (c : Dev nD) : (dats m 0 c).arrAt 5 cfg0.N = fun j : S16x2304x512.Idx =>
    Cert.FourierSpec.out (m ((c.tc : Thread nD τ).loc main_arg0)) (Host.cos turn128) (Host.sin turn128) cos256 sin256
      cos2048 sin2048 (j 0) (j 1) (j 2) := by
  refine (dats m 0 c).arrAt_eq_of_covers 5 _ (by decide +kernel) fun t _ y => ?_
  have e0 : (((cfg0.win 5).blk t).view.emb y 0 : ℕ) = t.val / 9 := by blk_simp [idx t]
  have e1 : (((cfg0.win 5).blk t).view.emb y 1 : ℕ) = t.val % 9 * 256 + y 1 := by blk_simp [idx t]
  have e2 : (((cfg0.win 5).blk t).view.emb y 2 : ℕ) = 0 * 512 + y 2 := by blk_simp [idx t]
  have hy : y = (ix3 0 (y 1) (y 2) : S1x256x512.Idx) :=
    (eq_ix3 (n0 := 1) (n1 := 256) (n2 := 512) y).trans (by rw [Subsingleton.elim (α := Fin 1) (y 0) 0])
  blk_simp
  rw [after0_5]
  by_cases h0 : t.val % 9 = 0
  · exact (congrArg _ hy).trans (pointC m c t h0 (y 1) (y 2) _ _ _ e0 e1 e2)
  · exact (congrArg _ hy).trans (pointL m c t h0 (y 1) (y 2) _ _ _ e0 e1 e2)

end Cert.FourierIdeal.Value
-- ==== Proof.InprojValue.lean ====
module

public import proofs.«01_k».proof.Proof.Gen.InprojIdeal.Value
public import proofs.«01_k».proof.Proof.Gen.InprojRefIdeal.Run
public import proofs.«01_k».proof.Proof.RowNorm

@[expose] public section

set_option maxRecDepth 16384

noncomputable section

open Idealize.ShloMosaic Idealize.ShloMosaic.TcCoe Idealize.SL.Sem
open Idealize.ShloMosaic.Pipeline (Dat)

namespace Cert.InprojSpec

/-- Row `t` of the stream of one batch: the 256 context rows, then the 2048 latent rows. -/
def stream (X : (⟨3, ![16, 2048, 1024]⟩ : Shape).Idx → EReal) (C : (⟨3, ![16, 256, 1024]⟩ : Shape).Idx → EReal)
    (b : Fin 16) (t : Fin 2304) (k : Fin 1024) : EReal :=
  if h : (t : ℕ) < 256 then C (ix3 b ⟨t, h⟩ k) else X (ix3 b ⟨(t : ℕ) - 256, by omega⟩ k)

/-- A context row of the stream. -/
theorem stream_ctx {X : (⟨3, ![16, 2048, 1024]⟩ : Shape).Idx → EReal} {C : (⟨3, ![16, 256, 1024]⟩ : Shape).Idx → EReal}
    {b : Fin 16} {t : Fin 2304} (h : (t : ℕ) < 256) : stream X C b t = fun k => C (ix3 b ⟨t, h⟩ k) :=
  funext fun _ => dif_pos h

/-- A latent row of the stream. -/
theorem stream_latent {X : (⟨3, ![16, 2048, 1024]⟩ : Shape).Idx → EReal}
    {C : (⟨3, ![16, 256, 1024]⟩ : Shape).Idx → EReal} {b : Fin 16} {t : Fin 2304} (h : ¬ (t : ℕ) < 256) :
    stream X C b t = fun k => X (ix3 b ⟨(t : ℕ) - 256, by omega⟩ k) :=
  funext fun _ => dif_neg h

/-- The column of the weight that column `d` of the result is: the 3072 gate columns come first, then the 4608 branch
columns. -/
def col (d : Fin 7680) : Fin 7680 :=
  if h : (d : ℕ) < 3072 then ⟨4608 + d, by omega⟩ else ⟨(d : ℕ) - 3072, by omega⟩

/-- The projection at one index: the normalised, modulated row of the stream against one column of the weight. -/
def out (X : (⟨3, ![16, 2048, 1024]⟩ : Shape).Idx → EReal) (C : (⟨3, ![16, 256, 1024]⟩ : Shape).Idx → EReal)
    (M : (⟨2, ![24, 6144]⟩ : Shape).Idx → EReal) (W : (⟨2, ![1024, 7680]⟩ : Shape).Idx → EReal)
    (b : Fin 16) (t : Fin 2304) (d : Fin 7680) : EReal :=
  ∑ k : Fin 1024, (Cert.Row.norm (stream X C b t) k * (1 + M (ix2 (Cert.Row.modRow b t) ⟨1024 + (k : ℕ), by omega⟩))
      + M (ix2 (Cert.Row.modRow b t) ⟨k, by omega⟩)) * W (ix2 k (col d))

end Cert.InprojSpec

section Reference
open Cert.InprojRefIdeal

/-- The reference's result is `out` of its arguments. -/
theorem Cert.InprojSpec.ref_at (m : (ℓ : Loc nD τ sig) → Buf (Elt Ideal) ℓ) (c : Dev nD)
    (b : Fin 16) (t : Fin 2304) (d : Fin 7680) :
    Cert.InprojRefIdeal.Value.res_out0 m c (ix3 b t d) =
      Cert.InprojSpec.out (m ((c.tc : Thread nD τ).loc main_arg0)) (m ((c.tc : Thread nD τ).loc main_arg1))
        (m ((c.tc : Thread nD τ).loc main_arg2)) (m ((c.tc : Thread nD τ).loc main_arg3)) b t d := by
  pointwise [Cert.InprojRefIdeal.Value.res_out0, Cert.InprojRefIdeal.Value.res_main_v71]
  by_cases hd : (d : ℕ) < 3072 <;> by_cases h : (t : ℕ) < 256
  · simp only [hd, h, ↓reduceDIte, Cert.InprojSpec.out, Cert.InprojSpec.col, Cert.InprojSpec.stream_ctx h,
      Cert.Row.modRow, ↓reduceIte]
    rfl
  · simp only [hd, h, ↓reduceDIte, Cert.InprojSpec.out, Cert.InprojSpec.col, Cert.InprojSpec.stream_latent h,
      Cert.Row.modRow, ↓reduceIte]
    rfl
  · simp only [hd, h, ↓reduceDIte, Cert.InprojSpec.out, Cert.InprojSpec.col, Cert.InprojSpec.stream_ctx h,
      Cert.Row.modRow, ↓reduceIte]
    rfl
  · simp only [hd, h, ↓reduceDIte, Cert.InprojSpec.out, Cert.InprojSpec.col, Cert.InprojSpec.stream_latent h,
      Cert.Row.modRow, ↓reduceIte]
    rfl

end Reference

namespace Cert.InprojIdeal.Value
open Cert.InprojIdeal Cert.InprojIdeal.Gen

/-- What the body stores, entry by entry, of the blocks it loads. -/
theorem pay_at (v0 : Vec Ideal S1x1x1x1024 .f32) (v2 : Vec Ideal S1x1x1x1024 .f32) (v4 : Vec Ideal S1x256x1024 .f32)
    (v29 : Vec Ideal S1024x2560 .bf16) (r : Fin 256) (d : Fin 2560) :
    k0_pay1 (k0_pay2 v0 v2 v4 v29) (ix3 0 r d) =
      ∑ k : Fin 1024, (Cert.Row.norm (fun l => v4 (ix3 0 r l)) k * (1 + v2 (ix4 0 0 0 k)) + v0 (ix4 0 0 0 k))
        * v29 (ix2 k d) := by
  pointwise [k0_pay1, k0_pay2]
  rfl

variable (m : (ℓ : Loc nD τ sig) → Buf (Elt Ideal) ℓ)

/-- Where each window's block lies at grid point `t`: column tile `t / 144`, batch `t / 9 % 16`, row tile `t % 9`. -/
theorem idx : ∀ t : Fin cfg0.N, win0_0.index t = ![t.val / 9 % 16, t.val % 9, 0] ∧
    win0_1.index t = ![t.val / 9 % 16, if t.val % 9 = 0 then 0 else 1, 0, 0] ∧ win0_2.index t = ![0, t.val / 144] ∧
    win0_3.index t = ![t.val / 9 % 16, t.val % 9, t.val / 144] :=
  (by decide +kernel : ∀ t : Fin grid0.N, _)

/-- The stream as the launch lays it out. -/
theorem stream_at (c : Dev nD) (b : Fin 16) (t : Fin 2304) (k : Fin 1024) :
    (V m c main_v0 : S16x2304x1024.Idx → EReal) (ix3 b t k) =
      Cert.InprojSpec.stream (m ((c.tc : Thread nD τ).loc main_arg0)) (m ((c.tc : Thread nD τ).loc main_arg1)) b t k := by
  entry_read
  pointwise []
  rfl

/-- The conditioning table as the launch lays it out: entry `(b, s, j, k)` is entry `1024 j + k` of the shared row
for `s = 0`, of the batch's row for `s = 1`. -/
theorem modulation (c : Dev nD) (b : Fin 16) (s : Fin 2) (j : Fin 6) (k : Fin 1024) :
    (V m c main_v10 : S16x2x6x1024.Idx → EReal) (ix4 b s j k) =
      (m ((c.tc : Thread nD τ).loc main_arg2) : S24x6144.Idx → EReal)
        (ix2 (if (s : ℕ) < 1 then 16 else ⟨b, by omega⟩) ⟨j * 1024 + k, by omega⟩) := by
  entry_read
  pointwise []
  by_cases h : (s : ℕ) < 1
  · rw [dif_pos h]
    simp only [if_pos h]
  · rw [dif_neg h]
    simp only [if_neg h]

/-- The weight as the launch lays it out: its gate columns first. -/
theorem weight (c : Dev nD) (k : Fin 1024) (d : Fin 7680) :
    (V m c main_v11 : S1024x7680.Idx → EReal) (ix2 k d) =
      (m ((c.tc : Thread nD τ).loc main_arg3) : S1024x7680.Idx → EReal) (ix2 k (Cert.InprojSpec.col d)) := by
  entry_read
  pointwise []
  by_cases h : (d : ℕ) < 3072
  · simp only [Cert.InprojSpec.col, dif_pos h]
  · simp only [Cert.InprojSpec.col, dif_neg h]

/-- At one grid point the body's block is the projection there. -/
theorem point (c : Dev nD) (t : Fin cfg0.N) (r : Fin 256) (d : Fin 2560) (b : Fin 16) (row : Fin 2304) (cl : Fin 7680)
    (hb : (b : ℕ) = t.val / 9 % 16) (hr : (row : ℕ) = t.val % 9 * 256 + r) (hc : (cl : ℕ) = t.val / 144 * 2560 + d) :
    k0_pay1 (k0_pay2 (View.ld (iblk m c 1 t) r0_0) (View.ld (iblk m c 1 t) r0_1) (iblk m c 0 t) (iblk m c 2 t))
      (ix3 0 r d) =
      Cert.InprojSpec.out (m ((c.tc : Thread nD τ).loc main_arg0)) (m ((c.tc : Thread nD τ).loc main_arg1))
        (m ((c.tc : Thread nD τ).loc main_arg2)) (m ((c.tc : Thread nD τ).loc main_arg3)) b row cl := by
  have h0 : ∀ k : Fin 1024, iblk m c 0 t (ix3 0 r k) = (V m c main_v0 : S16x2304x1024.Idx → EReal) (ix3 b row k) :=
    fun k => by blk_point [iblk, idx t]
  have hs : ((if t.val % 9 = 0 then 0 else 1 : ℕ) < 1) = ((row : ℕ) < 256) := by
    split <;> simp only [eq_iff_iff] <;> omega
  have h1 : ∀ (j : Fin 6) (k : Fin 1024), iblk m c 1 t (ix4 0 0 j k) = (V m c main_v10 : S16x2x6x1024.Idx → EReal)
      (ix4 b ⟨if t.val % 9 = 0 then 0 else 1, by split <;> omega⟩ j k) := fun j k => by
    blk_point [iblk, idx t]
  have h2 : ∀ k : Fin 1024, iblk m c 2 t (ix2 k d) = (V m c main_v11 : S1024x7680.Idx → EReal) (ix2 k cl) :=
    fun k => by blk_point [iblk, idx t]
  have hm : ∀ k : Fin 1024, View.ld (iblk m c 1 t) r0_0 (ix4 0 0 0 k) =
      (m ((c.tc : Thread nD τ).loc main_arg2) : S24x6144.Idx → EReal)
        (ix2 (Cert.Row.modRow b row) ⟨k, by omega⟩) := fun k => by
    refine (show _ = iblk m c 1 t (ix4 0 0 0 k) by pointwise []).trans ((h1 0 k).trans ((modulation m c _ _ _ _).trans ?_))
    simp only [hs, Cert.Row.modRow]
    exact congrArg _ (congrArg₂ ix2 rfl (Fin.ext (show 0 * 1024 + (k : ℕ) = k by omega)))
  have hm' : ∀ k : Fin 1024, View.ld (iblk m c 1 t) r0_1 (ix4 0 0 0 k) =
      (m ((c.tc : Thread nD τ).loc main_arg2) : S24x6144.Idx → EReal)
        (ix2 (Cert.Row.modRow b row) ⟨1024 + (k : ℕ), by omega⟩) := fun k => by
    refine (show _ = iblk m c 1 t (ix4 0 0 1 k) by pointwise []).trans ((h1 1 k).trans ((modulation m c _ _ _ _).trans ?_))
    simp only [hs, Cert.Row.modRow]
    rfl
  rw [pay_at]
  have hrow : (fun l : Fin 1024 => iblk m c 0 t (ix3 0 r l)) =
      Cert.InprojSpec.stream (m ((c.tc : Thread nD τ).loc main_arg0)) (m ((c.tc : Thread nD τ).loc main_arg1)) b row :=
    funext fun l => (h0 l).trans (stream_at m c b row l)
  rw [hrow]
  refine Finset.sum_congr rfl fun k _ => ?_
  rw [hm, hm', h2, weight]

/-- The kernel's result array, entry by entry. -/
theorem final (c : Dev nD) :
    (dats m 0 c).arrAt 3 cfg0.N = fun j : S16x2304x7680.Idx =>
      Cert.InprojSpec.out (m ((c.tc : Thread nD τ).loc main_arg0)) (m ((c.tc : Thread nD τ).loc main_arg1))
        (m ((c.tc : Thread nD τ).loc main_arg2)) (m ((c.tc : Thread nD τ).loc main_arg3)) (j 0) (j 1) (j 2) := by
  refine (dats m 0 c).arrAt_eq_of_covers 3 _ (by decide +kernel) fun t _ y => ?_
  have e0 : (((cfg0.win 3).blk t).view.emb y 0 : ℕ) = t.val / 9 % 16 := by blk_simp [idx t]
  have e1 : (((cfg0.win 3).blk t).view.emb y 1 : ℕ) = t.val % 9 * 256 + y 1 := by blk_simp [idx t]
  have e2 : (((cfg0.win 3).blk t).view.emb y 2 : ℕ) = t.val / 144 * 2560 + y 2 := by blk_simp [idx t]
  have hy : y = (ix3 0 (y 1) (y 2) : S1x256x2560.Idx) :=
    (eq_ix3 (n0 := 1) (n1 := 256) (n2 := 2560) y).trans (by rw [Subsingleton.elim (α := Fin 1) (y 0) 0])
  blk_simp
  rw [after0_3]
  frame_out
  exact (congrArg _ hy).trans (point m c t (y 1) (y 2) _ _ _ e0 e1 e2)

end Cert.InprojIdeal.Value
-- ==== Proof.MergeRow.lean ====
module

public import proofs.«01_k».proof.Proof.RowNorm

@[expose] public section

noncomputable section

open Idealize.ShloMosaic

/-! The merge's specification, row by row. -/

namespace Cert.MergeSpec

/-- Lane `j` of the head that column `k` of 512 lies in, as a column. -/
def lane (k : Fin 512) (j : Fin 128) : Fin 512 := ⟨(k : ℕ) / 128 * 128 + j, by omega⟩

/-- Column `k` of a row of four heads of 128 lanes, divided by its head's root mean square and scaled. -/
def head (x : Fin 512 → EReal) (g : Fin 128 → EReal) (k : Fin 512) : EReal :=
  x k * Ideal.rsqrt (Ideal.div (∑ j : Fin 128, x (lane k j) * x (lane k j)) (Ideal.ofBits .f32 0x43000000#32)
    + Ideal.ofBits .f32 0x3727C5AC#32) * g ⟨(k : ℕ) % 128, by omega⟩

/-- The recurrence's branch: its normalised heads times the gated output gate. -/
def branchA (x o : Fin 512 → EReal) (g : Fin 128 → EReal) (k : Fin 512) : EReal :=
  head x g k * (o k * Ideal.logistic (o k))

/-- The attention's branch: its normalised heads, scaled. -/
def branchB (x : Fin 512 → EReal) (g : Fin 128 → EReal) (k : Fin 512) : EReal :=
  head x g k * Ideal.ofBits .f32 0x3F4CCCCD#32

/-- The three branches projected, each under its gate, and summed. -/
def gated (G : Fin 3072 → EReal) (A B F : Fin 512 → EReal) (wa wb wc : Fin 512 → Fin 1024 → EReal) (e : Fin 1024) : EReal :=
  Ideal.logistic (G ⟨e, by omega⟩) * (∑ k, A k * wa k e)
    + Ideal.logistic (G ⟨1024 + (e : ℕ), by omega⟩) * (∑ k, B k * wb k e)
    + Ideal.logistic (G ⟨2048 + (e : ℕ), by omega⟩) * (∑ k, F k * wc k e)

/-- The gated sum projected once more. -/
def mix (y : Fin 1024 → EReal) (wo : Fin 1024 → Fin 1024 → EReal) (d : Fin 1024) : EReal := ∑ e, y e * wo e d

/-- The scaled stream plus the gated mixture. -/
def joined (x u s : Fin 1024 → EReal) (d : Fin 1024) : EReal := Ideal.ofBits .f32 0x3FB504F3#32 * x d + s d * u d

/-- A row normalised, scaled and shifted. -/
def affine (u g b : Fin 1024 → EReal) (d : Fin 1024) : EReal := Cert.Row.norm u d * g d + b d

/-- The merge's sixteen arguments. -/
structure Args where
  /-- The stream. -/
  xs : (⟨3, ![16, 2304, 1024]⟩ : Shape).Idx → EReal
  /-- The conditioning table. -/
  M : (⟨2, ![24, 6144]⟩ : Shape).Idx → EReal
  /-- The input projection. -/
  p : (⟨3, ![16, 2304, 7680]⟩ : Shape).Idx → EReal
  /-- The forward recurrence. -/
  f : (⟨3, ![16, 2304, 512]⟩ : Shape).Idx → EReal
  /-- The backward recurrence. -/
  r : (⟨3, ![16, 2304, 512]⟩ : Shape).Idx → EReal
  /-- The attention. -/
  t : (⟨3, ![16, 2304, 512]⟩ : Shape).Idx → EReal
  /-- The Fourier mixing. -/
  q : (⟨3, ![16, 2304, 512]⟩ : Shape).Idx → EReal
  /-- The recurrence's head scale. -/
  hg : (⟨1, ![128]⟩ : Shape).Idx → EReal
  /-- The attention's head scale. -/
  da : (⟨1, ![128]⟩ : Shape).Idx → EReal
  /-- The recurrence's projection. -/
  wa : (⟨2, ![512, 1024]⟩ : Shape).Idx → EReal
  /-- The attention's projection. -/
  wb : (⟨2, ![512, 1024]⟩ : Shape).Idx → EReal
  /-- The Fourier mixing's projection. -/
  wc : (⟨2, ![512, 1024]⟩ : Shape).Idx → EReal
  /-- The output projection. -/
  wo : (⟨2, ![1024, 1024]⟩ : Shape).Idx → EReal
  /-- The norm's scale. -/
  lg : (⟨1, ![1024]⟩ : Shape).Idx → EReal
  /-- The norm's shift. -/
  lb : (⟨1, ![1024]⟩ : Shape).Idx → EReal
  /-- The router's weight. -/
  wr : (⟨2, ![1024, 64]⟩ : Shape).Idx → EReal

variable (a : Args) (b : Fin 16) (t : Fin 2304)

/-- Entry `k` of modulation `j` of row `t` of batch `b`. -/
def modulation (j : Fin 6) (k : Fin 1024) : EReal := a.M (ix2 (Cert.Row.modRow b t) ⟨(j : ℕ) * 1024 + k, by omega⟩)

/-- The recurrence's branch of row `t` of batch `b`. -/
def rowA : Fin 512 → EReal :=
  branchA (fun k => a.f (ix3 b t k) + a.r (ix3 b t k)) (fun k => a.p (ix3 b t ⟨5120 + (k : ℕ), by omega⟩))
    fun k => a.hg (ix1 k)

/-- The attention's branch of row `t` of batch `b`. -/
def rowB : Fin 512 → EReal := branchB (fun k => a.t (ix3 b t k)) fun k => a.da (ix1 k)

/-- The gated sum of the branches of row `t` of batch `b`. -/
def rowSum : Fin 1024 → EReal :=
  gated (fun k => a.p (ix3 b t ⟨k, by omega⟩)) (rowA a b t) (rowB a b t) (fun k => a.q (ix3 b t k))
    (fun k e => a.wa (ix2 k e)) (fun k e => a.wb (ix2 k e)) fun k e => a.wc (ix2 k e)

/-- The mixture of row `t` of batch `b`. -/
def rowMix : Fin 1024 → EReal := mix (rowSum a b t) fun e d => a.wo (ix2 e d)

/-- The first result's row. -/
def x1 : Fin 1024 → EReal :=
  affine (joined (fun d => a.xs (ix3 b t d)) (rowMix a b t) (modulation a b t 2)) (fun d => a.lg (ix1 d))
    fun d => a.lb (ix1 d)

/-- The second result's row. -/
def h2 : Fin 1024 → EReal := affine (x1 a b t) (fun d => 1 + modulation a b t 4 d) (modulation a b t 3)

/-- The expert that row `e` of the logits is for: the experts are laid out member by member of the eight groups. -/
def expert (e : Fin 64) : Fin 64 := ⟨(e : ℕ) % 8 * 8 + (e : ℕ) / 8, by omega⟩

/-- The third result: the router's logit of row `e` for token `t` of batch `b`. -/
def logit (e : Fin 64) : EReal := ∑ k, h2 a b t k * a.wr (ix2 k (expert e))

/-- The same by the token's column of 36864. -/
def logitCol (e : Fin 64) (n : Fin 36864) : EReal :=
  logit a ⟨(n : ℕ) / 2304, by omega⟩ ⟨(n : ℕ) % 2304, by omega⟩ e

end Cert.MergeSpec
-- ==== Proof.MergeRef.lean ====
module

public import proofs.«01_k».proof.Proof.Gen.MergeRefIdeal.Run
public import proofs.«01_k».proof.Proof.MergeRow
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.ShloMosaic.StableHlo Idealize.SL.Sem

/-! The merge's reference read down to its specification. -/

namespace Cert.MergeRefIdeal.Value
open Cert.MergeRefIdeal Cert.MergeRefIdeal.Gen Cert.MergeSpec

/-- The recurrence's branch, as the reference composes it. -/
def stageA (O : FVec Ideal S16x2304x4x128 .f32) (P : FVec Ideal S16x2304x512 .f32) (g : FVec Ideal S128 .f32) :
    FVec Ideal S16x2304x512 .f32 :=
  shapeCast _ (mulf (mulf (mulf O (broadcastInDim S16x2304x4x128 ![0, 1, 2, 3] bcast_S16x2304x4x1_S16x2304x4x128_0_1_2_3 (Host.rsqrt (addf (Host.divf (broadcastInDim S16x2304x4x1 ![0, 1, 2] bcast_S16x2304x4_S16x2304x4x1_0_1_2 (Host.reduceAdd (mulf O O) (constant S_ .f32 0x00000000#32) reducesTo_S16x2304x4x128_S16x2304x4_d3 h_S_)) (broadcastInDim S16x2304x4x1 ![] bcast_S_S16x2304x4x1 (constant S_ .f32 0x43000000#32))) (broadcastInDim S16x2304x4x1 ![] bcast_S_S16x2304x4x1 (constant S_ .f32 0x3727C5AC#32)))))) (broadcastInDim S16x2304x4x128 ![0, 1, 2, 3] bcast_S1x1x1x128_S16x2304x4x128_0_1_2_3 (broadcastInDim S1x1x1x128 ![3] bcast_S128_S1x1x1x128_3 g))) (shapeCast _ (mulf P (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf P))))) shapeCasts_S16x2304x512_S16x2304x4x128)) shapeCasts_S16x2304x4x128_S16x2304x512

/-- The attention's branch, as the reference composes it. -/
def stageB (O : FVec Ideal S16x2304x4x128 .f32) (g : FVec Ideal S128 .f32) : FVec Ideal S16x2304x512 .f32 :=
  shapeCast _ (mulf (mulf (mulf O (broadcastInDim S16x2304x4x128 ![0, 1, 2, 3] bcast_S16x2304x4x1_S16x2304x4x128_0_1_2_3 (Host.rsqrt (addf (Host.divf (broadcastInDim S16x2304x4x1 ![0, 1, 2] bcast_S16x2304x4_S16x2304x4x1_0_1_2 (Host.reduceAdd (mulf O O) (constant S_ .f32 0x00000000#32) reducesTo_S16x2304x4x128_S16x2304x4_d3 h_S_)) (broadcastInDim S16x2304x4x1 ![] bcast_S_S16x2304x4x1 (constant S_ .f32 0x43000000#32))) (broadcastInDim S16x2304x4x1 ![] bcast_S_S16x2304x4x1 (constant S_ .f32 0x3727C5AC#32)))))) (broadcastInDim S16x2304x4x128 ![0, 1, 2, 3] bcast_S1x1x1x128_S16x2304x4x128_0_1_2_3 (broadcastInDim S1x1x1x128 ![3] bcast_S128_S1x1x1x128_3 g))) (broadcastInDim S16x2304x4x128 ![] bcast_S_S16x2304x4x128 (constant S_ .f32 0x3F4CCCCD#32))) shapeCasts_S16x2304x4x128_S16x2304x512

/-- The mixture, as the reference composes it of the gates and the branches. -/
def stageM (G : FVec Ideal S16x2304x3072 .f32) (A B F : FVec Ideal S16x2304x512 .f32)
    (wa wb wc : FVec Ideal S512x1024 .f32) (wo : FVec Ideal S1024x1024 .f32) : FVec Ideal S16x2304x1024 .f32 :=
  Host.dotGeneral dot_S16x2304x1024_S1024x1024_S16x2304x1024_2_0_01_1_n_n none (addf (addf (mulf (extractStridedSlice S16x2304x1024 ![0, 0, 0] G slices_S16x2304x3072_S16x2304x1024_0_0_0) (Host.dotGeneral dot_S16x2304x512_S512x1024_S16x2304x1024_2_0_01_1_n_n none A wa)) (mulf (extractStridedSlice S16x2304x1024 ![0, 0, 1024] G slices_S16x2304x3072_S16x2304x1024_0_0_1024) (Host.dotGeneral dot_S16x2304x512_S512x1024_S16x2304x1024_2_0_01_1_n_n none B wb))) (mulf (extractStridedSlice S16x2304x1024 ![0, 0, 2048] G slices_S16x2304x3072_S16x2304x1024_0_0_2048) (Host.dotGeneral dot_S16x2304x512_S512x1024_S16x2304x1024_2_0_01_1_n_n none F wc))) wo

/-- The recurrence's branch at an index. -/
theorem stageA_at (O : FVec Ideal S16x2304x4x128 .f32) (P : FVec Ideal S16x2304x512 .f32) (g : FVec Ideal S128 .f32)
    (x : Fin 512 → EReal) (b : Fin 16) (t : Fin 2304) (k : Fin 512)
    (h : ∀ (u : Fin 4) (j : Fin 128), O (ix4 b t u j) = x ⟨(u : ℕ) * 128 + j, by omega⟩) :
    stageA O P g (ix3 b t k) = branchA x (fun k => P (ix3 b t k)) (fun j => g (ix1 j)) k := by
  have e : (⟨(k : ℕ) / 128 * 128 + (k : ℕ) % 128, by omega⟩ : Fin 512) = k := Fin.ext (Nat.div_add_mod' _ _)
  pointwise [stageA]
  simp only [h, e]
  rfl

/-- The attention's branch at an index. -/
theorem stageB_at (O : FVec Ideal S16x2304x4x128 .f32) (g : FVec Ideal S128 .f32)
    (x : Fin 512 → EReal) (b : Fin 16) (t : Fin 2304) (k : Fin 512)
    (h : ∀ (u : Fin 4) (j : Fin 128), O (ix4 b t u j) = x ⟨(u : ℕ) * 128 + j, by omega⟩) :
    stageB O g (ix3 b t k) = branchB x (fun j => g (ix1 j)) k := by
  have e : (⟨(k : ℕ) / 128 * 128 + (k : ℕ) % 128, by omega⟩ : Fin 512) = k := Fin.ext (Nat.div_add_mod' _ _)
  pointwise [stageB]
  simp only [h, e]
  rfl

/-- The mixture at an index. -/
theorem stageM_at (G : FVec Ideal S16x2304x3072 .f32) (A B F : FVec Ideal S16x2304x512 .f32)
    (wa wb wc : FVec Ideal S512x1024 .f32) (wo : FVec Ideal S1024x1024 .f32) (b : Fin 16) (t : Fin 2304) (d : Fin 1024) :
    stageM G A B F wa wb wc wo (ix3 b t d) = ∑ e : Fin 1024,
      (G (ix3 b t ⟨e, by omega⟩) * (∑ k, A (ix3 b t k) * wa (ix2 k e))
        + G (ix3 b t ⟨1024 + (e : ℕ), by omega⟩) * (∑ k, B (ix3 b t k) * wb (ix2 k e))
        + G (ix3 b t ⟨2048 + (e : ℕ), by omega⟩) * (∑ k, F (ix3 b t k) * wc (ix2 k e))) * wo (ix2 e d) := by
  pointwise [stageM]

/-- The arguments, of the contents the reference starts with. -/
def args (V0 : Valuation τ sig (Elt Ideal)) : Args :=
  ⟨V0 (Proc.devRef .tc main_arg0), V0 (Proc.devRef .tc main_arg1), V0 (Proc.devRef .tc main_arg2),
    V0 (Proc.devRef .tc main_arg3), V0 (Proc.devRef .tc main_arg4), V0 (Proc.devRef .tc main_arg5),
    V0 (Proc.devRef .tc main_arg6), V0 (Proc.devRef .tc main_arg7), V0 (Proc.devRef .tc main_arg8),
    V0 (Proc.devRef .tc main_arg9), V0 (Proc.devRef .tc main_arg10), V0 (Proc.devRef .tc main_arg11),
    V0 (Proc.devRef .tc main_arg12), V0 (Proc.devRef .tc main_arg13), V0 (Proc.devRef .tc main_arg14),
    V0 (Proc.devRef .tc main_arg15)⟩

variable (V0 : Valuation τ sig (Elt Ideal))

/-- The gates at an index. -/
theorem gates_at (b : Fin 16) (t : Fin 2304) (k : Fin 3072) :
    (res_main_v43 V0 : S16x2304x3072.Idx → EReal) (ix3 b t k) =
      Ideal.logistic ((args V0).p (ix3 b t ⟨k, by omega⟩)) := by
  pointwise [res_main_v43]
  rfl

/-- The recurrence's sum at an index. -/
theorem sum_at (b : Fin 16) (t : Fin 2304) (u : Fin 4) (j : Fin 128) :
    (res_main_v3 V0 : S16x2304x4x128.Idx → EReal) (ix4 b t u j) =
      (args V0).f (ix3 b t ⟨(u : ℕ) * 128 + j, by omega⟩) + (args V0).r (ix3 b t ⟨(u : ℕ) * 128 + j, by omega⟩) := by
  pointwise [res_main_v3]
  rfl

/-- The attention by heads at an index. -/
theorem attn_at (b : Fin 16) (t : Fin 2304) (u : Fin 4) (j : Fin 128) :
    (res_main_v21 V0 : S16x2304x4x128.Idx → EReal) (ix4 b t u j) =
      (args V0).t (ix3 b t ⟨(u : ℕ) * 128 + j, by omega⟩) := by
  pointwise [res_main_v21]
  rfl

/-- The output gate's input at an index. -/
theorem og_at (b : Fin 16) (t : Fin 2304) (k : Fin 512) :
    (res_main_v1 V0 : S16x2304x512.Idx → EReal) (ix3 b t k) = (args V0).p (ix3 b t ⟨5120 + (k : ℕ), by omega⟩) := by
  pointwise [res_main_v1]
  rfl

/-- The mixture is composed of its stages. -/
theorem mix_eq : (res_main_v55 V0 : FVec Ideal S16x2304x1024 .f32) =
    stageM (res_main_v43 V0) (stageA (res_main_v3 V0) (res_main_v1 V0) (V0 (Proc.devRef .tc main_arg7)))
      (stageB (res_main_v21 V0) (V0 (Proc.devRef .tc main_arg8))) (V0 (Proc.devRef .tc main_arg6))
      (V0 (Proc.devRef .tc main_arg9)) (V0 (Proc.devRef .tc main_arg10)) (V0 (Proc.devRef .tc main_arg11))
      (V0 (Proc.devRef .tc main_arg12)) := rfl

/-- The mixture at an index. -/
theorem mix_at (b : Fin 16) (t : Fin 2304) (d : Fin 1024) :
    (res_main_v55 V0 : FVec Ideal S16x2304x1024 .f32) (ix3 b t d) = rowMix (args V0) b t d := by
  refine (congrFun (mix_eq V0) _).trans ((stageM_at _ _ _ _ _ _ _ _ b t d).trans ?_)
  refine Finset.sum_congr rfl fun e _ => congrArg (· * _) ?_
  rw [gates_at, gates_at, gates_at]
  refine congrArg₂ (· + ·) (congrArg₂ (· + ·) (congrArg₂ (· * ·) rfl ?_) (congrArg₂ (· * ·) rfl ?_)) rfl
  · refine Finset.sum_congr rfl fun k _ => congrArg (· * _) ?_
    rw [stageA_at _ _ _ (fun k => (args V0).f (ix3 b t k) + (args V0).r (ix3 b t k)) b t k (sum_at V0 b t)]
    simp only [og_at]
    rfl
  · refine Finset.sum_congr rfl fun k _ => congrArg (· * _) ?_
    rw [stageB_at _ _ (fun k => (args V0).t (ix3 b t k)) b t k (attn_at V0 b t)]
    rfl

/-- A context row takes the shared modulations. -/
theorem mod_ctx (a : Args) (b : Fin 16) {t : Fin 2304} (h : (t : ℕ) < 256) (j : Fin 6) (k : Fin 1024) :
    modulation a b t j k = a.M (ix2 16 ⟨(j : ℕ) * 1024 + k, by omega⟩) := by
  simp only [modulation, Cert.Row.modRow, if_pos h]

/-- A latent row takes its batch's modulations. -/
theorem mod_latent (a : Args) (b : Fin 16) {t : Fin 2304} (h : ¬ (t : ℕ) < 256) (j : Fin 6) (k : Fin 1024) :
    modulation a b t j k = a.M (ix2 ⟨b, by omega⟩ ⟨(j : ℕ) * 1024 + k, by omega⟩) := by
  simp only [modulation, Cert.Row.modRow, if_neg h]

/-- A context row of the second result. -/
theorem h2_ctx (a : Args) (b : Fin 16) {t : Fin 2304} (h : (t : ℕ) < 256) (d : Fin 1024) :
    h2 a b t d = Cert.Row.norm (x1 a b t) d * (1 + a.M (ix2 16 ⟨4096 + (d : ℕ), by omega⟩))
      + a.M (ix2 16 ⟨3072 + (d : ℕ), by omega⟩) := by
  simp only [h2, affine, mod_ctx a b h]
  rfl

/-- A latent row of the second result. -/
theorem h2_latent (a : Args) (b : Fin 16) {t : Fin 2304} (h : ¬ (t : ℕ) < 256) (d : Fin 1024) :
    h2 a b t d = Cert.Row.norm (x1 a b t) d * (1 + a.M (ix2 ⟨b, by omega⟩ ⟨4096 + (d : ℕ), by omega⟩))
      + a.M (ix2 ⟨b, by omega⟩ ⟨3072 + (d : ℕ), by omega⟩) := by
  simp only [h2, affine, mod_latent a b h]
  rfl

/-- A context row before its norm. -/
theorem resC_at (b : Fin 16) (t : Fin 256) (d : Fin 1024) :
    (res_main_v79 V0 : FVec Ideal S16x256x1024 .f32) (ix3 b t d) =
      joined (fun d => (args V0).xs (ix3 b ⟨t, by omega⟩ d)) (rowMix (args V0) b ⟨t, by omega⟩)
        (modulation (args V0) b ⟨t, by omega⟩ 2) d := by
  pointwise [res_main_v79, res_main_v65]
  rw [mix_at, joined, mod_ctx (args V0) b (t := ⟨t, by omega⟩) t.isLt]
  rfl

/-- A latent row before its norm. -/
theorem resL_at (b : Fin 16) (t : Fin 2048) (d : Fin 1024) :
    (res_main_v110 V0 : FVec Ideal S16x2048x1024 .f32) (ix3 b t d) =
      joined (fun d => (args V0).xs (ix3 b ⟨256 + (t : ℕ), by omega⟩ d)) (rowMix (args V0) b ⟨256 + (t : ℕ), by omega⟩)
        (modulation (args V0) b ⟨256 + (t : ℕ), by omega⟩ 2) d := by
  pointwise [res_main_v110, res_main_v57]
  rw [mix_at, joined, mod_latent (args V0) b (t := ⟨256 + (t : ℕ), by omega⟩) (show ¬ 256 + (t : ℕ) < 256 by omega)]
  rfl

/-- A context row of the first result. -/
theorem x1C_at (b : Fin 16) (t : Fin 256) (d : Fin 1024) :
    (res_main_v103 V0 : FVec Ideal S16x256x1024 .f32) (ix3 b t d) = x1 (args V0) b ⟨t, by omega⟩ d := by
  pointwise [res_main_v103, res_main_v83, res_main_v85]
  simp only [resC_at]
  rfl

/-- A latent row of the first result. -/
theorem x1L_at (b : Fin 16) (t : Fin 2048) (d : Fin 1024) :
    (res_main_v134 V0 : FVec Ideal S16x2048x1024 .f32) (ix3 b t d) = x1 (args V0) b ⟨256 + (t : ℕ), by omega⟩ d := by
  pointwise [res_main_v134, res_main_v114, res_main_v116]
  simp only [resL_at]
  rfl

/-- Past the context, a row counted from the latent rows' start. -/
theorem back {t : Fin 2304} (h : ¬ (t : ℕ) < 256) : (⟨256 + ((t : ℕ) - 256), by omega⟩ : Fin 2304) = t :=
  Fin.ext (by show 256 + ((t : ℕ) - 256) = t; omega)

/-- The second result before its cast. -/
theorem h2_at (b : Fin 16) (t : Fin 2304) (d : Fin 1024) :
    (res_main_v185 V0 : FVec Ideal S16x2304x1024 .f32) (ix3 b t d) = h2 (args V0) b t d := by
  pointwise [res_main_v185, res_main_v138, res_main_v140, res_main_v164, res_main_v166, res_main_v65, res_main_v57]
  by_cases h : (t : ℕ) < 256
  · rw [dif_pos h]
    simp only [x1C_at, Fin.eta]
    refine Eq.trans ?_ (h2_ctx (args V0) b h d).symm
    generalize x1 (args V0) b t = u
    rfl
  · rw [dif_neg h]
    simp only [x1L_at, back h]
    refine Eq.trans ?_ (h2_latent (args V0) b h d).symm
    generalize x1 (args V0) b t = u
    rfl

/-- The first result, as the reference composes it. -/
def out1 : FVec Ideal S16x2304x1024 .f32 :=
  concatenate S16x2304x1024 1 [⟨S16x256x1024, (res_main_v103 V0)⟩, ⟨S16x2048x1024, (res_main_v134 V0)⟩] concatenates_S16x256x1024_S16x2048x1024_S16x2304x1024_d1

/-- The second result, as the reference composes it. -/
def out2 : FVec Ideal S16x2304x1024 .bf16 := truncf .bf16 (res_main_v185 V0) bitsLt_bf16_f32

/-- The third result, as the reference composes it. -/
def out3 (H : FVec Ideal S16x2304x1024 .f32) (w : FVec Ideal S1024x64 .f32) : FVec Ideal S64x36864 .f32 :=
  shapeCast _ (transpose S8x8x36864 [1, 0, 2] (shapeCast _ (transpose S64x36864 [1, 0] (Host.dotGeneral dot_S36864x1024_S1024x64_S36864x64_1_0_0_1_n_n none (shapeCast _ H shapeCasts_S16x2304x1024_S36864x1024) w) transposes_S36864x64_S64x36864_1_0) shapeCasts_S64x36864_S8x8x36864) transposes_S8x8x36864_S8x8x36864_1_0_2) shapeCasts_S8x8x36864_S64x36864

/-- The first result at an index. -/
theorem out1_at (b : Fin 16) (t : Fin 2304) (d : Fin 1024) : out1 V0 (ix3 b t d) = x1 (args V0) b t d := by
  pointwise [out1]
  by_cases h : (t : ℕ) < 256
  · rw [dif_pos h, x1C_at]
  · rw [dif_neg h, x1L_at, back h]

/-- The second result at an index. -/
theorem out2_at (b : Fin 16) (t : Fin 2304) (d : Fin 1024) : out2 V0 (ix3 b t d) = h2 (args V0) b t d :=
  (show _ = (res_main_v185 V0 : FVec Ideal S16x2304x1024 .f32) (ix3 b t d) from rfl).trans (h2_at V0 b t d)

/-- The third result at an index. -/
theorem out3_at (e : Fin 64) (n : Fin 36864) :
    out3 (res_main_v185 V0) (V0 (Proc.devRef .tc main_arg15)) (ix2 e n) = logitCol (args V0) e n := by
  pointwise [out3]
  simp only [h2_at]
  rfl

/-- The reference's run: its three results are those terms of its arguments, and it leaves its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v192) = out1 (launchContents m c)
      ∧ r.2.mem ((c.tc : Thread nD τ).loc main_v193) = out2 (launchContents m c)
      ∧ r.2.mem ((c.tc : Thread nD τ).loc main_v191) =
          out3 (res_main_v185 (launchContents m c)) (launchContents m c (Proc.devRef .tc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine θ_run_mono (run m ρ) fun r hr c => ⟨?_, ?_, ?_, (hr c).2.2.2⟩
  · rw [(hr c).1]
    rfl
  · rw [(hr c).2.1]
    rfl
  · rw [(hr c).2.2.1]
    rfl

end Cert.MergeRefIdeal.Value
-- ==== Proof.MergeValue.lean ====
module

public import proofs.«01_k».proof.Proof.Gen.MergeIdeal.Value
public import proofs.«01_k».proof.Proof.MergeRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The merge's kernel read down to its specification. -/

namespace Cert.MergeIdeal.Value
open Cert.MergeIdeal Cert.MergeIdeal.Gen Cert.MergeSpec

/-- The head normalisation at lane `l` of the head whose columns are `c`. -/
theorem head_of (x : Fin 512 → EReal) (g : Fin 128 → EReal) (k : Fin 512) (q : ℕ) (l : Fin 128) (c : Fin 128 → Fin 512)
    (hc : ∀ j, (c j : ℕ) = q * 128 + j) (hk : (k : ℕ) = q * 128 + l) :
    head x g k = x (c l) * Ideal.rsqrt (Ideal.div (∑ j, x (c j) * x (c j)) (Ideal.ofBits .f32 0x43000000#32)
      + Ideal.ofBits .f32 0x3727C5AC#32) * g l := by
  have e : ∀ j, lane k j = c j := fun j => Fin.ext (by
    have := hc j
    show (k : ℕ) / 128 * 128 + j = _
    omega)
  have ek : k = c l := Fin.ext (by rw [hc, hk])
  have el : (⟨(k : ℕ) % 128, by omega⟩ : Fin 128) = l := Fin.ext (by show (k : ℕ) % 128 = l; omega)
  simp only [head, e, el]
  rw [← ek]

/-- The recurrence's branch, entry by entry. -/
theorem payA_at (v0 v2 : Vec Ideal S1x256x512 .f32) (v5 : Vec Ideal S1x128 .f32) (v60 : Vec Ideal S1x256x512 .f32)
    (r : Fin 256) (k : Fin 512) :
    k0_pay10 (k0_pay4 v0 v2) (k0_pay5 v5) (k0_pay6 v0 v2 v5) (k0_pay7 v0 v2 v5) (k0_pay8 v0 v2) (k0_pay9 v0 v2) v60
      (ix2 r k) = branchA (fun k => v0 (ix3 0 r k) + v2 (ix3 0 r k)) (fun k => v60 (ix3 0 r k)) (fun j => v5 (ix2 0 j)) k := by
  pointwise [k0_pay10, k0_pay4, k0_pay5, k0_pay6, k0_pay7, k0_pay8, k0_pay9]
  by_cases h0 : (k : ℕ) < 128
  · rw [dif_pos h0]
    exact congrArg (· * _) (head_of (fun k => v0 (ix3 0 r k) + v2 (ix3 0 r k)) (fun j => v5 (ix2 0 j)) k 0 ⟨k, h0⟩ (fun j => ⟨j, by omega⟩) (fun j => by simp) (by simp)).symm
  · rw [dif_neg h0]
    by_cases h1 : (k : ℕ) - 128 < 128
    · rw [dif_pos h1]
      exact congrArg (· * _) (head_of (fun k => v0 (ix3 0 r k) + v2 (ix3 0 r k)) (fun j => v5 (ix2 0 j)) k 1 ⟨(k : ℕ) - 128, h1⟩ (fun j => ⟨128 + (j : ℕ), by omega⟩)
        (fun j => by simp) (by show (k : ℕ) = 1 * 128 + ((k : ℕ) - 128); omega)).symm
    · rw [dif_neg h1]
      by_cases h2 : (k : ℕ) - 128 - 128 < 128
      · rw [dif_pos h2]
        exact congrArg (· * _) (head_of (fun k => v0 (ix3 0 r k) + v2 (ix3 0 r k)) (fun j => v5 (ix2 0 j)) k 2 ⟨(k : ℕ) - 128 - 128, h2⟩ (fun j => ⟨256 + (j : ℕ), by omega⟩)
          (fun j => by simp) (by show (k : ℕ) = 2 * 128 + ((k : ℕ) - 128 - 128); omega)).symm
      · rw [dif_neg h2]
        exact congrArg (· * _) (head_of (fun k => v0 (ix3 0 r k) + v2 (ix3 0 r k)) (fun j => v5 (ix2 0 j)) k 3 ⟨(k : ℕ) - 128 - 128 - 128, by omega⟩
          (fun j => ⟨384 + (j : ℕ), by omega⟩) (fun j => by simp)
          (by show (k : ℕ) = 3 * 128 + ((k : ℕ) - 128 - 128 - 128); omega)).symm

/-- The attention's branch, entry by entry. -/
theorem payB_at (v65 : Vec Ideal S1x256x512 .f32) (v67 : Vec Ideal S1x128 .f32) (r : Fin 256) (k : Fin 512) :
    k0_pay16 (k0_pay11 v65) (k0_pay12 v67) (k0_pay13 v65 v67) (k0_pay14 v65) (k0_pay15 v65) (ix2 r k) =
      branchB (fun k => v65 (ix3 0 r k)) (fun j => v67 (ix2 0 j)) k := by
  pointwise [k0_pay16, k0_pay11, k0_pay12, k0_pay13, k0_pay14, k0_pay15]
  by_cases h0 : (k : ℕ) < 128
  · rw [dif_pos h0]
    exact congrArg (· * _) (head_of (fun k => v65 (ix3 0 r k)) (fun j => v67 (ix2 0 j)) k 0 ⟨k, h0⟩ (fun j => ⟨j, by omega⟩) (fun j => by simp) (by simp)).symm
  · rw [dif_neg h0]
    by_cases h1 : (k : ℕ) - 128 < 128
    · rw [dif_pos h1]
      exact congrArg (· * _) (head_of (fun k => v65 (ix3 0 r k)) (fun j => v67 (ix2 0 j)) k 1 ⟨(k : ℕ) - 128, h1⟩ (fun j => ⟨128 + (j : ℕ), by omega⟩)
        (fun j => by simp) (by show (k : ℕ) = 1 * 128 + ((k : ℕ) - 128); omega)).symm
    · rw [dif_neg h1]
      by_cases h2 : (k : ℕ) - 128 - 128 < 128
      · rw [dif_pos h2]
        exact congrArg (· * _) (head_of (fun k => v65 (ix3 0 r k)) (fun j => v67 (ix2 0 j)) k 2 ⟨(k : ℕ) - 128 - 128, h2⟩ (fun j => ⟨256 + (j : ℕ), by omega⟩)
          (fun j => by simp) (by show (k : ℕ) = 2 * 128 + ((k : ℕ) - 128 - 128); omega)).symm
      · rw [dif_neg h2]
        exact congrArg (· * _) (head_of (fun k => v65 (ix3 0 r k)) (fun j => v67 (ix2 0 j)) k 3 ⟨(k : ℕ) - 128 - 128 - 128, by omega⟩
          (fun j => ⟨384 + (j : ℕ), by omega⟩) (fun j => by simp)
          (by show (k : ℕ) = 3 * 128 + ((k : ℕ) - 128 - 128 - 128); omega)).symm

/-- The mixture, entry by entry. -/
theorem payM_at (A B : FVec Ideal S256x512 .f32) (G : Vec Ideal S1x256x3072 .f32) (F : Vec Ideal S1x256x512 .f32)
    (wa wb wc : Vec Ideal S512x1024 .bf16) (wo : Vec Ideal S1024x1024 .bf16) (r : Fin 256) (d : Fin 1024) :
    k0_pay21 B (k0_pay17 G) (k0_pay18 G) (k0_pay19 A) (k0_pay20 wa) (constant S256x1024 .f32 0x00000000#32) wb F wc wo
      (ix2 r d) = mix (gated (fun k => G (ix3 0 r k)) (fun k => A (ix2 r k)) (fun k => B (ix2 r k))
        (fun k => F (ix3 0 r k)) (fun k e => wa (ix2 k e)) (fun k e => wb (ix2 k e)) fun k e => wc (ix2 k e))
        (fun e d => wo (ix2 e d)) d := by
  pointwise [k0_pay21, k0_pay17, k0_pay18, k0_pay19, k0_pay20]
  rfl

/-- The first result's row, entry by entry. -/
theorem payX_at (U : FVec Ideal S256x1024 .f32) (s : Vec Ideal S1x1x1x1024 .f32) (x : Vec Ideal S1x256x1024 .f32)
    (g b : Vec Ideal S1x1024 .f32) (r : Fin 256) (d : Fin 1024) :
    k0_pay26 U (k0_pay22 s) (k0_pay25 x) g b (ix2 r d) =
      affine (joined (fun k => x (ix3 0 r k)) (fun k => U (ix2 r k)) fun k => s (ix4 0 0 0 k)) (fun k => g (ix2 0 k))
        (fun k => b (ix2 0 k)) d := by
  pointwise [k0_pay26, k0_pay22, k0_pay25]
  rfl

/-- The second result's row, entry by entry. -/
theorem payH_at (U : FVec Ideal S256x1024 .f32) (v154 : FVec Ideal S1x1024 .f32) (v162 : FVec Ideal S256x1024 .f32)
    (g b : Vec Ideal S1x1024 .f32) (sh sc : Vec Ideal S1x1x1x1024 .f32) (r : Fin 256) (d : Fin 1024) :
    k0_pay1 (k0_pay23 sh) (k0_pay24 sc) (k0_pay28 U v154 v162 g b) (k0_pay29 U v154 v162 g b) (k0_pay30 (F := Ideal)) (ix2 r d) =
      affine (fun k => k0_pay26 U v154 v162 g b (ix2 r k)) (fun k => 1 + sc (ix4 0 0 0 k)) (fun k => sh (ix4 0 0 0 k)) d := by
  pointwise [k0_pay1, k0_pay23, k0_pay24, k0_pay28, k0_pay29, k0_pay30]
  rfl

/-- The logits, entry by entry. -/
theorem payL_at (v156 v158 : FVec Ideal S1x1024 .f32) (v198 : FVec Ideal S256x1024 .f32) (v203 v204 : FVec Ideal S256x1 .f32)
    (w : Vec Ideal S64x1024 .f32) (e : Fin 64) (r : Fin 256) :
    k0_pay3 v156 v158 v198 v203 v204 w (ix2 e r) =
      ∑ k : Fin 1024, k0_pay1 v156 v158 v198 v203 v204 (ix2 r k) * w (ix2 e k) := by
  pointwise [k0_pay3]
  exact Finset.sum_congr rfl fun k _ => mul_comm _ _

/-- The recurrence's branch of a row, from its operands' rows. -/
theorem rowA_of {a : Args} {b : Fin 16} {row : Fin 2304} {r : Fin 256} {v0 v2 v60 : Vec Ideal S1x256x512 .f32}
    {v5 : Vec Ideal S1x128 .f32} (h0 : ∀ k : Fin 512, v0 (ix3 0 r k) = a.f (ix3 b row k))
    (h2 : ∀ k : Fin 512, v2 (ix3 0 r k) = a.r (ix3 b row k)) (h5 : ∀ k : Fin 128, v5 (ix2 0 k) = a.hg (ix1 k))
    (h60 : ∀ k : Fin 512, v60 (ix3 0 r k) = a.p (ix3 b row ⟨5120 + (k : ℕ), by omega⟩)) (k : Fin 512) :
    k0_pay10 (k0_pay4 v0 v2) (k0_pay5 v5) (k0_pay6 v0 v2 v5) (k0_pay7 v0 v2 v5) (k0_pay8 v0 v2) (k0_pay9 v0 v2) v60
      (ix2 r k) = rowA a b row k := by
  rw [payA_at]
  simp only [h0, h2, h5, h60]
  rfl

/-- The attention's branch of a row, from its operands' rows. -/
theorem rowB_of {a : Args} {b : Fin 16} {row : Fin 2304} {r : Fin 256} {v65 : Vec Ideal S1x256x512 .f32}
    {v67 : Vec Ideal S1x128 .f32} (h65 : ∀ k : Fin 512, v65 (ix3 0 r k) = a.t (ix3 b row k))
    (h67 : ∀ k : Fin 128, v67 (ix2 0 k) = a.da (ix1 k)) (k : Fin 512) :
    k0_pay16 (k0_pay11 v65) (k0_pay12 v67) (k0_pay13 v65 v67) (k0_pay14 v65) (k0_pay15 v65) (ix2 r k) = rowB a b row k := by
  rw [payB_at]
  simp only [h65, h67]
  rfl

/-- The mixture of a row, from its operands' rows. -/
theorem rowMix_of {a : Args} {b : Fin 16} {row : Fin 2304} {r : Fin 256} {A B : FVec Ideal S256x512 .f32}
    {G : Vec Ideal S1x256x3072 .f32} {F : Vec Ideal S1x256x512 .f32} {wa wb wc : Vec Ideal S512x1024 .bf16}
    {wo : Vec Ideal S1024x1024 .bf16} (hA : ∀ k : Fin 512, A (ix2 r k) = rowA a b row k)
    (hB : ∀ k : Fin 512, B (ix2 r k) = rowB a b row k)
    (hG : ∀ k : Fin 3072, G (ix3 0 r k) = a.p (ix3 b row ⟨k, by omega⟩))
    (hF : ∀ k : Fin 512, F (ix3 0 r k) = a.q (ix3 b row k)) (ha : ∀ (k : Fin 512) (e : Fin 1024), wa (ix2 k e) = a.wa (ix2 k e))
    (hb : ∀ (k : Fin 512) (e : Fin 1024), wb (ix2 k e) = a.wb (ix2 k e))
    (hc : ∀ (k : Fin 512) (e : Fin 1024), wc (ix2 k e) = a.wc (ix2 k e))
    (ho : ∀ (k : Fin 1024) (e : Fin 1024), wo (ix2 k e) = a.wo (ix2 k e)) (d : Fin 1024) :
    k0_pay21 B (k0_pay17 G) (k0_pay18 G) (k0_pay19 A) (k0_pay20 wa) (constant S256x1024 .f32 0x00000000#32) wb F wc wo
      (ix2 r d) = rowMix a b row d := by
  rw [payM_at]
  simp only [hA, hB, hG, hF, ha, hb, hc, ho]
  rfl

/-- The first result's row, from its operands' rows. -/
theorem x1_of {a : Args} {b : Fin 16} {row : Fin 2304} {r : Fin 256} {U : FVec Ideal S256x1024 .f32}
    {s : Vec Ideal S1x1x1x1024 .f32} {x : Vec Ideal S1x256x1024 .f32} {g h : Vec Ideal S1x1024 .f32}
    (hU : ∀ k : Fin 1024, U (ix2 r k) = rowMix a b row k)
    (hs : ∀ k : Fin 1024, s (ix4 0 0 0 k) = Cert.MergeSpec.modulation a b row 2 k)
    (hx : ∀ k : Fin 1024, x (ix3 0 r k) = a.xs (ix3 b row k)) (hg : ∀ k : Fin 1024, g (ix2 0 k) = a.lg (ix1 k))
    (hh : ∀ k : Fin 1024, h (ix2 0 k) = a.lb (ix1 k)) (d : Fin 1024) :
    k0_pay26 U (k0_pay22 s) (k0_pay25 x) g h (ix2 r d) = x1 a b row d := by
  rw [payX_at]
  simp only [hU, hs, hx, hg, hh]
  rfl

/-- The second result's row, from its operands' rows. -/
theorem h2_of {a : Args} {b : Fin 16} {row : Fin 2304} {r : Fin 256} {U v162 : FVec Ideal S256x1024 .f32}
    {v154 : FVec Ideal S1x1024 .f32} {g h : Vec Ideal S1x1024 .f32} {sh sc : Vec Ideal S1x1x1x1024 .f32}
    (hX : ∀ k : Fin 1024, k0_pay26 U v154 v162 g h (ix2 r k) = x1 a b row k)
    (hh : ∀ k : Fin 1024, sh (ix4 0 0 0 k) = Cert.MergeSpec.modulation a b row 3 k)
    (hc : ∀ k : Fin 1024, sc (ix4 0 0 0 k) = Cert.MergeSpec.modulation a b row 4 k) (d : Fin 1024) :
    k0_pay1 (k0_pay23 sh) (k0_pay24 sc) (k0_pay28 U v154 v162 g h) (k0_pay29 U v154 v162 g h) (k0_pay30 (F := Ideal)) (ix2 r d) =
      h2 a b row d := by
  rw [payH_at]
  simp only [hX, hh, hc]
  rfl

/-- The first result's block is the row cast to three axes. -/
theorem pay27_at (U v162 : FVec Ideal S256x1024 .f32) (v154 : FVec Ideal S1x1024 .f32) (g h : Vec Ideal S1x1024 .f32)
    (r : Fin 256) (d : Fin 1024) :
    k0_pay27 U v154 v162 g h (ix3 0 r d) = k0_pay26 U v154 v162 g h (ix2 r d) := by
  pointwise [k0_pay27, k0_pay26]

/-- The second result's block is the row cast to three axes. -/
theorem pay2_at (v156 v158 : FVec Ideal S1x1024 .f32) (v198 : FVec Ideal S256x1024 .f32) (v203 v204 : FVec Ideal S256x1 .f32)
    (r : Fin 256) (d : Fin 1024) :
    k0_pay2 v156 v158 v198 v203 v204 (ix3 0 r d) = k0_pay1 v156 v158 v198 v203 v204 (ix2 r d) := by
  pointwise [k0_pay2, k0_pay1]

variable (m : (ℓ : Loc nD τ sig) → Buf (Elt Ideal) ℓ)

/-- Where each window's block lies at grid point `t`: batch `t / 9`, row tile `t % 9`. -/
theorem idx : ∀ t : Fin cfg0.N, win0_0.index t = ![t.val / 9, t.val % 9, 0] ∧
    win0_1.index t = ![t.val / 9, if t.val % 9 = 0 then 0 else 1, 0, 0] ∧ win0_2.index t = ![t.val / 9, t.val % 9, 0] ∧
    win0_3.index t = ![t.val / 9, t.val % 9, 10] ∧ win0_4.index t = ![t.val / 9, t.val % 9, 0] ∧
    win0_5.index t = ![t.val / 9, t.val % 9, 0] ∧ win0_6.index t = ![t.val / 9, t.val % 9, 0] ∧
    win0_7.index t = ![t.val / 9, t.val % 9, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_14.index t = ![0, 0] ∧ win0_15.index t = ![0, 0] ∧
    win0_16.index t = ![t.val / 9, t.val % 9, 0] ∧ win0_17.index t = ![t.val / 9, t.val % 9, 0] ∧
    win0_18.index t = ![0, t.val / 9 * 9 + t.val % 9] :=
  (by decide +kernel : ∀ t : Fin grid0.N, _)

/-- The arguments, of the contents the launch starts with. -/
def args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-- The conditioning table as the launch lays it out: entry `(b, s, j, k)` is entry `1024 j + k` of the shared row
for `s = 0`, of the batch's row for `s = 1`. -/
theorem modulation (c : Dev nD) (b : Fin 16) (s : Fin 2) (j : Fin 6) (k : Fin 1024) :
    (V m c main_v11 : S16x2x6x1024.Idx → EReal) (ix4 b s j k) =
      (args m c).M (ix2 (if (s : ℕ) < 1 then 16 else ⟨b, by omega⟩) ⟨j * 1024 + k, by omega⟩) := by
  entry_read
  pointwise []
  by_cases h : (s : ℕ) < 1
  · rw [dif_pos h]
    simp only [if_pos h]
    rfl
  · rw [dif_neg h]
    simp only [if_neg h]
    rfl

/-- The norm's scale and shift as the launch lays them out. -/
theorem norm_at (c : Dev nD) (s : Fin 2) (k : Fin 1024) :
    (V m c main_v2 : S2x1024.Idx → EReal) (ix2 s k) =
      if (s : ℕ) < 1 then (args m c).lg (ix1 k) else (args m c).lb (ix1 k) := by
  entry_read
  pointwise []
  by_cases h : (s : ℕ) < 1
  · rw [dif_pos h, if_pos h]
    rfl
  · rw [dif_neg h, if_neg h]
    rfl

/-- The recurrence's head scale as the launch lays it out. -/
theorem hg_at (c : Dev nD) (k : Fin 128) :
    (V m c main_v3 : S1x128.Idx → EReal) (ix2 0 k) = (args m c).hg (ix1 k) := by
  entry_read
  pointwise []
  rfl

/-- The attention's head scale as the launch lays it out. -/
theorem da_at (c : Dev nD) (k : Fin 128) :
    (V m c main_v4 : S1x128.Idx → EReal) (ix2 0 k) = (args m c).da (ix1 k) := by
  entry_read
  pointwise []
  rfl

/-- The recurrence's projection as the launch lays it out. -/
theorem wa_at (c : Dev nD) (k : Fin 512) (e : Fin 1024) :
    (V m c main_v12 : S512x1024.Idx → EReal) (ix2 k e) = (args m c).wa (ix2 k e) := by
  entry_read
  pointwise []
  rfl

/-- The attention's projection as the launch lays it out. -/
theorem wb_at (c : Dev nD) (k : Fin 512) (e : Fin 1024) :
    (V m c main_v13 : S512x1024.Idx → EReal) (ix2 k e) = (args m c).wb (ix2 k e) := by
  entry_read
  pointwise []
  rfl

/-- The Fourier mixing's projection as the launch lays it out. -/
theorem wc_at (c : Dev nD) (k : Fin 512) (e : Fin 1024) :
    (V m c main_v14 : S512x1024.Idx → EReal) (ix2 k e) = (args m c).wc (ix2 k e) := by
  entry_read
  pointwise []
  rfl

/-- The output projection as the launch lays it out. -/
theorem wo_at (c : Dev nD) (k : Fin 1024) (e : Fin 1024) :
    (V m c main_v15 : S1024x1024.Idx → EReal) (ix2 k e) = (args m c).wo (ix2 k e) := by
  entry_read
  pointwise []
  rfl

/-- The router's weight as the launch lays it out. -/
theorem wr_at (c : Dev nD) (e : Fin 64) (k : Fin 1024) :
    (V m c main_v19 : S64x1024.Idx → EReal) (ix2 e k) = (args m c).wr (ix2 k (expert e)) := by
  entry_read
  pointwise []
  rfl

/-- The stream block. -/
theorem blk0 (c : Dev nD) (t : Fin cfg0.N) (b : Fin 16) (row : Fin 2304) (r : Fin 256)
    (hb : (b : ℕ) = t.val / 9) (hr : (row : ℕ) = t.val % 9 * 256 + r) (k : Fin 1024) :
    iblk m c 0 t (ix3 0 r k) = (args m c).xs (ix3 b row k) := by
  blk_point [iblk, idx t, V, args]

/-- The gates block. -/
theorem blk2 (c : Dev nD) (t : Fin cfg0.N) (b : Fin 16) (row : Fin 2304) (r : Fin 256)
    (hb : (b : ℕ) = t.val / 9) (hr : (row : ℕ) = t.val % 9 * 256 + r) (k : Fin 3072) :
    X0_2 m c t (ix3 0 r k) = (args m c).p (ix3 b row ⟨k, by omega⟩) := by
  refine (dif_pos (moved0_2 t (ix3 0 r k))).trans ?_
  blk_point [iblk, idx t, V, args]

/-- The output gate block. -/
theorem blk3 (c : Dev nD) (t : Fin cfg0.N) (b : Fin 16) (row : Fin 2304) (r : Fin 256)
    (hb : (b : ℕ) = t.val / 9) (hr : (row : ℕ) = t.val % 9 * 256 + r) (k : Fin 512) :
    iblk m c 3 t (ix3 0 r k) = (args m c).p (ix3 b row ⟨5120 + (k : ℕ), by omega⟩) := by
  blk_point [iblk, idx t, V, args]

/-- The forward recurrence block. -/
theorem blk4 (c : Dev nD) (t : Fin cfg0.N) (b : Fin 16) (row : Fin 2304) (r : Fin 256)
    (hb : (b : ℕ) = t.val / 9) (hr : (row : ℕ) = t.val % 9 * 256 + r) (k : Fin 512) :
    iblk m c 4 t (ix3 0 r k) = (args m c).f (ix3 b row k) := by
  blk_point [iblk, idx t, V, args]

/-- The backward recurrence block. -/
theorem blk5 (c : Dev nD) (t : Fin cfg0.N) (b : Fin 16) (row : Fin 2304) (r : Fin 256)
    (hb : (b : ℕ) = t.val / 9) (hr : (row : ℕ) = t.val % 9 * 256 + r) (k : Fin 512) :
    iblk m c 5 t (ix3 0 r k) = (args m c).r (ix3 b row k) := by
  blk_point [iblk, idx t, V, args]

/-- The attention block. -/
theorem blk6 (c : Dev nD) (t : Fin cfg0.N) (b : Fin 16) (row : Fin 2304) (r : Fin 256)
    (hb : (b : ℕ) = t.val / 9) (hr : (row : ℕ) = t.val % 9 * 256 + r) (k : Fin 512) :
    iblk m c 6 t (ix3 0 r k) = (args m c).t (ix3 b row k) := by
  blk_point [iblk, idx t, V, args]

/-- The Fourier mixing block. -/
theorem blk7 (c : Dev nD) (t : Fin cfg0.N) (b : Fin 16) (row : Fin 2304) (r : Fin 256)
    (hb : (b : ℕ) = t.val / 9) (hr : (row : ℕ) = t.val % 9 * 256 + r) (k : Fin 512) :
    iblk m c 7 t (ix3 0 r k) = (args m c).q (ix3 b row k) := by
  blk_point [iblk, idx t, V, args]

/-- The recurrence's head scale block. -/
theorem blk8 (c : Dev nD) (t : Fin cfg0.N) (k : Fin 128) : iblk m c 8 t (ix2 0 k) = (args m c).hg (ix1 k) :=
  (show _ = (V m c main_v3 : S1x128.Idx → EReal) (ix2 0 k) by blk_point [iblk, idx t]).trans (hg_at m c k)

/-- The attention's head scale block. -/
theorem blk9 (c : Dev nD) (t : Fin cfg0.N) (k : Fin 128) : iblk m c 9 t (ix2 0 k) = (args m c).da (ix1 k) :=
  (show _ = (V m c main_v4 : S1x128.Idx → EReal) (ix2 0 k) by blk_point [iblk, idx t]).trans (da_at m c k)

/-- The recurrence's projection block. -/
theorem blk10 (c : Dev nD) (t : Fin cfg0.N) (k : Fin 512) (e : Fin 1024) :
    iblk m c 10 t (ix2 k e) = (args m c).wa (ix2 k e) :=
  (show _ = (V m c main_v12 : S512x1024.Idx → EReal) (ix2 k e) by blk_point [iblk, idx t]).trans (wa_at m c k e)

/-- The attention's projection block. -/
theorem blk11 (c : Dev nD) (t : Fin cfg0.N) (k : Fin 512) (e : Fin 1024) :
    iblk m c 11 t (ix2 k e) = (args m c).wb (ix2 k e) :=
  (show _ = (V m c main_v13 : S512x1024.Idx → EReal) (ix2 k e) by blk_point [iblk, idx t]).trans (wb_at m c k e)

/-- The Fourier mixing's projection block. -/
theorem blk12 (c : Dev nD) (t : Fin cfg0.N) (k : Fin 512) (e : Fin 1024) :
    iblk m c 12 t (ix2 k e) = (args m c).wc (ix2 k e) :=
  (show _ = (V m c main_v14 : S512x1024.Idx → EReal) (ix2 k e) by blk_point [iblk, idx t]).trans (wc_at m c k e)

/-- The output projection block. -/
theorem blk13 (c : Dev nD) (t : Fin cfg0.N) (k : Fin 1024) (e : Fin 1024) :
    iblk m c 13 t (ix2 k e) = (args m c).wo (ix2 k e) :=
  (show _ = (V m c main_v15 : S1024x1024.Idx → EReal) (ix2 k e) by blk_point [iblk, idx t]).trans (wo_at m c k e)

/-- The router's weight block. -/
theorem blk15 (c : Dev nD) (t : Fin cfg0.N) (e : Fin 64) (k : Fin 1024) :
    iblk m c 15 t (ix2 e k) = (args m c).wr (ix2 k (expert e)) :=
  (show _ = (V m c main_v19 : S64x1024.Idx → EReal) (ix2 e k) by blk_point [iblk, idx t]).trans (wr_at m c e k)

/-- The norm's scale row. -/
theorem ld14_0 (c : Dev nD) (t : Fin cfg0.N) (k : Fin 1024) :
    View.ld (iblk m c 14 t) (Rect.unit ![0, 0] ![1, 1024] inb_S2x1024_S1x1024_0_0) (ix2 0 k) = (args m c).lg (ix1 k) :=
  (show _ = iblk m c 14 t (ix2 0 k) by pointwise []).trans
    ((show _ = (V m c main_v2 : S2x1024.Idx → EReal) (ix2 0 k) by blk_point [iblk, idx t]).trans (norm_at m c 0 k))

/-- The norm's shift row. -/
theorem ld14_1 (c : Dev nD) (t : Fin cfg0.N) (k : Fin 1024) :
    View.ld (iblk m c 14 t) (Rect.unit ![1, 0] ![1, 1024] inb_S2x1024_S1x1024_1_0) (ix2 0 k) = (args m c).lb (ix1 k) :=
  (show _ = iblk m c 14 t (ix2 1 k) by pointwise []).trans
    ((show _ = (V m c main_v2 : S2x1024.Idx → EReal) (ix2 1 k) by blk_point [iblk, idx t]).trans (norm_at m c 1 k))

/-- A row of the modulation block. -/
theorem blk1 (c : Dev nD) (t : Fin cfg0.N) (b : Fin 16) (row : Fin 2304) (r : Fin 256)
    (hb : (b : ℕ) = t.val / 9) (hr : (row : ℕ) = t.val % 9 * 256 + r) (j : Fin 6) (k : Fin 1024) :
    iblk m c 1 t (ix4 0 0 j k) = Cert.MergeSpec.modulation (args m c) b row j k := by
  have hs : ((if t.val % 9 = 0 then 0 else 1 : ℕ) < 1) = ((row : ℕ) < 256) := by
    split <;> simp only [eq_iff_iff] <;> omega
  refine (show _ = (V m c main_v11 : S16x2x6x1024.Idx → EReal)
    (ix4 b ⟨if t.val % 9 = 0 then 0 else 1, by split <;> omega⟩ j k) by blk_point [iblk, idx t]).trans
    ((modulation m c _ _ _ _).trans ?_)
  simp only [hs, Cert.Row.modRow, Cert.MergeSpec.modulation]

/-- Modulation 2 as the body loads it. -/
theorem ld1_2 (c : Dev nD) (t : Fin cfg0.N) (b : Fin 16) (row : Fin 2304) (r : Fin 256)
    (hb : (b : ℕ) = t.val / 9) (hr : (row : ℕ) = t.val % 9 * 256 + r) (k : Fin 1024) :
    View.ld (iblk m c 1 t) (Rect.unit ![0, 0, 2, 0] ![1, 1, 1, 1024] inb_S1x1x6x1024_S1x1x1x1024_0_0_2_0) (ix4 0 0 0 k) =
      Cert.MergeSpec.modulation (args m c) b row 2 k :=
  (show _ = iblk m c 1 t (ix4 0 0 2 k) by pointwise []).trans (blk1 m c t b row r hb hr 2 k)

/-- Modulation 3 as the body loads it. -/
theorem ld1_3 (c : Dev nD) (t : Fin cfg0.N) (b : Fin 16) (row : Fin 2304) (r : Fin 256)
    (hb : (b : ℕ) = t.val / 9) (hr : (row : ℕ) = t.val % 9 * 256 + r) (k : Fin 1024) :
    View.ld (iblk m c 1 t) (Rect.unit ![0, 0, 3, 0] ![1, 1, 1, 1024] inb_S1x1x6x1024_S1x1x1x1024_0_0_3_0) (ix4 0 0 0 k) =
      Cert.MergeSpec.modulation (args m c) b row 3 k :=
  (show _ = iblk m c 1 t (ix4 0 0 3 k) by pointwise []).trans (blk1 m c t b row r hb hr 3 k)

/-- Modulation 4 as the body loads it. -/
theorem ld1_4 (c : Dev nD) (t : Fin cfg0.N) (b : Fin 16) (row : Fin 2304) (r : Fin 256)
    (hb : (b : ℕ) = t.val / 9) (hr : (row : ℕ) = t.val % 9 * 256 + r) (k : Fin 1024) :
    View.ld (iblk m c 1 t) (Rect.unit ![0, 0, 4, 0] ![1, 1, 1, 1024] inb_S1x1x6x1024_S1x1x1x1024_0_0_4_0) (ix4 0 0 0 k) =
      Cert.MergeSpec.modulation (args m c) b row 4 k :=
  (show _ = iblk m c 1 t (ix4 0 0 4 k) by pointwise []).trans (blk1 m c t b row r hb hr 4 k)

/-- The mixture the body computes at a grid point. -/
def mixB (c : Dev nD) (t : Fin cfg0.N) : FVec Ideal S256x1024 .f32 :=
  k0_pay21
      (k0_pay16 (k0_pay11 (iblk m c 6 t)) (k0_pay12 (iblk m c 9 t)) (k0_pay13 (iblk m c 6 t) (iblk m c 9 t))
        (k0_pay14 (iblk m c 6 t)) (k0_pay15 (iblk m c 6 t)))
      (k0_pay17 (X0_2 m c t)) (k0_pay18 (X0_2 m c t))
      (k0_pay19
        (k0_pay10 (k0_pay4 (iblk m c 4 t) (iblk m c 5 t)) (k0_pay5 (iblk m c 8 t))
          (k0_pay6 (iblk m c 4 t) (iblk m c 5 t) (iblk m c 8 t))
          (k0_pay7 (iblk m c 4 t) (iblk m c 5 t) (iblk m c 8 t)) (k0_pay8 (iblk m c 4 t) (iblk m c 5 t))
          (k0_pay9 (iblk m c 4 t) (iblk m c 5 t)) (iblk m c 3 t)))
      (k0_pay20 (iblk m c 10 t)) (constant S256x1024 .f32 0x00000000#32) (iblk m c 11 t) (iblk m c 7 t) (iblk m c 12 t)
      (iblk m c 13 t)

/-- That mixture, entry by entry. -/
theorem mixB_at (c : Dev nD) (t : Fin cfg0.N) (b : Fin 16) (row : Fin 2304) (r : Fin 256)
    (hb : (b : ℕ) = t.val / 9) (hr : (row : ℕ) = t.val % 9 * 256 + r) (d : Fin 1024) :
    mixB m c t (ix2 r d) = rowMix (args m c) b row d :=
  rowMix_of
    (rowA_of (blk4 m c t b row r hb hr) (blk5 m c t b row r hb hr) (blk8 m c t) (blk3 m c t b row r hb hr))
    (rowB_of (blk6 m c t b row r hb hr) (blk9 m c t)) (blk2 m c t b row r hb hr) (blk7 m c t b row r hb hr)
    (blk10 m c t) (blk11 m c t) (blk12 m c t) (blk13 m c t) d

/-- The first result's block before its cast, entry by entry. -/
theorem x1B_at (c : Dev nD) (t : Fin cfg0.N) (b : Fin 16) (row : Fin 2304) (r : Fin 256)
    (hb : (b : ℕ) = t.val / 9) (hr : (row : ℕ) = t.val % 9 * 256 + r) (d : Fin 1024) :
    k0_pay26 (mixB m c t) (k0_pay22 (View.ld (iblk m c 1 t) (Rect.unit ![0, 0, 2, 0] ![1, 1, 1, 1024] inb_S1x1x6x1024_S1x1x1x1024_0_0_2_0)))
      (k0_pay25 (iblk m c 0 t)) (View.ld (iblk m c 14 t) (Rect.unit ![0, 0] ![1, 1024] inb_S2x1024_S1x1024_0_0))
      (View.ld (iblk m c 14 t) (Rect.unit ![1, 0] ![1, 1024] inb_S2x1024_S1x1024_1_0)) (ix2 r d) = x1 (args m c) b row d :=
  x1_of (mixB_at m c t b row r hb hr) (ld1_2 m c t b row r hb hr) (blk0 m c t b row r hb hr) (ld14_0 m c t) (ld14_1 m c t) d

/-- The second result's block before its cast, entry by entry. -/
theorem h2B_at (c : Dev nD) (t : Fin cfg0.N) (b : Fin 16) (row : Fin 2304) (r : Fin 256)
    (hb : (b : ℕ) = t.val / 9) (hr : (row : ℕ) = t.val % 9 * 256 + r) (d : Fin 1024) :
    k0_pay1 (k0_pay23 (View.ld (iblk m c 1 t) (Rect.unit ![0, 0, 3, 0] ![1, 1, 1, 1024] inb_S1x1x6x1024_S1x1x1x1024_0_0_3_0)))
      (k0_pay24 (View.ld (iblk m c 1 t) (Rect.unit ![0, 0, 4, 0] ![1, 1, 1, 1024] inb_S1x1x6x1024_S1x1x1x1024_0_0_4_0)))
      (k0_pay28 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay29 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay30 (F := Ideal)) (ix2 r d) = h2 (args m c) b row d :=
  h2_of (x1B_at m c t b row r hb hr) (ld1_3 m c t b row r hb hr) (ld1_4 m c t b row r hb hr) d

/-- The first result's block, entry by entry. -/
theorem point1 (c : Dev nD) (t : Fin cfg0.N) (r : Fin 256) (k : Fin 1024) (b : Fin 16) (row : Fin 2304) (d : Fin 1024)
    (hb : (b : ℕ) = t.val / 9) (hr : (row : ℕ) = t.val % 9 * 256 + r) (hd : (d : ℕ) = k) :
    k0_pay27 (mixB m c t) (k0_pay22 (View.ld (iblk m c 1 t) (Rect.unit ![0, 0, 2, 0] ![1, 1, 1, 1024] inb_S1x1x6x1024_S1x1x1x1024_0_0_2_0)))
      (k0_pay25 (iblk m c 0 t)) (View.ld (iblk m c 14 t) (Rect.unit ![0, 0] ![1, 1024] inb_S2x1024_S1x1024_0_0))
      (View.ld (iblk m c 14 t) (Rect.unit ![1, 0] ![1, 1024] inb_S2x1024_S1x1024_1_0)) (ix3 0 r k) = x1 (args m c) b row d := by
  obtain rfl : d = k := Fin.ext hd
  exact (pay27_at _ _ _ _ _ _ _).trans (x1B_at m c t b row r hb hr d)

/-- The second result's block, entry by entry. -/
theorem point2 (c : Dev nD) (t : Fin cfg0.N) (r : Fin 256) (k : Fin 1024) (b : Fin 16) (row : Fin 2304) (d : Fin 1024)
    (hb : (b : ℕ) = t.val / 9) (hr : (row : ℕ) = t.val % 9 * 256 + r) (hd : (d : ℕ) = k) :
    k0_pay2 (k0_pay23 (View.ld (iblk m c 1 t) (Rect.unit ![0, 0, 3, 0] ![1, 1, 1, 1024] inb_S1x1x6x1024_S1x1x1x1024_0_0_3_0)))
      (k0_pay24 (View.ld (iblk m c 1 t) (Rect.unit ![0, 0, 4, 0] ![1, 1, 1, 1024] inb_S1x1x6x1024_S1x1x1x1024_0_0_4_0)))
      (k0_pay28 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay29 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay30 (F := Ideal)) (ix3 0 r k) = h2 (args m c) b row d := by
  obtain rfl : d = k := Fin.ext hd
  exact (pay2_at _ _ _ _ _ _ _).trans (h2B_at m c t b row r hb hr d)

/-- The logits' block, entry by entry. -/
theorem logB_at (c : Dev nD) (t : Fin cfg0.N) (e : Fin 64) (r : Fin 256) (e' : Fin 64) (n : Fin 36864)
    (he : (e' : ℕ) = e) (hn : (n : ℕ) = (t.val / 9 * 9 + t.val % 9) * 256 + r) :
    k0_pay3 (k0_pay23 (View.ld (iblk m c 1 t) (Rect.unit ![0, 0, 3, 0] ![1, 1, 1, 1024] inb_S1x1x6x1024_S1x1x1x1024_0_0_3_0)))
      (k0_pay24 (View.ld (iblk m c 1 t) (Rect.unit ![0, 0, 4, 0] ![1, 1, 1, 1024] inb_S1x1x6x1024_S1x1x1x1024_0_0_4_0)))
      (k0_pay28 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay29 (mixB m c t) (k0_pay22 (View.ld (iblk m c 1 t) (Rect.unit ![0, 0, 2, 0] ![1, 1, 1, 1024] inb_S1x1x6x1024_S1x1x1x1024_0_0_2_0)))
        (k0_pay25 (iblk m c 0 t)) (View.ld (iblk m c 14 t) (Rect.unit ![0, 0] ![1, 1024] inb_S2x1024_S1x1024_0_0))
        (View.ld (iblk m c 14 t) (Rect.unit ![1, 0] ![1, 1024] inb_S2x1024_S1x1024_1_0)))
      (k0_pay30 (F := Ideal)) (iblk m c 15 t) (ix2 e r) = logitCol (args m c) e' n := by
  have hq : (n : ℕ) / 2304 = t.val / 9 := by omega
  have hm : (n : ℕ) % 2304 = t.val % 9 * 256 + r := by omega
  obtain rfl : e' = e := Fin.ext he
  unfold logitCol logit
  refine (payL_at _ _ _ _ _ _ _ _).trans (Finset.sum_congr rfl fun k _ => ?_)
  exact congrArg₂ (· * ·) (h2B_at m c t ⟨(n : ℕ) / 2304, by omega⟩ ⟨(n : ℕ) % 2304, by omega⟩ r hq hm k) (blk15 m c t e' k)

/-- The first result array, entry by entry. -/
theorem final1 (c : Dev nD) :
    (dats m 0 c).arrAt 16 cfg0.N = fun j : S16x2304x1024.Idx => x1 (args m c) (j 0) (j 1) (j 2) := by
  refine (dats m 0 c).arrAt_eq_of_covers 16 _ (by decide +kernel) fun t _ y => ?_
  have e0 : (((cfg0.win 16).blk t).view.emb y 0 : ℕ) = t.val / 9 := by blk_simp [idx t]
  have e1 : (((cfg0.win 16).blk t).view.emb y 1 : ℕ) = t.val % 9 * 256 + y 1 := by blk_simp [idx t]
  have e2 : (((cfg0.win 16).blk t).view.emb y 2 : ℕ) = y 2 := by blk_simp [idx t]
  have hy : y = (ix3 0 (y 1) (y 2) : S1x256x1024.Idx) :=
    (eq_ix3 (n0 := 1) (n1 := 256) (n2 := 1024) y).trans (by rw [Subsingleton.elim (α := Fin 1) (y 0) 0])
  blk_simp
  rw [after0_16]
  unfold Gen.outsAt0
  frame_out
  exact (congrArg _ hy).trans (point1 m c t (y 1) (y 2) _ _ _ e0 e1 e2)

/-- The second result array, entry by entry. -/
theorem final2 (c : Dev nD) :
    (dats m 0 c).arrAt 17 cfg0.N = fun j : S16x2304x1024.Idx => h2 (args m c) (j 0) (j 1) (j 2) := by
  refine (dats m 0 c).arrAt_eq_of_covers 17 _ (by decide +kernel) fun t _ y => ?_
  have e0 : (((cfg0.win 17).blk t).view.emb y 0 : ℕ) = t.val / 9 := by blk_simp [idx t]
  have e1 : (((cfg0.win 17).blk t).view.emb y 1 : ℕ) = t.val % 9 * 256 + y 1 := by blk_simp [idx t]
  have e2 : (((cfg0.win 17).blk t).view.emb y 2 : ℕ) = y 2 := by blk_simp [idx t]
  have hy : y = (ix3 0 (y 1) (y 2) : S1x256x1024.Idx) :=
    (eq_ix3 (n0 := 1) (n1 := 256) (n2 := 1024) y).trans (by rw [Subsingleton.elim (α := Fin 1) (y 0) 0])
  blk_simp
  rw [after0_17]
  unfold Gen.outsAt0
  frame_out
  exact (congrArg _ hy).trans (point2 m c t (y 1) (y 2) _ _ _ e0 e1 e2)

/-- The third result array, entry by entry. -/
theorem final3 (c : Dev nD) :
    (dats m 0 c).arrAt 18 cfg0.N = fun j : S64x36864.Idx => logitCol (args m c) (j 0) (j 1) := by
  refine (dats m 0 c).arrAt_eq_of_covers 18 _ (by decide +kernel) fun t _ y => ?_
  have e0 : (((cfg0.win 18).blk t).view.emb y 0 : ℕ) = y 0 := by blk_simp [idx t]
  have e1 : (((cfg0.win 18).blk t).view.emb y 1 : ℕ) = (t.val / 9 * 9 + t.val % 9) * 256 + y 1 := by blk_simp [idx t]
  blk_simp
  rw [after0_18]
  unfold Gen.outsAt0
  frame_out
  have hy : y = (ix2 (y 0) (y 1) : S64x256.Idx) := eq_ix2 (n0 := 64) (n1 := 256) y
  exact (congrArg _ hy).trans (logB_at m c t (y 0) (y 1) _ _ e0 e1)

end Cert.MergeIdeal.Value
-- ==== Proof.PrepRow.lean ====
module

public import Idealize.ShloMosaic.Lib.Pointwise

@[expose] public section

noncomputable section

open Idealize.ShloMosaic

/-! The attention's rotary preparation as a function of a row: the context rows stand as they are, a latent row's heads
are rotated by its position's angles, halves of 32 lanes against each other. -/

namespace Cert.PrepSpec

/-- Column `j` of a row of eight groups of 64 lanes, rotated by the group lane's cosine and sine. -/
def rotated (x : Fin 512 → EReal) (C S : Fin 64 → EReal) (j : Fin 512) : EReal :=
  x j * C ⟨(j : ℕ) % 64, by omega⟩ +
    (if h : (j : ℕ) % 64 < 32 then -x ⟨(j : ℕ) + 32, by omega⟩ else x ⟨(j : ℕ) - 32, by omega⟩) *
      S ⟨(j : ℕ) % 64, by omega⟩

/-- Column `j` of row `t`: as it is among the 256 context rows, rotated by its position's angles among the latent ones. -/
def turned (x : Fin 512 → EReal) (C S : Fin 2048 → Fin 64 → EReal) (t : Fin 2304) (j : Fin 512) : EReal :=
  if h : (t : ℕ) < 256 then x j
  else rotated x (C ⟨(t : ℕ) - 256, by omega⟩) (S ⟨(t : ℕ) - 256, by omega⟩) j

end Cert.PrepSpec
-- ==== Proof.PrepRef.lean ====
module

public import proofs.«01_k».proof.Proof.Gen.PrepRefIdeal.Run
public import proofs.«01_k».proof.Proof.PrepRow
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.ShloMosaic.StableHlo Idealize.SL.Sem

/-! The preparation's reference read down to its specification. -/

namespace Cert.PrepRefIdeal.Value
open Cert.PrepRefIdeal Cert.PrepRefIdeal.Gen Cert.PrepSpec

/-- The angles of the latent positions: row number times frequency, then column number times frequency, twice over. -/
def angles : FVec Ideal S2048x64 .f32 :=
  (concatenate S2048x64 1 [⟨S2048x32, (concatenate S2048x32 1 [⟨S2048x16, (mulf (broadcastInDim S2048x16 ![0, 1] bcast_S2048x1_S2048x16_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S2048x16, (mulf (broadcastInDim S2048x16 ![0, 1] bcast_S2048x1_S2048x16_0_1 (broadcastInDim S2048x1 ![0] bcast_S2048_S2048x1_0 (sitofp .f32 (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S2048x16_S2048x16_S2048x32_d1)⟩, ⟨S2048x32, (concatenate S2048x32 1 [⟨S2048x16, (mulf (broadcastInDim S2048x16 ![0, 1] bcast_S2048x1_S2048x16_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S2048x16, (mulf (broadcastInDim S2048x16 ![0, 1] bcast_S2048x1_S2048x16_0_1 (broadcastInDim S2048x1 ![0] bcast_S2048_S2048x1_0 (sitofp .f32 (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S2048x16_S2048x16_S2048x32_d1)⟩] concatenates_S2048x32_S2048x32_S2048x64_d1)

/-- The latent rows with their halves exchanged and the first negated. -/
def swapped (X : FVec Ideal S16x2048x4x2x64 .f32) : FVec Ideal S16x2048x4x2x64 .f32 :=
  concatenate S16x2048x4x2x64 4 [⟨S16x2048x4x2x32, (Host.negf (extractStridedSlice S16x2048x4x2x32 ![0, 0, 0, 0, 32] X slices_S16x2048x4x2x64_S16x2048x4x2x32_0_0_0_0_32))⟩, ⟨S16x2048x4x2x32, (extractStridedSlice S16x2048x4x2x32 ![0, 0, 0, 0, 0] X slices_S16x2048x4x2x64_S16x2048x4x2x32_0_0_0_0_0)⟩] concatenates_S16x2048x4x2x32_S16x2048x4x2x32_S16x2048x4x2x64_d4

/-- A table of the latent positions, spread over batches, heads and halves. -/
def spread (C : FVec Ideal S2048x64 .f32) : FVec Ideal S16x2048x4x2x64 .f32 :=
  broadcastInDim S16x2048x4x2x64 ![0, 1, 2, 3, 4] bcast_S1x2048x1x1x64_S16x2048x4x2x64_0_1_2_3_4 (broadcastInDim S1x2048x1x1x64 ![1, 2, 3, 4] bcast_S2048x1x1x64_S1x2048x1x1x64_1_2_3_4 (broadcastInDim S2048x1x1x64 ![0, 3] bcast_S2048x64_S2048x1x1x64_0_3 C))

/-- The rows, the latent ones rotated, as the reference composes them. -/
def rows (X : FVec Ideal S16x2304x4x2x64 .f32) (C S : FVec Ideal S2048x64 .f32) : FVec Ideal S16x2304x4x2x64 .f32 :=
  concatenate S16x2304x4x2x64 1 [⟨S16x256x4x2x64, (extractStridedSlice S16x256x4x2x64 ![0, 0, 0, 0, 0] X slices_S16x2304x4x2x64_S16x256x4x2x64_0_0_0_0_0)⟩, ⟨S16x2048x4x2x64, (addf (mulf (extractStridedSlice S16x2048x4x2x64 ![0, 256, 0, 0, 0] X slices_S16x2304x4x2x64_S16x2048x4x2x64_0_256_0_0_0) (spread C)) (mulf (swapped (extractStridedSlice S16x2048x4x2x64 ![0, 256, 0, 0, 0] X slices_S16x2304x4x2x64_S16x2048x4x2x64_0_256_0_0_0)) (spread S)))⟩] concatenates_S16x256x4x2x64_S16x2048x4x2x64_S16x2304x4x2x64_d1

/-- The queries, as the reference composes them from their columns. -/
def outQ (P : FVec Ideal S16x2304x512 .f32) (C S : FVec Ideal S2048x64 .f32) : FVec Ideal S16x2304x512 .bf16 :=
  truncf .bf16 (shapeCast _ (mulf (rows (shapeCast _ P shapeCasts_S16x2304x512_S16x2304x4x2x64) C S) (broadcastInDim S16x2304x4x2x64 ![] bcast_S_S16x2304x4x2x64 (constant S_ .f32 0x3E000000#32))) shapeCasts_S16x2304x4x2x64_S16x2304x512) bitsLt_bf16_f32

/-- The keys, as the reference composes them from their columns. -/
def outK (P : FVec Ideal S16x2304x512 .f32) (C S : FVec Ideal S2048x64 .f32) : FVec Ideal S16x2304x512 .bf16 :=
  truncf .bf16 (shapeCast _ (rows (shapeCast _ P shapeCasts_S16x2304x512_S16x2304x4x2x64) C S) shapeCasts_S16x2304x4x2x64_S16x2304x512) bitsLt_bf16_f32

/-- The exchanged halves, entry by entry. -/
theorem swapped_at (X : FVec Ideal S16x2048x4x2x64 .f32) (b : Fin 16) (t : Fin 2048) (h : Fin 4) (s : Fin 2) (l : Fin 64) :
    swapped X (ix5 b t h s l) =
      if hl : (l : ℕ) < 32 then -X (ix5 b t h s ⟨(l : ℕ) + 32, by omega⟩) else X (ix5 b t h s ⟨(l : ℕ) - 32, by omega⟩) := by
  pointwise [swapped]
  split
  · exact congrArg (fun k => -X (ix5 b t h s k)) (Fin.ext (Nat.add_comm _ _))
  · rfl

/-- A spread table, entry by entry. -/
theorem spread_at (C : FVec Ideal S2048x64 .f32) (b : Fin 16) (t : Fin 2048) (h : Fin 4) (s : Fin 2) (l : Fin 64) :
    spread C (ix5 b t h s l) = C (ix2 t l) := by
  pointwise [spread]

/-- The rows in their heads and halves, entry by entry. -/
theorem rows_at (X : FVec Ideal S16x2304x4x2x64 .f32) (C S : FVec Ideal S2048x64 .f32) (b : Fin 16) (t : Fin 2304) (h : Fin 4)
    (s : Fin 2) (l : Fin 64) :
    rows X C S (ix5 b t h s l) =
      if ht : (t : ℕ) < 256 then X (ix5 b t h s l)
      else X (ix5 b t h s l) * C (ix2 ⟨(t : ℕ) - 256, by omega⟩ l) +
        (if hl : (l : ℕ) < 32 then -X (ix5 b t h s ⟨(l : ℕ) + 32, by omega⟩) else X (ix5 b t h s ⟨(l : ℕ) - 32, by omega⟩)) *
          S (ix2 ⟨(t : ℕ) - 256, by omega⟩ l) := by
  pointwise [rows]
  by_cases ht : (t : ℕ) < 256
  · rw [dif_pos ht, dif_pos ht]
  · rw [dif_neg ht, dif_neg ht, spread_at, spread_at, swapped_at]
    have hk : ∀ k : Fin 64, extractStridedSlice S16x2048x4x2x64 ![0, 256, 0, 0, 0] X
        slices_S16x2304x4x2x64_S16x2048x4x2x64_0_256_0_0_0 (ix5 b ⟨(t : ℕ) - 256, by omega⟩ h s k) = X (ix5 b t h s k) := by
      intro k
      refine (show _ = X (ix5 b ⟨256 + ((t : ℕ) - 256), by omega⟩ h s k) by pointwise []).trans ?_
      exact congrArg (fun u => X (ix5 b u h s k)) (Fin.ext (by show 256 + ((t : ℕ) - 256) = t; omega))
    simp only [hk]
    exact congrArg (fun u => X (ix5 b u h s l) * _ + _) (Fin.ext (by show 256 + ((t : ℕ) - 256) = t; omega))

/-- A group of columns seen in its heads and halves, entry by entry. -/
theorem cast_at (P : FVec Ideal S16x2304x512 .f32) (b : Fin 16) (t : Fin 2304) (h : Fin 4) (s : Fin 2) (l : Fin 64) :
    shapeCast S16x2304x4x2x64 P shapeCasts_S16x2304x512_S16x2304x4x2x64 (ix5 b t h s l) =
      P (ix3 b t ⟨(h : ℕ) * 128 + s * 64 + l, by omega⟩) := by
  pointwise []

/-- The rows of a group of columns, entry by entry. -/
theorem rows_cast_at (P : FVec Ideal S16x2304x512 .f32) (C S : FVec Ideal S2048x64 .f32) (b : Fin 16) (t : Fin 2304)
    (j : Fin 512) :
    rows (shapeCast _ P shapeCasts_S16x2304x512_S16x2304x4x2x64) C S
        (ix5 b t ⟨(j : ℕ) / 128, by omega⟩ ⟨(j : ℕ) / 64 % 2, by omega⟩ ⟨(j : ℕ) % 64, by omega⟩) =
      turned (fun k => P (ix3 b t k)) (fun u l => C (ix2 u l)) (fun u l => S (ix2 u l)) t j := by
  have hx : ∀ (n : ℕ) (k : Fin 512) (hn : n < 512), n = k → P (ix3 b t ⟨n, hn⟩) = P (ix3 b t k) := by
    intro n k hn e
    exact congrArg (fun u => P (ix3 b t u)) (Fin.ext e)
  rw [rows_at]
  simp only [cast_at]
  unfold turned rotated
  by_cases ht : (t : ℕ) < 256
  · rw [dif_pos ht, dif_pos ht]
    exact hx _ _ _ (by omega)
  · rw [dif_neg ht, dif_neg ht]
    refine congrArg₂ (· + ·) (congrArg₂ (· * ·) (hx _ _ _ (by omega)) rfl) (congrArg₂ (· * ·) ?_ rfl)
    by_cases hl : (j : ℕ) % 64 < 32
    · rw [dif_pos hl, dif_pos hl]
      exact congrArg (fun u => -u) (hx _ _ _ (by show _ = (j : ℕ) + 32; omega))
    · rw [dif_neg hl, dif_neg hl]
      exact hx _ _ _ (by show _ = (j : ℕ) - 32; omega)

/-- The queries, entry by entry. -/
theorem outQ_at (P : FVec Ideal S16x2304x512 .f32) (C S : FVec Ideal S2048x64 .f32) (b : Fin 16) (t : Fin 2304) (j : Fin 512) :
    outQ P C S (ix3 b t j) =
      turned (fun k => P (ix3 b t k)) (fun u l => C (ix2 u l)) (fun u l => S (ix2 u l)) t j * Ideal.ofBits .f32 0x3E000000#32 := by
  pointwise [outQ]
  rw [rows_cast_at]

/-- The keys, entry by entry. -/
theorem outK_at (P : FVec Ideal S16x2304x512 .f32) (C S : FVec Ideal S2048x64 .f32) (b : Fin 16) (t : Fin 2304) (j : Fin 512) :
    outK P C S (ix3 b t j) = turned (fun k => P (ix3 b t k)) (fun u l => C (ix2 u l)) (fun u l => S (ix2 u l)) t j := by
  pointwise [outK]
  rw [rows_cast_at]

variable (m : (ℓ : Loc nD τ sig) → Buf (Elt Ideal) ℓ)

set_option maxHeartbeats 1600000 in
/-- The first result in stages. -/
theorem res_q (c : Dev nD) :
    res_main_v67 m c = outQ (extractStridedSlice S16x2304x512 ![0, 0, 5632] (m ((c.tc : Thread nD τ).loc main_arg0)) slices_S16x2304x7680_S16x2304x512_0_0_5632) (Host.cos angles) (Host.sin angles) := rfl

set_option maxHeartbeats 1600000 in
/-- The second result in stages. -/
theorem res_k (c : Dev nD) :
    res_main_v68 m c = outK (extractStridedSlice S16x2304x512 ![0, 0, 6144] (m ((c.tc : Thread nD τ).loc main_arg0)) slices_S16x2304x7680_S16x2304x512_0_0_6144) (Host.cos angles) (Host.sin angles) := rfl

end Cert.PrepRefIdeal.Value
-- ==== Proof.PrepValue.lean ====
module

public import proofs.«01_k».proof.Proof.Gen.PrepIdeal.Value
public import proofs.«01_k».proof.Proof.PrepRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrepIdeal.Value
open Cert.PrepIdeal Cert.PrepIdeal.Gen Cert.PrepSpec

/-- The word of minus one. -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]
  norm_num

/-- The word that says so. -/
theorem mask_word : ∀ l : Fin 128, IntOp.cmpi CmpIPredicate.slt
      (Scalar.select
        (IntOp.andi
          (IntOp.xori
            (IntOp.cmpi CmpIPredicate.slt
              (IntOp.remsi ArithUnit.vector (BitVec.ofNat 32 l)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l)
              (Scalar.select (Scalar.cmpi CmpIPredicate.eq 64#32 0#32) 1#32 64#32))
            0#32))
        (IntOp.addi
          (IntOp.remsi ArithUnit.vector (BitVec.ofNat 32 l)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l)
          (Scalar.select (Scalar.cmpi CmpIPredicate.eq 64#32 0#32) 1#32 64#32)))
      32#32 = if (l : ℕ) % 64 < 32 then 1#1 else 0#1 := by decide +kernel

/-- The word that tells the lanes of a first half by comparison. -/
theorem sign_word : ∀ l : Fin 128, IntOp.cmpi CmpIPredicate.slt (BitVec.ofNat 32 ((l : ℕ) % 64)) 32#32 =
    if (l : ℕ) % 64 < 32 then 1#1 else 0#1 := by decide +kernel

/-- A choice by such a word is a choice by the lane. -/
theorem select_lane {α : Type} (p : Prop) [Decidable p] (a b : α) :
    Scalar.select (if p then 1#1 else 0#1) a b = if p then a else b := by
  split <;> rfl

/-- The lanes whose partner lies above: those in the first half of their group of 64. -/
theorem mask_at (r : Fin 256) (l : Fin 128) :
    k0_pay6 (ix2 r l) = if (l : ℕ) % 64 < 32 then 1#1 else 0#1 := by
  pointwise [k0_pay6]
  exact mask_word l

/-- Lane `l` of a head's row as the body turns it, of the row and the two tables' rows. -/
def lanes (x C S : Fin 128 → EReal) (l : Fin 128) : EReal :=
  x l * C l + (if (l : ℕ) % 64 < 32 then x ⟨((l : ℕ) + 32) % 128, by omega⟩ else x ⟨((l : ℕ) + 96) % 128, by omega⟩) * S l

/-- What the body stores of a head's queries, entry by entry. -/
theorem payQ_at (c s : FVec Ideal S256x128 .f32) (x : Vec Ideal S1x256x128 .f32) (r : Fin 256) (l : Fin 128) :
    k0_pay9 c s k0_pay6 x (ix3 0 r l) =
      lanes (fun k => x (ix3 0 r k)) (fun k => c (ix2 r k)) (fun k => s (ix2 r k)) l * Ideal.ofBits .f32 0x3E000000#32 := by
  pointwise [k0_pay9]
  rw [mask_at, select_lane]
  rfl

/-- What the body stores of a head's keys, entry by entry. -/
theorem payK_at (c s : FVec Ideal S256x128 .f32) (x : Vec Ideal S1x256x128 .f32) (r : Fin 256) (l : Fin 128) :
    k0_pay13 c s k0_pay6 x (ix3 0 r l) =
      lanes (fun k => x (ix3 0 r k)) (fun k => c (ix2 r k)) (fun k => s (ix2 r k)) l := by
  pointwise [k0_pay13]
  rw [mask_at, select_lane]
  rfl

variable (m : (ℓ : Loc nD τ sig) → Buf (Elt Ideal) ℓ)

/-- The cosine table of all rows: ones for the context rows, the latent positions' cosines twice over. -/
def tableC (A : FVec Ideal S2048x64 .f32) : FVec Ideal S2304x128 .f32 :=
  concatenate S2304x128 0 [⟨S256x128, broadcastInDim S256x128 ![] bcast_S_S256x128 (constant S_ .f32 0x3F800000#32)⟩,
    ⟨S2048x128, shapeCast _ (broadcastInDim S1x2048x2x64 ![0, 1, 2, 3] bcast_S1x2048x1x64_S1x2048x2x64_0_1_2_3
      (shapeCast _ (Host.cos A) shapeCasts_S2048x64_S1x2048x1x64)) shapeCasts_S1x2048x2x64_S2048x128⟩]
    concatenates_S256x128_S2048x128_S2304x128_d0

/-- The sine table of all rows: zeros for the context rows, the latent positions' signed sines twice over. -/
def tableS (A : FVec Ideal S2048x64 .f32) : FVec Ideal S2304x128 .f32 :=
  concatenate S2304x128 0 [⟨S256x128, broadcastInDim S256x128 ![] bcast_S_S256x128 (constant S_ .f32 0x00000000#32)⟩,
    ⟨S2048x128, shapeCast _ (broadcastInDim S1x2048x2x64 ![0, 1, 2, 3] bcast_S1x2048x1x64_S1x2048x2x64_0_1_2_3
      (shapeCast _ (mulf (Host.sin A) (broadcastInDim S2048x64 ![0, 1] bcast_S1x64_S2048x64_0_1
        (broadcastInDim S1x64 ![1] bcast_S64_S1x64_1
          (select (cmpi .slt (iotaInDim S64 32 0) (broadcastInDim S64 ![] bcast_S_S64 (constantI S_ 32 32#32)))
            (broadcastInDim S64 ![] bcast_S_S64 (constant S_ .f32 0xBF800000#32))
            (broadcastInDim S64 ![] bcast_S_S64 (constant S_ .f32 0x3F800000#32))))))
        shapeCasts_S2048x64_S1x2048x1x64)) shapeCasts_S1x2048x2x64_S2048x128⟩]
    concatenates_S256x128_S2048x128_S2304x128_d0

/-- The cosine table, entry by entry. -/
theorem tableC_at (A : FVec Ideal S2048x64 .f32) (t : Fin 2304) (l : Fin 128) :
    tableC A (ix2 t l) = if h : (t : ℕ) < 256 then 1
      else Host.cos A (ix2 ⟨(t : ℕ) - 256, by omega⟩ ⟨(l : ℕ) % 64, by omega⟩) := by
  pointwise [tableC]

/-- The sine table, entry by entry. -/
theorem tableS_at (A : FVec Ideal S2048x64 .f32) (t : Fin 2304) (l : Fin 128) :
    tableS A (ix2 t l) = if h : (t : ℕ) < 256 then 0
      else Host.sin A (ix2 ⟨(t : ℕ) - 256, by omega⟩ ⟨(l : ℕ) % 64, by omega⟩) * (if (l : ℕ) % 64 < 32 then -1 else 1) := by
  pointwise [tableS]
  rw [sign_word, select_lane, ofBits_neg_one]

/-- Two halves of a row's frequencies set side by side. -/
def cat32 (a b : FVec Ideal S2048x16 .f32) : FVec Ideal S2048x32 .f32 :=
  concatenate S2048x32 1 [⟨S2048x16, a⟩, ⟨S2048x16, b⟩] concatenates_S2048x16_S2048x16_S2048x32_d1

/-- Two copies of a row's angles set side by side. -/
def cat64 (a b : FVec Ideal S2048x32 .f32) : FVec Ideal S2048x64 .f32 :=
  concatenate S2048x64 1 [⟨S2048x32, a⟩, ⟨S2048x32, b⟩] concatenates_S2048x32_S2048x32_S2048x64_d1

/-- The context rows above the latent ones. -/
def catT (a : FVec Ideal S256x128 .f32) (b : FVec Ideal S2048x128 .f32) : FVec Ideal S2304x128 .f32 :=
  concatenate S2304x128 0 [⟨S256x128, a⟩, ⟨S2048x128, b⟩] concatenates_S256x128_S2048x128_S2304x128_d0

/-- The printed form of `cat32`. -/
theorem fold32 (a b : FVec Ideal S2048x16 .f32) : concatenate S2048x32 1 [⟨S2048x16, a⟩, ⟨S2048x16, b⟩]
    concatenates_S2048x16_S2048x16_S2048x32_d1 = cat32 a b := rfl

/-- The printed form of `cat64`. -/
theorem fold64 (a b : FVec Ideal S2048x32 .f32) : concatenate S2048x64 1 [⟨S2048x32, a⟩, ⟨S2048x32, b⟩]
    concatenates_S2048x32_S2048x32_S2048x64_d1 = cat64 a b := rfl

/-- The printed form of `catT`. -/
theorem foldT (a : FVec Ideal S256x128 .f32) (b : FVec Ideal S2048x128 .f32) : concatenate S2304x128 0
    [⟨S256x128, a⟩, ⟨S2048x128, b⟩] concatenates_S256x128_S2048x128_S2304x128_d0 = catT a b := rfl

/-- The cosine table as the launch computes it. -/
theorem tableC_eq (c : Dev nD) : (V m c main_v41 : S2304x128.Idx → EReal) = tableC Cert.PrepRefIdeal.Value.angles := by
  unfold V
  after_reads_simp
  rw [foldT]
  after_reads_simp
  rw [fold64]
  after_reads_simp
  rw [fold32]
  after_reads_simp
  unfold tableC Cert.PrepRefIdeal.Value.angles catT cat64 cat32
  rfl

/-- The sine table as the launch computes it. -/
theorem tableS_eq (c : Dev nD) : (V m c main_v43 : S2304x128.Idx → EReal) = tableS Cert.PrepRefIdeal.Value.angles := by
  unfold V
  after_reads_simp
  rw [foldT]
  after_reads_simp
  rw [fold64]
  after_reads_simp
  rw [fold32]
  after_reads_simp
  unfold tableS Cert.PrepRefIdeal.Value.angles catT cat64 cat32
  rfl

/-- The body's lanes of head `h`, over the tables' rows, are the row's columns turned. -/
theorem lanes_turned (x : Fin 512 → EReal) (C S : Fin 2048 → Fin 64 → EReal) (t : Fin 2304) (h : ℕ) (hh : h < 4)
    (l : Fin 128) (j : Fin 512) (hj : (j : ℕ) = h * 128 + l) :
    lanes (fun k => x ⟨h * 128 + k, by omega⟩)
      (fun k => if ht : (t : ℕ) < 256 then 1 else C ⟨(t : ℕ) - 256, by omega⟩ ⟨(k : ℕ) % 64, by omega⟩)
      (fun k => if ht : (t : ℕ) < 256 then 0
        else S ⟨(t : ℕ) - 256, by omega⟩ ⟨(k : ℕ) % 64, by omega⟩ * (if (k : ℕ) % 64 < 32 then -1 else 1)) l =
      turned x C S t j := by
  have hx : ∀ (n : ℕ) (k : Fin 512) (hn : n < 512), n = k → x ⟨n, hn⟩ = x k := by
    intro n k hn e
    exact congrArg x (Fin.ext e)
  have hl : (⟨(l : ℕ) % 64, by omega⟩ : Fin 64) = ⟨(j : ℕ) % 64, by omega⟩ := Fin.ext (by show (l : ℕ) % 64 = (j : ℕ) % 64; omega)
  unfold lanes turned rotated
  by_cases ht : (t : ℕ) < 256
  · simp only [dif_pos ht, mul_one, mul_zero, add_zero]
    exact hx _ _ _ hj.symm
  · simp only [dif_neg ht, hl]
    refine congrArg₂ (· + ·) (congrArg₂ (· * ·) (hx _ _ _ hj.symm) rfl) ?_
    by_cases hs : (l : ℕ) % 64 < 32
    · rw [if_pos hs, if_pos hs, dif_pos (show (j : ℕ) % 64 < 32 by omega),
        hx _ ⟨(j : ℕ) + 32, by omega⟩ _ (by show h * 128 + ((l : ℕ) + 32) % 128 = (j : ℕ) + 32; omega),
        mul_neg, mul_one, mul_neg, neg_mul]
    · rw [if_neg hs, if_neg hs, dif_neg (show ¬ (j : ℕ) % 64 < 32 by omega),
        hx _ ⟨(j : ℕ) - 32, by omega⟩ _ (by show h * 128 + ((l : ℕ) + 96) % 128 = (j : ℕ) - 32; omega), mul_one]

/-- Row `r`, column `j` of a block of columns as the body turns it with its tables' blocks. -/
def block (X : S1x256x512.Idx → EReal) (c s : S256x128.Idx → EReal) (r : Fin 256) (j : Fin 512) : EReal :=
  lanes (fun k => X (ix3 0 r ⟨(j : ℕ) / 128 * 128 + k, by omega⟩)) (fun k => c (ix2 r k)) (fun k => s (ix2 r k))
    ⟨(j : ℕ) % 128, by omega⟩

/-- A head of the block, from the block's columns there. -/
theorem block_head (X : S1x256x512.Idx → EReal) (c s : S256x128.Idx → EReal) (h : ℕ) (hh : h < 4) (r : Fin 256)
    (l : Fin 128) (j : Fin 512) (hj : (j : ℕ) = h * 128 + l) :
    lanes (fun k => X (ix3 0 r ⟨h * 128 + k, by omega⟩)) (fun k => c (ix2 r k)) (fun k => s (ix2 r k)) l =
      block X c s r j := by
  obtain rfl : h = (j : ℕ) / 128 := by omega
  exact congrArg (lanes _ _ _) (Fin.ext (by show (l : ℕ) = (j : ℕ) % 128; omega))

/-- One stored piece of the queries' block. -/
theorem pieceQ (X : Vec Ideal S1x256x512 .f32) (c s : Vec Ideal S256x128 .f32) (x : Vec Ideal S1x256x128 .f32) (h : ℕ)
    (hh : h < 4) (hx : ∀ (r : Fin 256) (k : Fin 128), x (ix3 0 r k) = X (ix3 0 r ⟨h * 128 + k, by omega⟩))
    (y : S1x256x128.Idx) (r : Fin 256) (j : Fin 512) (hr : (r : ℕ) = y 1) (hj : (j : ℕ) = h * 128 + y 2) :
    k0_pay9 (k0_pay4 (View.ld c r0_0)) (k0_pay5 (View.ld s r0_0)) k0_pay6 x y =
      block X c s r j * Ideal.ofBits .f32 0x3E000000#32 := by
  obtain rfl : r = y 1 := Fin.ext hr
  have hy : y = (ix3 0 (y 1) (y 2) : S1x256x128.Idx) :=
    (eq_ix3 (n0 := 1) (n1 := 256) (n2 := 128) y).trans (by rw [Subsingleton.elim (α := Fin 1) (y 0) 0])
  have hc : ∀ k : Fin 128, k0_pay4 (View.ld c r0_0) (ix2 (y 1) k) = c (ix2 (y 1) k) := fun k => by pointwise [k0_pay4]
  have hs : ∀ k : Fin 128, k0_pay5 (View.ld s r0_0) (ix2 (y 1) k) = s (ix2 (y 1) k) := fun k => by pointwise [k0_pay5]
  refine (congrArg _ hy).trans ((payQ_at _ _ _ (y 1) (y 2)).trans ?_)
  have hX : ∀ k : Fin 128, x (ix3 0 (y 1) k) = X (ix3 0 (y 1) ⟨h * 128 + k, by omega⟩) := fun k => hx (y 1) k
  simp only [hc, hs, hX]
  exact congrArg (· * _) (block_head X c s h hh (y 1) (y 2) j hj)

/-- One stored piece of the keys' block. -/
theorem pieceK (X : Vec Ideal S1x256x512 .f32) (c s : Vec Ideal S256x128 .f32) (x : Vec Ideal S1x256x128 .f32) (h : ℕ)
    (hh : h < 4) (hx : ∀ (r : Fin 256) (k : Fin 128), x (ix3 0 r k) = X (ix3 0 r ⟨h * 128 + k, by omega⟩))
    (y : S1x256x128.Idx) (r : Fin 256) (j : Fin 512) (hr : (r : ℕ) = y 1) (hj : (j : ℕ) = h * 128 + y 2) :
    k0_pay13 (k0_pay4 (View.ld c r0_0)) (k0_pay5 (View.ld s r0_0)) k0_pay6 x y = block X c s r j := by
  obtain rfl : r = y 1 := Fin.ext hr
  have hy : y = (ix3 0 (y 1) (y 2) : S1x256x128.Idx) :=
    (eq_ix3 (n0 := 1) (n1 := 256) (n2 := 128) y).trans (by rw [Subsingleton.elim (α := Fin 1) (y 0) 0])
  have hc : ∀ k : Fin 128, k0_pay4 (View.ld c r0_0) (ix2 (y 1) k) = c (ix2 (y 1) k) := fun k => by pointwise [k0_pay4]
  have hs : ∀ k : Fin 128, k0_pay5 (View.ld s r0_0) (ix2 (y 1) k) = s (ix2 (y 1) k) := fun k => by pointwise [k0_pay5]
  refine (congrArg _ hy).trans ((payK_at _ _ _ (y 1) (y 2)).trans ?_)
  have hX : ∀ k : Fin 128, x (ix3 0 (y 1) k) = X (ix3 0 (y 1) ⟨h * 128 + k, by omega⟩) := fun k => hx (y 1) k
  simp only [hc, hs, hX]
  exact block_head X c s h hh (y 1) (y 2) j hj

/-- The queries' block after the body, entry by entry. -/
theorem out5_at (x0 x1 x2 : Vec Ideal S1x256x512 .f32) (x3 x4 : Vec Ideal S256x128 .f32) (y : S1x256x512.Idx) :
    out0_5 x0 x1 x2 x3 x4 y = block x0 x3 x4 (y 1) (y 2) * Ideal.ofBits .f32 0x3E000000#32 := by
  unfold_out out0_5
  refine View.canon_apply_of_pieces (Val := Elt Ideal) (fun y => block x0 x3 x4 (y 1) (y 2) * Ideal.ofBits .f32 0x3E000000#32) _ ?_ y (cover0_5 _ _ _ _ y)
  intro pc hpc
  rcases List.mem_cons.mp hpc with rfl | hpc
  · intro x
    exact pieceQ x0 x3 x4 (View.ld x0 r0_4) 3 (by decide) (fun r k => by pointwise []) x _ _
      (by show 0 + 1 * (x 1 : ℕ) = x 1; omega) (by show 384 + 1 * (x 2 : ℕ) = 3 * 128 + x 2; omega)
  rcases List.mem_cons.mp hpc with rfl | hpc
  · intro x
    exact pieceQ x0 x3 x4 (View.ld x0 r0_3) 2 (by decide) (fun r k => by pointwise []) x _ _
      (by show 0 + 1 * (x 1 : ℕ) = x 1; omega) (by show 256 + 1 * (x 2 : ℕ) = 2 * 128 + x 2; omega)
  rcases List.mem_cons.mp hpc with rfl | hpc
  · intro x
    exact pieceQ x0 x3 x4 (View.ld x0 r0_2) 1 (by decide) (fun r k => by pointwise []) x _ _
      (by show 0 + 1 * (x 1 : ℕ) = x 1; omega) (by show 128 + 1 * (x 2 : ℕ) = 1 * 128 + x 2; omega)
  rcases List.mem_cons.mp hpc with rfl | hpc
  · intro x
    exact pieceQ x0 x3 x4 (View.ld x0 r0_1) 0 (by decide) (fun r k => by pointwise []) x _ _
      (by show 0 + 1 * (x 1 : ℕ) = x 1; omega) (by show 0 + 1 * (x 2 : ℕ) = 0 * 128 + x 2; omega)
  nomatch hpc

/-- The keys' block after the body, entry by entry. -/
theorem out6_at (x0 x1 x2 : Vec Ideal S1x256x512 .f32) (x3 x4 : Vec Ideal S256x128 .f32) (y : S1x256x512.Idx) :
    out0_6 x0 x1 x2 x3 x4 y = block x1 x3 x4 (y 1) (y 2) := by
  unfold_out out0_6
  refine View.canon_apply_of_pieces (Val := Elt Ideal) (fun y => block x1 x3 x4 (y 1) (y 2)) _ ?_ y (cover0_6 _ _ _ _ y)
  intro pc hpc
  rcases List.mem_cons.mp hpc with rfl | hpc
  · intro x
    exact pieceK x1 x3 x4 (View.ld x1 r0_4) 3 (by decide) (fun r k => by pointwise []) x _ _
      (by show 0 + 1 * (x 1 : ℕ) = x 1; omega) (by show 384 + 1 * (x 2 : ℕ) = 3 * 128 + x 2; omega)
  rcases List.mem_cons.mp hpc with rfl | hpc
  · intro x
    exact pieceK x1 x3 x4 (View.ld x1 r0_3) 2 (by decide) (fun r k => by pointwise []) x _ _
      (by show 0 + 1 * (x 1 : ℕ) = x 1; omega) (by show 256 + 1 * (x 2 : ℕ) = 2 * 128 + x 2; omega)
  rcases List.mem_cons.mp hpc with rfl | hpc
  · intro x
    exact pieceK x1 x3 x4 (View.ld x1 r0_2) 1 (by decide) (fun r k => by pointwise []) x _ _
      (by show 0 + 1 * (x 1 : ℕ) = x 1; omega) (by show 128 + 1 * (x 2 : ℕ) = 1 * 128 + x 2; omega)
  rcases List.mem_cons.mp hpc with rfl | hpc
  · intro x
    exact pieceK x1 x3 x4 (View.ld x1 r0_1) 0 (by decide) (fun r k => by pointwise []) x _ _
      (by show 0 + 1 * (x 1 : ℕ) = x 1; omega) (by show 0 + 1 * (x 2 : ℕ) = 0 * 128 + x 2; omega)
  nomatch hpc

/-- Where each window's block lies at grid point `t`: batch `t / 9`, row tile `t % 9`. -/
theorem idx : ∀ t : Fin cfg0.N, win0_0.index t = ![t.val / 9, t.val % 9, 11] ∧
    win0_1.index t = ![t.val / 9, t.val % 9, 12] ∧ win0_2.index t = ![t.val / 9, t.val % 9, 13] ∧
    win0_3.index t = ![t.val % 9, 0] ∧ win0_4.index t = ![t.val % 9, 0] ∧
    win0_5.index t = ![t.val / 9, t.val % 9, 0] ∧ win0_6.index t = ![t.val / 9, t.val % 9, 0] ∧
    win0_7.index t = ![t.val / 9, t.val % 9, 0] :=
  (by decide +kernel : ∀ t : Fin grid0.N, _)

/-- The block of queries, entry by entry. -/
theorem query_at (c : Dev nD) (t : Fin cfg0.N) (r : Fin 256) (k : Fin 512) (b : Fin 16) (rw : Fin 2304)
    (hb : (b : ℕ) = t.val / 9) (hr : (rw : ℕ) = t.val % 9 * 256 + r) :
    iblk m c 0 t (ix3 0 r k) =
      (m ((c.tc : Thread nD τ).loc main_arg0) : S16x2304x7680.Idx → EReal) (ix3 b rw ⟨5632 + k, by omega⟩) := by
  blk_point [iblk, idx t, V]

/-- The block of keys, entry by entry. -/
theorem key_at (c : Dev nD) (t : Fin cfg0.N) (r : Fin 256) (k : Fin 512) (b : Fin 16) (rw : Fin 2304)
    (hb : (b : ℕ) = t.val / 9) (hr : (rw : ℕ) = t.val % 9 * 256 + r) :
    iblk m c 1 t (ix3 0 r k) =
      (m ((c.tc : Thread nD τ).loc main_arg0) : S16x2304x7680.Idx → EReal) (ix3 b rw ⟨6144 + k, by omega⟩) := by
  blk_point [iblk, idx t, V]

/-- The block of values, entry by entry. -/
theorem value_at (c : Dev nD) (t : Fin cfg0.N) (r : Fin 256) (k : Fin 512) (b : Fin 16) (rw : Fin 2304)
    (hb : (b : ℕ) = t.val / 9) (hr : (rw : ℕ) = t.val % 9 * 256 + r) :
    iblk m c 2 t (ix3 0 r k) =
      (m ((c.tc : Thread nD τ).loc main_arg0) : S16x2304x7680.Idx → EReal) (ix3 b rw ⟨6656 + k, by omega⟩) := by
  blk_point [iblk, idx t, V]

/-- The block of the cosine table, entry by entry. -/
theorem cos_at (c : Dev nD) (t : Fin cfg0.N) (r : Fin 256) (l : Fin 128) (rw : Fin 2304)
    (hr : (rw : ℕ) = t.val % 9 * 256 + r) :
    iblk m c 3 t (ix2 r l) = tableC Cert.PrepRefIdeal.Value.angles (ix2 rw l) :=
  (show _ = (V m c main_v41 : S2304x128.Idx → EReal) (ix2 rw l) by blk_point [iblk, idx t]).trans
    (congrFun (tableC_eq m c) _)

/-- The block of the sine table, entry by entry. -/
theorem sin_at (c : Dev nD) (t : Fin cfg0.N) (r : Fin 256) (l : Fin 128) (rw : Fin 2304)
    (hr : (rw : ℕ) = t.val % 9 * 256 + r) :
    iblk m c 4 t (ix2 r l) = tableS Cert.PrepRefIdeal.Value.angles (ix2 rw l) :=
  (show _ = (V m c main_v43 : S2304x128.Idx → EReal) (ix2 rw l) by blk_point [iblk, idx t]).trans
    (congrFun (tableS_eq m c) _)

/-- Entry (`b`, `t`, `j`) of the queries, of the whole projection. -/
def queryCol (P : S16x2304x7680.Idx → EReal) (b : Fin 16) (t : Fin 2304) (j : Fin 512) : EReal :=
  turned (fun k => P (ix3 b t ⟨5632 + k, by omega⟩)) (fun u l => Host.cos Cert.PrepRefIdeal.Value.angles (ix2 u l))
    (fun u l => Host.sin Cert.PrepRefIdeal.Value.angles (ix2 u l)) t j * Ideal.ofBits .f32 0x3E000000#32

/-- Entry (`b`, `t`, `j`) of the keys, of the whole projection. -/
def keyCol (P : S16x2304x7680.Idx → EReal) (b : Fin 16) (t : Fin 2304) (j : Fin 512) : EReal :=
  turned (fun k => P (ix3 b t ⟨6144 + k, by omega⟩)) (fun u l => Host.cos Cert.PrepRefIdeal.Value.angles (ix2 u l))
    (fun u l => Host.sin Cert.PrepRefIdeal.Value.angles (ix2 u l)) t j

/-- Entry (`b`, `t`, `j`) of the values, of the whole projection. -/
def valueCol (P : S16x2304x7680.Idx → EReal) (b : Fin 16) (t : Fin 2304) (j : Fin 512) : EReal :=
  P (ix3 b t ⟨6656 + j, by omega⟩)

/-- A block that is turned with the tables' rows of its row is the row turned. -/
theorem block_turned (X : S1x256x512.Idx → EReal) (C S : S256x128.Idx → EReal) (A : FVec Ideal S2048x64 .f32) (x : Fin 512 → EReal)
    (r : Fin 256) (t : Fin 2304) (j : Fin 512) (hX : ∀ k : Fin 512, X (ix3 0 r k) = x k)
    (hC : ∀ l : Fin 128, C (ix2 r l) = tableC A (ix2 t l)) (hS : ∀ l : Fin 128, S (ix2 r l) = tableS A (ix2 t l)) :
    block X C S r j = turned x (fun u l => Host.cos A (ix2 u l)) (fun u l => Host.sin A (ix2 u l)) t j := by
  refine Eq.trans ?_ (lanes_turned x (fun u l => Host.cos A (ix2 u l)) (fun u l => Host.sin A (ix2 u l)) t ((j : ℕ) / 128)
    (by omega) ⟨(j : ℕ) % 128, by omega⟩ j (by show (j : ℕ) = (j : ℕ) / 128 * 128 + (j : ℕ) % 128; omega))
  unfold block
  simp only [hX, hC, hS, tableC_at, tableS_at]

/-- The values' block after the body, entry by entry. -/
theorem out7_at (x0 x1 x2 : Vec Ideal S1x256x512 .f32) (x3 x4 : Vec Ideal S256x128 .f32) (r : Fin 256) (k : Fin 512) :
    out0_7 x0 x1 x2 x3 x4 (ix3 0 r k) = x2 (ix3 0 r k) := by
  unfold_out out0_7
  refine (canon7_eq _ _).trans ?_
  pointwise []

/-- The queries block at a grid point is the queries there. -/
theorem point5 (c : Dev nD) (t : Fin cfg0.N) (r : Fin 256) (k : Fin 512) (b : Fin 16) (rw : Fin 2304) (cl : Fin 512)
    (hb : (b : ℕ) = t.val / 9) (hr : (rw : ℕ) = t.val % 9 * 256 + r) (hc : (cl : ℕ) = 0 * 512 + k) :
    out0_5 (iblk m c 0 t) (iblk m c 1 t) (iblk m c 2 t) (iblk m c 3 t) (iblk m c 4 t) (ix3 0 r k) =
      queryCol (m ((c.tc : Thread nD τ).loc main_arg0)) b rw cl := by
  obtain rfl : cl = k := Fin.ext (by omega)
  refine (out5_at _ _ _ _ _ _).trans ?_
  exact congrArg (· * _) (block_turned _ _ _ _ _ r rw cl (fun k => query_at m c t r k b rw hb hr)
    (fun l => cos_at m c t r l rw hr) (fun l => sin_at m c t r l rw hr))

/-- The kernel's array of queries, entry by entry. -/
theorem final5 (c : Dev nD) : (dats m 0 c).arrAt 5 cfg0.N = fun j : S16x2304x512.Idx =>
    queryCol (m ((c.tc : Thread nD τ).loc main_arg0)) (j 0) (j 1) (j 2) := by
  refine (dats m 0 c).arrAt_eq_of_covers 5 _ (by decide +kernel) fun t _ y => ?_
  have e0 : (((cfg0.win 5).blk t).view.emb y 0 : ℕ) = t.val / 9 := by blk_simp [idx t]
  have e1 : (((cfg0.win 5).blk t).view.emb y 1 : ℕ) = t.val % 9 * 256 + y 1 := by blk_simp [idx t]
  have e2 : (((cfg0.win 5).blk t).view.emb y 2 : ℕ) = 0 * 512 + y 2 := by blk_simp [idx t]
  have hy : y = (ix3 0 (y 1) (y 2) : S1x256x512.Idx) :=
    (eq_ix3 (n0 := 1) (n1 := 256) (n2 := 512) y).trans (by rw [Subsingleton.elim (α := Fin 1) (y 0) 0])
  blk_simp
  rw [after0_5]
  exact (congrArg _ hy).trans (point5 m c t (y 1) (y 2) _ _ _ e0 e1 e2)

/-- The keys block at a grid point is the keys there. -/
theorem point6 (c : Dev nD) (t : Fin cfg0.N) (r : Fin 256) (k : Fin 512) (b : Fin 16) (rw : Fin 2304) (cl : Fin 512)
    (hb : (b : ℕ) = t.val / 9) (hr : (rw : ℕ) = t.val % 9 * 256 + r) (hc : (cl : ℕ) = 0 * 512 + k) :
    out0_6 (iblk m c 0 t) (iblk m c 1 t) (iblk m c 2 t) (iblk m c 3 t) (iblk m c 4 t) (ix3 0 r k) =
      keyCol (m ((c.tc : Thread nD τ).loc main_arg0)) b rw cl := by
  obtain rfl : cl = k := Fin.ext (by omega)
  refine (out6_at _ _ _ _ _ _).trans ?_
  exact block_turned _ _ _ _ _ r rw cl (fun k => key_at m c t r k b rw hb hr)
    (fun l => cos_at m c t r l rw hr) (fun l => sin_at m c t r l rw hr)

/-- The kernel's array of keys, entry by entry. -/
theorem final6 (c : Dev nD) : (dats m 0 c).arrAt 6 cfg0.N = fun j : S16x2304x512.Idx =>
    keyCol (m ((c.tc : Thread nD τ).loc main_arg0)) (j 0) (j 1) (j 2) := by
  refine (dats m 0 c).arrAt_eq_of_covers 6 _ (by decide +kernel) fun t _ y => ?_
  have e0 : (((cfg0.win 6).blk t).view.emb y 0 : ℕ) = t.val / 9 := by blk_simp [idx t]
  have e1 : (((cfg0.win 6).blk t).view.emb y 1 : ℕ) = t.val % 9 * 256 + y 1 := by blk_simp [idx t]
  have e2 : (((cfg0.win 6).blk t).view.emb y 2 : ℕ) = 0 * 512 + y 2 := by blk_simp [idx t]
  have hy : y = (ix3 0 (y 1) (y 2) : S1x256x512.Idx) :=
    (eq_ix3 (n0 := 1) (n1 := 256) (n2 := 512) y).trans (by rw [Subsingleton.elim (α := Fin 1) (y 0) 0])
  blk_simp
  rw [after0_6]
  exact (congrArg _ hy).trans (point6 m c t (y 1) (y 2) _ _ _ e0 e1 e2)

/-- The values block at a grid point is the values there. -/
theorem point7 (c : Dev nD) (t : Fin cfg0.N) (r : Fin 256) (k : Fin 512) (b : Fin 16) (rw : Fin 2304) (cl : Fin 512)
    (hb : (b : ℕ) = t.val / 9) (hr : (rw : ℕ) = t.val % 9 * 256 + r) (hc : (cl : ℕ) = 0 * 512 + k) :
    out0_7 (iblk m c 0 t) (iblk m c 1 t) (iblk m c 2 t) (iblk m c 3 t) (iblk m c 4 t) (ix3 0 r k) =
      valueCol (m ((c.tc : Thread nD τ).loc main_arg0)) b rw cl := by
  obtain rfl : cl = k := Fin.ext (by omega)
  refine (out7_at _ _ _ _ _ _ _).trans ?_
  exact value_at m c t r cl b rw hb hr

/-- The kernel's array of values, entry by entry. -/
theorem final7 (c : Dev nD) : (dats m 0 c).arrAt 7 cfg0.N = fun j : S16x2304x512.Idx =>
    valueCol (m ((c.tc : Thread nD τ).loc main_arg0)) (j 0) (j 1) (j 2) := by
  refine (dats m 0 c).arrAt_eq_of_covers 7 _ (by decide +kernel) fun t _ y => ?_
  have e0 : (((cfg0.win 7).blk t).view.emb y 0 : ℕ) = t.val / 9 := by blk_simp [idx t]
  have e1 : (((cfg0.win 7).blk t).view.emb y 1 : ℕ) = t.val % 9 * 256 + y 1 := by blk_simp [idx t]
  have e2 : (((cfg0.win 7).blk t).view.emb y 2 : ℕ) = 0 * 512 + y 2 := by blk_simp [idx t]
  have hy : y = (ix3 0 (y 1) (y 2) : S1x256x512.Idx) :=
    (eq_ix3 (n0 := 1) (n1 := 256) (n2 := 512) y).trans (by rw [Subsingleton.elim (α := Fin 1) (y 0) 0])
  blk_simp
  rw [after0_7]
  exact (congrArg _ hy).trans (point7 m c t (y 1) (y 2) _ _ _ e0 e1 e2)

/-- The reference's queries, entry by entry. -/
theorem ref_query (P : FVec Ideal Cert.PrepRefIdeal.S16x2304x7680 .f32) (b : Fin 16) (t : Fin 2304) (j : Fin 512) :
    Cert.PrepRefIdeal.Value.outQ (extractStridedSlice Cert.PrepRefIdeal.S16x2304x512 ![0, 0, 5632] P Cert.PrepRefIdeal.Gen.slices_S16x2304x7680_S16x2304x512_0_0_5632)
      (Host.cos Cert.PrepRefIdeal.Value.angles) (Host.sin Cert.PrepRefIdeal.Value.angles) (ix3 b t j) = queryCol P b t j := by
  have h : ∀ k : Fin 512, extractStridedSlice Cert.PrepRefIdeal.S16x2304x512 ![0, 0, 5632] P
      Cert.PrepRefIdeal.Gen.slices_S16x2304x7680_S16x2304x512_0_0_5632 (ix3 b t k) = P (ix3 b t ⟨5632 + k, by omega⟩) := fun k => by pointwise []
  refine (Cert.PrepRefIdeal.Value.outQ_at _ _ _ _ _ _).trans ?_
  simp only [h]
  rfl

/-- The reference's keys, entry by entry. -/
theorem ref_key (P : FVec Ideal Cert.PrepRefIdeal.S16x2304x7680 .f32) (b : Fin 16) (t : Fin 2304) (j : Fin 512) :
    Cert.PrepRefIdeal.Value.outK (extractStridedSlice Cert.PrepRefIdeal.S16x2304x512 ![0, 0, 6144] P Cert.PrepRefIdeal.Gen.slices_S16x2304x7680_S16x2304x512_0_0_6144)
      (Host.cos Cert.PrepRefIdeal.Value.angles) (Host.sin Cert.PrepRefIdeal.Value.angles) (ix3 b t j) = keyCol P b t j := by
  have h : ∀ k : Fin 512, extractStridedSlice Cert.PrepRefIdeal.S16x2304x512 ![0, 0, 6144] P
      Cert.PrepRefIdeal.Gen.slices_S16x2304x7680_S16x2304x512_0_0_6144 (ix3 b t k) = P (ix3 b t ⟨6144 + k, by omega⟩) := fun k => by pointwise []
  refine (Cert.PrepRefIdeal.Value.outK_at _ _ _ _ _ _).trans ?_
  simp only [h]
  rfl

/-- The reference's values, entry by entry. -/
theorem ref_value (P : FVec Ideal Cert.PrepRefIdeal.S16x2304x7680 .f32) (b : Fin 16) (t : Fin 2304) (j : Fin 512) :
    truncf .bf16 (extractStridedSlice Cert.PrepRefIdeal.S16x2304x512 ![0, 0, 6656] P Cert.PrepRefIdeal.Gen.slices_S16x2304x7680_S16x2304x512_0_0_6656)
      Cert.PrepRefIdeal.Gen.bitsLt_bf16_f32 (ix3 b t j) = valueCol P b t j := by
  pointwise [valueCol]

end Cert.PrepIdeal.Value
-- ==== Proof.Algebraic.lean ====
module

public import proofs.«01_k».proof.Defs
public import proofs.«01_k».proof.Proof.AdaValue
public import proofs.«01_k».proof.Proof.AttnValue
public import proofs.«01_k».proof.Proof.FinalValue
public import proofs.«01_k».proof.Proof.FourierValue
public import proofs.«01_k».proof.Proof.InprojValue
public import proofs.«01_k».proof.Proof.MergeRef
public import proofs.«01_k».proof.Proof.MergeValue
public import proofs.«01_k».proof.Proof.MoeValue
public import proofs.«01_k».proof.Proof.Precond
public import proofs.«01_k».proof.Proof.PrepRef
public import proofs.«01_k».proof.Proof.PrepValue
public import Idealize.ShloMosaic.Lib.Claim

@[expose] public section

set_option maxRecDepth 16384

noncomputable section

open Idealize.ShloMosaic Idealize.ShloMosaic.TcCoe Idealize.SL.Sem

namespace Cert.Algebraic

set_option maxHeartbeats 1600000 in
/-- The final normalisation kernel and its reference end with the same result. -/
theorem final : Cert.algebraic_FinalIdeal_FinalRefIdeal := by
  pair_intro
  · run_from Cert.FinalIdeal.Gen.run_main m g
  · run_from Cert.FinalRefIdeal.Value.run m' g'
    refine Eq.trans ?_ (Cert.FinalIdeal.Value.final m c).symm
    funext j
    idx_vars j
    refine (Cert.FinalSpec.ref_at m' c _ _ _).trans ?_
    rw [(hagree c).1, (hagree c).2.1, (hagree c).2.2.1, (hagree c).2.2.2.1, (hagree c).2.2.2.2]

set_option maxHeartbeats 1600000 in
/-- The input projection kernel and its reference end with the same result. -/
theorem inproj : Cert.algebraic_InprojIdeal_InprojRefIdeal := by
  pair_intro
  · run_from Cert.InprojIdeal.Gen.run_main m g
  · run_from Cert.InprojRefIdeal.Value.run m' g'
    refine Eq.trans ?_ (Cert.InprojIdeal.Value.final m c).symm
    funext j
    idx_vars j
    refine (Cert.InprojSpec.ref_at m' c _ _ _).trans ?_
    rw [(hagree c).1, (hagree c).2.1, (hagree c).2.2.1, (hagree c).2.2.2]

set_option maxHeartbeats 1600000 in
/-- The mixture kernel and its reference end with the same result, the weights being nonnegative and finite. -/
theorem moe : Cert.algebraic_MoeIdeal_MoeRefIdeal_pre_weights_nonneg := by
  pair_intro
  · run_from Cert.MoeIdeal.Gen.run_main m g
  · refine θ_run_mono (Cert.MoeRefIdeal.Value.run_ref m' g') fun r hr c => ⟨(hr c).1.trans ?_, (hr c).2⟩
    refine Eq.trans ?_ (Cert.MoeIdeal.Value.final m c (Cert.Precond.weights _ _ _ _ _ _ _ _ (hpre c))).symm
    funext j
    idx_vars j
    rw [Cert.MoeRefIdeal.Value.REF_at]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

set_option maxHeartbeats 1600000 in
/-- The attention kernel and its reference end with the same result, the arguments being finite. -/
theorem attn : Cert.algebraic_AttnIdeal_AttnRefIdeal_pre_entries_finite := by
  pair_intro
  · run_from Cert.AttnIdeal.Gen.run_main m g
  · refine θ_run_mono (Cert.AttnRefIdeal.Value.run_ref m' g') fun r hr c => ⟨(hr c).1.trans ?_, (hr c).2⟩
    obtain ⟨hQ, hK, hW, hL, hI⟩ := Cert.Precond.finite _ _ _ _ _ (hpre c)
    refine Eq.trans ?_ (Cert.AttnIdeal.Value.final m c hQ hK hW hL hI).symm
    funext j
    idx_vars j
    rw [Cert.AttnRefIdeal.Value.res_at]
    rw [(hagree c).1, (hagree c).2.1, (hagree c).2.2.1, (hagree c).2.2.2.1, (hagree c).2.2.2.2]

/-- The merge's two programs starting from the same arguments, their sixteen arguments are the same. -/
theorem merge_args {m : (ℓ : Loc Cert.MergeIdeal.nD Cert.MergeIdeal.τ Cert.MergeIdeal.sig) → Buf (Elt Ideal) ℓ}
    {m' : (ℓ : Loc Cert.MergeRefIdeal.nD Cert.MergeRefIdeal.τ Cert.MergeRefIdeal.sig) → Buf (Elt Ideal) ℓ}
    {c : Dev Cert.MergeIdeal.nD}
    (h : m' ((c.tc : Thread Cert.MergeRefIdeal.nD Cert.MergeRefIdeal.τ).loc Cert.MergeRefIdeal.main_arg0) =
        m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) =
        m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) =
        m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) =
        m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) =
        m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) =
        m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) =
        m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) =
        m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) =
        m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) =
        m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) =
        m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) =
        m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) =
        m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) =
        m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) =
        m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) =
        m ((c.tc : Thread Cert.MergeIdeal.nD Cert.MergeIdeal.τ).loc Cert.MergeIdeal.main_arg15)) :
    Cert.MergeRefIdeal.Value.args (StableHlo.launchContents m' c) = Cert.MergeIdeal.Value.args m c := by
  obtain ⟨h0, h1, h2, h3, h4, h5, h6, h7, h8, h9, h10, h11, h12, h13, h14, h15⟩ := h
  refine (show _ = Cert.MergeSpec.Args.mk _ _ _ _ _ _ _ _ _ _ _ _ _ _ _ _ from rfl).trans ?_
  unfold Cert.MergeIdeal.Value.args
  congr 1

set_option maxHeartbeats 1600000 in
/-- The merge kernel and its reference end with the same three results. -/
theorem merge : Cert.algebraic_MergeIdeal_MergeRefIdeal := by
  intro m g m' g' hpre hagree
  refine ⟨fun c => (Cert.MergeIdeal.Gen.dats m 0 c).arrAt 16 Cert.MergeIdeal.cfg0.N,
    fun c => (Cert.MergeIdeal.Gen.dats m 0 c).arrAt 17 Cert.MergeIdeal.cfg0.N,
    fun c => (Cert.MergeIdeal.Gen.dats m 0 c).arrAt 18 Cert.MergeIdeal.cfg0.N, ?_, ?_⟩
  · run_from Cert.MergeIdeal.Gen.run_main m g
    · exact hc.1 16
    · exact hc.1 17
    · exact hc.1 18
  · refine θ_run_mono (Cert.MergeRefIdeal.Value.run_ref m' g') fun r hr c =>
      ⟨(hr c).1.trans ?_, (hr c).2.1.trans ?_, (hr c).2.2.1.trans ?_, (hr c).2.2.2⟩
    · refine Eq.trans ?_ (Cert.MergeIdeal.Value.final1 m c).symm
      funext j
      idx_vars j
      exact (Cert.MergeRefIdeal.Value.out1_at _ _ _ _).trans
        (congrArg (fun a => Cert.MergeSpec.x1 a _ _ _) (merge_args (hagree c)))
    · refine Eq.trans ?_ (Cert.MergeIdeal.Value.final2 m c).symm
      funext j
      idx_vars j
      exact (Cert.MergeRefIdeal.Value.out2_at _ _ _ _).trans
        (congrArg (fun a => Cert.MergeSpec.h2 a _ _ _) (merge_args (hagree c)))
    · refine Eq.trans ?_ (Cert.MergeIdeal.Value.final3 m c).symm
      funext j
      idx_vars j
      exact (Cert.MergeRefIdeal.Value.out3_at _ _ _).trans
        (congrArg (fun a => Cert.MergeSpec.logitCol a _ _) (merge_args (hagree c)))

set_option maxHeartbeats 1600000 in
/-- The rotary preparation's kernel and its reference end with the same three results. -/
theorem prep : Cert.algebraic_PrepIdeal_PrepRefIdeal := by
  intro m g m' g' hpre hagree
  refine ⟨fun c => (Cert.PrepIdeal.Gen.dats m 0 c).arrAt 5 Cert.PrepIdeal.cfg0.N,
    fun c => (Cert.PrepIdeal.Gen.dats m 0 c).arrAt 6 Cert.PrepIdeal.cfg0.N,
    fun c => (Cert.PrepIdeal.Gen.dats m 0 c).arrAt 7 Cert.PrepIdeal.cfg0.N, ?_, ?_⟩
  · run_from Cert.PrepIdeal.Gen.run_main m g
  · refine θ_run_mono (Cert.PrepRefIdeal.Value.run m' g') fun r hr c =>
      ⟨(hr c).1.trans ?_, (hr c).2.1.trans ?_, (hr c).2.2.1.trans ?_, (hr c).2.2.2⟩
    · refine Eq.trans ?_ (Cert.PrepIdeal.Value.final5 m c).symm
      refine (Cert.PrepRefIdeal.Value.res_q m' c).trans ?_
      funext j
      idx_vars j
      exact (Cert.PrepIdeal.Value.ref_query _ _ _ _).trans
        (congrArg (fun P => Cert.PrepIdeal.Value.queryCol P _ _ _) (hagree c))
    · refine Eq.trans ?_ (Cert.PrepIdeal.Value.final6 m c).symm
      refine (Cert.PrepRefIdeal.Value.res_k m' c).trans ?_
      funext j
      idx_vars j
      exact (Cert.PrepIdeal.Value.ref_key _ _ _ _).trans
        (congrArg (fun P => Cert.PrepIdeal.Value.keyCol P _ _ _) (hagree c))
    · refine Eq.trans ?_ (Cert.PrepIdeal.Value.final7 m c).symm
      funext j
      idx_vars j
      exact (Cert.PrepIdeal.Value.ref_value _ _ _ _).trans
        (congrArg (fun P => Cert.PrepIdeal.Value.valueCol P _ _ _) (hagree c))

set_option maxHeartbeats 1600000 in
/-- The modulation kernel and its reference end with the same result. -/
theorem ada : Cert.algebraic_AdaIdeal_AdaRefIdeal := by
  pair_intro
  · run_from Cert.AdaIdeal.Gen.run_main m g
  · refine θ_run_mono (Cert.AdaRefIdeal.Value.run_ref m' g') fun r hr c => ⟨(hr c).1.trans ?_, (hr c).2⟩
    refine Eq.trans ?_ (Cert.AdaIdeal.Value.final m c).symm
    rw [(hagree c).1, (hagree c).2.1, (hagree c).2.2.1, (hagree c).2.2.2]

set_option maxHeartbeats 1600000 in
/-- The Fourier mixing kernel and its reference end with the same result. -/
theorem fourier : Cert.algebraic_FourierIdeal_FourierRefIdeal := by
  pair_intro
  · run_from Cert.FourierIdeal.Gen.run_main m g
  · refine θ_run_mono (Cert.FourierRefIdeal.Value.run_ref m' g') fun r hr c => ⟨(hr c).1.trans ?_, (hr c).2⟩
    refine Eq.trans ?_ (Cert.FourierIdeal.Value.final m c).symm
    rw [hagree c]

end Cert.Algebraic
-- ==== Proof.lean ====
/- The claims, put together: the frames are the generated ones, the value claims are those of Proof/Algebraic.lean. -/
module

public import proofs.«01_k».proof.Defs
public import Idealize.ShloMosaic.Lib.Quiescent
public import proofs.«01_k».proof.Proof.Algebraic
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Pre_entries_finite
public import proofs.«01_k».proof.Proof.Gen.Pre_weights_nonneg
public import proofs.«01_k».proof.Proof.Gen.AttnIdeal.Value
public import proofs.«01_k».proof.Proof.Gen.AttnRefIdeal.Run
public import proofs.«01_k».proof.Proof.Gen.PrepIdeal.Value
public import proofs.«01_k».proof.Proof.Gen.PrepRefIdeal.Run
public import proofs.«01_k».proof.Proof.Gen.InprojIdeal.Value
public import proofs.«01_k».proof.Proof.Gen.InprojRefIdeal.Run
public import proofs.«01_k».proof.Proof.Gen.MergeIdeal.Value
public import proofs.«01_k».proof.Proof.Gen.MergeRefIdeal.Run
public import proofs.«01_k».proof.Proof.Gen.MoeIdeal.Value
public import proofs.«01_k».proof.Proof.Gen.MoeRefIdeal.Run
public import proofs.«01_k».proof.Proof.Gen.FinalIdeal.Value
public import proofs.«01_k».proof.Proof.Gen.FinalRefIdeal.Run
public import proofs.«01_k».proof.Proof.Gen.AdaIdeal.Value
public import proofs.«01_k».proof.Proof.Gen.AdaRefIdeal.Run
public import proofs.«01_k».proof.Proof.Gen.FourierIdeal.Value
public import proofs.«01_k».proof.Proof.Gen.FourierRefIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.Fourier
public import proofs.«01_k».proof.Proof.Gen.Fourier.Skeleton
public import proofs.«01_k».proof.Proof.Gen.Fourier.Launch
public import proofs.«01_k».proof.Proof.Gen.Fourier.Points
public import proofs.«01_k».proof.Proof.Gen.Fourier.Frame
public import proofs.«01_k».proof.Proof.Gen.FourierIdeal
public import proofs.«01_k».proof.Proof.Gen.FourierIdeal.Skeleton
public import proofs.«01_k».proof.Proof.Gen.FourierIdeal.Launch
public import proofs.«01_k».proof.Proof.Gen.FourierIdeal.Points
public import proofs.«01_k».proof.Proof.Gen.FourierIdeal.Frame
public import proofs.«01_k».proof.Proof.Gen.FourierRefIdeal
public import proofs.«01_k».proof.Proof.Gen.HgrnF
public import proofs.«01_k».proof.Proof.Gen.HgrnF.Skeleton
public import proofs.«01_k».proof.Proof.Gen.HgrnF.Launch
public import proofs.«01_k».proof.Proof.Gen.HgrnF.Points
public import proofs.«01_k».proof.Proof.Gen.HgrnF.Frame
public import proofs.«01_k».proof.Proof.Gen.HgrnFIdeal
public import proofs.«01_k».proof.Proof.Gen.HgrnFIdeal.Skeleton
public import proofs.«01_k».proof.Proof.Gen.HgrnFIdeal.Launch
public import proofs.«01_k».proof.Proof.Gen.HgrnFIdeal.Points
public import proofs.«01_k».proof.Proof.Gen.HgrnFIdeal.Frame
public import proofs.«01_k».proof.Proof.Gen.HgrnB
public import proofs.«01_k».proof.Proof.Gen.HgrnB.Skeleton
public import proofs.«01_k».proof.Proof.Gen.HgrnB.Launch
public import proofs.«01_k».proof.Proof.Gen.HgrnB.Points
public import proofs.«01_k».proof.Proof.Gen.HgrnB.Frame
public import proofs.«01_k».proof.Proof.Gen.HgrnBIdeal
public import proofs.«01_k».proof.Proof.Gen.HgrnBIdeal.Skeleton
public import proofs.«01_k».proof.Proof.Gen.HgrnBIdeal.Launch
public import proofs.«01_k».proof.Proof.Gen.HgrnBIdeal.Points
public import proofs.«01_k».proof.Proof.Gen.HgrnBIdeal.Frame
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import Idealize.ShloMosaic.Adequacy
public import Idealize.ShloMosaic.Init

@[expose] public section

noncomputable section

namespace Cert.Proof

open Idealize.ShloMosaic Idealize.SL.Sem Cert.Attn

/-- Every claim of the certificate. -/
theorem claim : Cert.Claim := ⟨Cert.Attn.Gen.facts, Cert.AttnIdeal.Gen.facts, Cert.AttnRefIdeal.Gen.facts, Cert.Prep.Gen.facts, Cert.PrepIdeal.Gen.facts, Cert.PrepRefIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Moe.Gen.facts, Cert.MoeIdeal.Gen.facts, Cert.MoeRefIdeal.Gen.facts, Cert.Final.Gen.facts, Cert.FinalIdeal.Gen.facts, Cert.FinalRefIdeal.Gen.facts, Cert.Ada.Gen.facts, Cert.AdaIdeal.Gen.facts, Cert.AdaRefIdeal.Gen.facts, Cert.Fourier.Gen.facts, Cert.FourierIdeal.Gen.facts, Cert.FourierRefIdeal.Gen.facts, Cert.HgrnF.Gen.facts, Cert.HgrnFIdeal.Gen.facts, Cert.HgrnB.Gen.facts, Cert.HgrnBIdeal.Gen.facts, Cert.Router.Gen.facts, Cert.RouterIdeal.Gen.facts, Cert.Pre_entries_finite.Gen.facts, Cert.Pre_weights_nonneg.Gen.facts,
  ⟨fun m g _ => Cert.Attn.Gen.frame m g,
    fun m g _ => Cert.AttnIdeal.Gen.frame m g,
    fun m g _ => Cert.AttnIdeal.Gen.frame m g,
    fun m g _ => θ_run_mono (Cert.AttnRefIdeal.Value.run m g) fun r hr =>
      ⟨fun c => (hr c).2, sem_eq_zero_of_no_sems rfl _⟩,
    fun m g _ => θ_run_mono (Cert.AttnRefIdeal.Value.run m g) fun r hr =>
      ⟨fun c => (hr c).2, sem_eq_zero_of_no_sems rfl _⟩,
    fun m g _ => Cert.Prep.Gen.frame m g,
    fun m g _ => Cert.PrepIdeal.Gen.frame m g,
    fun m g _ => θ_run_mono (Cert.PrepRefIdeal.Value.run m g) fun r hr =>
      ⟨fun c => (hr c).2.2.2, sem_eq_zero_of_no_sems rfl _⟩,
    fun m g _ => Cert.Inproj.Gen.frame m g,
    fun m g _ => Cert.InprojIdeal.Gen.frame m g,
    fun m g _ => θ_run_mono (Cert.InprojRefIdeal.Value.run m g) fun r hr =>
      ⟨fun c => (hr c).2, sem_eq_zero_of_no_sems rfl _⟩,
    fun m g _ => Cert.Merge.Gen.frame m g,
    fun m g _ => Cert.MergeIdeal.Gen.frame m g,
    fun m g _ => θ_run_mono (Cert.MergeRefIdeal.Value.run m g) fun r hr =>
      ⟨fun c => (hr c).2.2.2, sem_eq_zero_of_no_sems rfl _⟩,
    fun m g _ => Cert.Moe.Gen.frame m g,
    fun m g _ => Cert.MoeIdeal.Gen.frame m g,
    fun m g _ => Cert.MoeIdeal.Gen.frame m g,
    fun m g _ => θ_run_mono (Cert.MoeRefIdeal.Value.run m g) fun r hr =>
      ⟨fun c => (hr c).2, sem_eq_zero_of_no_sems rfl _⟩,
    fun m g _ => θ_run_mono (Cert.MoeRefIdeal.Value.run m g) fun r hr =>
      ⟨fun c => (hr c).2, sem_eq_zero_of_no_sems rfl _⟩,
    fun m g _ => Cert.Final.Gen.frame m g,
    fun m g _ => Cert.FinalIdeal.Gen.frame m g,
    fun m g _ => θ_run_mono (Cert.FinalRefIdeal.Value.run m g) fun r hr =>
      ⟨fun c => (hr c).2, sem_eq_zero_of_no_sems rfl _⟩,
    fun m g _ => Cert.Ada.Gen.frame m g,
    fun m g _ => Cert.AdaIdeal.Gen.frame m g,
    fun m g _ => θ_run_mono (Cert.AdaRefIdeal.Value.run m g) fun r hr =>
      ⟨fun c => (hr c).2, sem_eq_zero_of_no_sems rfl _⟩,
    fun m g _ => Cert.Fourier.Gen.frame m g,
    fun m g _ => Cert.FourierIdeal.Gen.frame m g,
    fun m g _ => θ_run_mono (Cert.FourierRefIdeal.Value.run m g) fun r hr =>
      ⟨fun c => (hr c).2, sem_eq_zero_of_no_sems rfl _⟩,
    fun m g _ => Cert.HgrnF.Gen.frame m g,
    fun m g _ => Cert.HgrnFIdeal.Gen.frame m g,
    fun m g _ => Cert.HgrnB.Gen.frame m g,
    fun m g _ => Cert.HgrnBIdeal.Gen.frame m g,
    fun m g _ => Cert.Router.Gen.frame m g,
    fun m g _ => Cert.RouterIdeal.Gen.frame m g,
    trivial,
    Cert.Algebraic.attn,
    trivial,
    Cert.Algebraic.prep,
    trivial,
    Cert.Algebraic.inproj,
    trivial,
    Cert.Algebraic.merge,
    trivial,
    Cert.Algebraic.moe,
    trivial,
    Cert.Algebraic.final,
    trivial,
    Cert.Algebraic.ada,
    trivial,
    Cert.Algebraic.fourier,
    trivial,
    trivial,
    trivial⟩⟩

end Cert.Proof

end
